-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable [hPre_usable : Cert.Pre_usable.Facts] (m : (ℓ : Loc Cert.KernelIdeal.nD Cert.KernelIdeal.τ Cert.KernelIdeal.sig) → Buf (Elt Ideal) ℓ) : Prop :=
  ∀ c : Dev Cert.KernelIdeal.nD,
    (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable [hPre_usable : Cert.Pre_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_usable [hKernelIdeal : Cert.KernelIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_usable [hReferenceIdeal : Cert.ReferenceIdeal.Facts] [hPre_usable : Cert.Pre_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "b1" .f32 0x3F666666#32 ((9 / 10 : ℝ) : EReal)
  ∧ IdealRules.named_const.Statement Cert.KernelIdeal.κ "neg_lr_c1" .f32 0xB8D1B717#32 ((-1 / 10000 : ℝ) : EReal)
  ∧ IdealRules.named_const.Statement Cert.KernelIdeal.κ "root_c2" .f32 0x3D0186E2#32 ((Real.sqrt (1 / 1000) : ℝ) : EReal)
  ∧ IdealRules.named_const.Statement Cert.KernelIdeal.κ "eps" .f32 0x322BCC77#32 ((1 / 100000000 : ℝ) : EReal)
  ∧ IdealRules.named_const.Statement Cert.KernelIdeal.κ "v_decay" .f32 0x4479C000#32 ((2095054875 / 2097152 : ℝ) : EReal)
  ∧ IdealRules.named_const.Statement Cert.KernelIdeal.κ "below" .f32 0x00800000#32 ⊥
  ∧ IdealRules.named_const.Statement Cert.KernelIdeal.κ "c1_inv_max" .f32 0x396A0EA1#32 ((1 / 4480 : ℝ) : EReal)
  ∧ IdealRules.named_const.Statement Cert.KernelIdeal.κ "root_c2_inv_max" .f32 0x389407DE#32 (((Real.sqrt (1 / 1000)) * (1 / 448) : ℝ) : EReal)
  ∧ IdealRules.named_const.Statement Cert.KernelIdeal.κ "log2" .f32 0x3F317218#32 ((Real.log 2 : ℝ) : EReal)
  ∧ IdealRules.named_const.Statement Cert.KernelIdeal.κ "c1" .f32 0x3DCCCCCD#32 ((1 / 10 : ℝ) : EReal)

def algebraic_KernelIdeal_ReferenceIdeal_pre_usable [hKernelIdeal : Cert.KernelIdeal.Facts] [hReferenceIdeal : Cert.ReferenceIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_4) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_usable : Cert.Pre_usable.Facts),
    quiescent_Kernel (hKernel := hKernel)
    ∧ quiescent_KernelIdeal (hKernelIdeal := hKernelIdeal)
    ∧ quiescent_KernelIdeal_pre_usable (hKernelIdeal := hKernelIdeal) (hPre_usable := hPre_usable)
    ∧ quiescent_ReferenceIdeal (hReferenceIdeal := hReferenceIdeal)
    ∧ quiescent_ReferenceIdeal_pre_usable (hReferenceIdeal := hReferenceIdeal) (hPre_usable := hPre_usable)
    ∧ preserves_Kernel_KernelIdeal
    ∧ algebraic_KernelIdeal_ReferenceIdeal_pre_usable (hKernelIdeal := hKernelIdeal) (hReferenceIdeal := hReferenceIdeal) (hPre_usable := hPre_usable)
-- ==== Pre_usable.lean ====
abbrev S6x256x3584 : Shape := ⟨3, ![6, 256, 3584]⟩
abbrev S6x256 : Shape := ⟨2, ![6, 256]⟩
abbrev S6x256x18944 : Shape := ⟨3, ![6, 256, 18944]⟩
abbrev S3584x18944 : Shape := ⟨2, ![3584, 18944]⟩
abbrev S3584x148 : Shape := ⟨2, ![3584, 148]⟩
abbrev S_ : Shape := ⟨0, ![]⟩

class Facts : Prop where
  bcast_S_S3584x148 : S_.BroadcastsInDim S3584x148 (![] : Fin 0 → Fin S3584x148.rank)
  reducesTo_S3584x148_S_d0_1 : S3584x148.ReducesTo [0, 1] S_
  h_S_ : 0 < S_.numel

variable [Facts]

def fn {F : FTy → Type} [FloatOps F] (main_arg0 : FVec F S6x256x3584 .fp8e4m3) (main_arg1 : FVec F S6x256 .f32) (main_arg2 : FVec F S6x256x18944 .fp8e5m2) (main_arg3 : FVec F S6x256 .f32) (main_arg4 : FVec F S3584x18944 .bf16) (main_arg5 : FVec F S3584x18944 .fp8e4m3) (main_arg6 : FVec F S3584x148 .f32) (main_arg7 : FVec F S3584x18944 .fp8e4m3) (main_arg8 : FVec F S3584x148 .f32) (main_arg9 : IVec S_ 32) : IVec S_ 1 :=
  let main_cst : FVec F S_ .f32 := constant S_ .f32 0x00000000#32
  let main_v0 : FVec F S3584x148 .f32 := broadcastInDim S3584x148 ![] bcast_S_S3584x148 main_cst
  let main_v1 : IVec S3584x148 1 := cmpf .oge main_arg6 main_v0
  let main_c : IVec S_ 1 := constantI S_ 1 1#1
  let main_v2 : IVec S_ 1 := (fun x v => Host.reduce IntOp.andi x v reducesTo_S3584x148_S_d0_1 h_S_) main_v1 main_c
  let main_cst_0 : FVec F S_ .f32 := constant S_ .f32 0x00000000#32
  let main_v3 : FVec F S3584x148 .f32 := broadcastInDim S3584x148 ![] bcast_S_S3584x148 main_cst_0
  let main_v4 : IVec S3584x148 1 := cmpf .oge main_arg8 main_v3
  let main_c_1 : IVec S_ 1 := constantI S_ 1 1#1
  let main_v5 : IVec S_ 1 := (fun x v => Host.reduce IntOp.andi x v reducesTo_S3584x148_S_d0_1 h_S_) main_v4 main_c_1
  let main_v6 : IVec S_ 1 := andi main_v2 main_v5
  let main_c_2 : IVec S_ 32 := constantI S_ 32 1#32
  let main_v7 : IVec S_ 1 := cmpi .sge main_arg9 main_c_2
  let main_v8 : IVec S_ 1 := andi main_v6 main_v7
  main_v8
-- ==== Kernel.lean ====
abbrev S6x256x3584 : Shape := ⟨3, ![6, 256, 3584]⟩
abbrev S6x256 : Shape := ⟨2, ![6, 256]⟩
abbrev S6x256x18944 : Shape := ⟨3, ![6, 256, 18944]⟩
abbrev S3584x18944 : Shape := ⟨2, ![3584, 18944]⟩
abbrev S3584x148 : Shape := ⟨2, ![3584, 148]⟩
abbrev S_ : Shape := ⟨0, ![]⟩
abbrev S1536x3584 : Shape := ⟨2, ![1536, 3584]⟩
abbrev S1536x18944 : Shape := ⟨2, ![1536, 18944]⟩
abbrev S1 : Shape := ⟨1, ![1]⟩
abbrev S3584x256 : Shape := ⟨2, ![3584, 256]⟩
abbrev S1536x256 : Shape := ⟨2, ![1536, 256]⟩
abbrev S3584x1536 : Shape := ⟨2, ![3584, 1536]⟩
abbrev S2x1536x256 : Shape := ⟨3, ![2, 1536, 256]⟩
abbrev S256x256 : Shape := ⟨2, ![256, 256]⟩
abbrev S1x128 : Shape := ⟨2, ![1, 128]⟩
abbrev S128x128 : Shape := ⟨2, ![128, 128]⟩
abbrev S1x1536x256 : Shape := ⟨3, ![1, 1536, 256]⟩
abbrev S8x128 : Shape := ⟨2, ![8, 128]⟩
abbrev S32x128 : Shape := ⟨2, ![32, 128]⟩
abbrev S256x1536 : Shape := ⟨2, ![256, 1536]⟩
abbrev S32 : Shape := ⟨1, ![32]⟩
abbrev S32x1 : Shape := ⟨2, ![32, 1]⟩

abbrev nBuf : Space → Nat
  | .hbm => 19
  | .vmem => 29
  | .smem => 1
  | _ => 0

abbrev bufTy : (tb : Table) → Fin (tcTables nBuf tb) → BufTy
  | .hbm, ⟨0, _⟩ => ⟨S6x256x3584, .fp8e4m3⟩
  | .hbm, ⟨1, _⟩ => ⟨S6x256, .f32⟩
  | .hbm, ⟨2, _⟩ => ⟨S6x256x18944, .fp8e5m2⟩
  | .hbm, ⟨3, _⟩ => ⟨S6x256, .f32⟩
  | .hbm, ⟨4, _⟩ => ⟨S3584x18944, .bf16⟩
  | .hbm, ⟨5, _⟩ => ⟨S3584x18944, .fp8e4m3⟩
  | .hbm, ⟨6, _⟩ => ⟨S3584x148, .f32⟩
  | .hbm, ⟨7, _⟩ => ⟨S3584x18944, .fp8e4m3⟩
  | .hbm, ⟨8, _⟩ => ⟨S3584x148, .f32⟩
  | .hbm, ⟨9, _⟩ => ⟨S_, .i32⟩
  | .hbm, ⟨10, _⟩ => ⟨S1536x3584, .fp8e4m3⟩
  | .hbm, ⟨11, _⟩ => ⟨S1536x18944, .fp8e5m2⟩
  | .hbm, ⟨12, _⟩ => ⟨S1, .i32⟩
  | .hbm, ⟨13, _⟩ => ⟨S3584x18944, .bf16⟩
  | .hbm, ⟨14, _⟩ => ⟨S3584x18944, .f32⟩
  | .hbm, ⟨15, _⟩ => ⟨S3584x18944, .fp8e4m3⟩
  | .hbm, ⟨16, _⟩ => ⟨S3584x256, .f32⟩
  | .hbm, ⟨17, _⟩ => ⟨S3584x18944, .fp8e4m3⟩
  | .hbm, ⟨18, _⟩ => ⟨S3584x256, .f32⟩
  | .local _ .vmem, ⟨0, _⟩ => ⟨S1536x3584, .fp8e4m3⟩
  | .local _ .vmem, ⟨1, _⟩ => ⟨S6x256, .f32⟩
  | .local _ .vmem, ⟨2, _⟩ => ⟨S6x256, .f32⟩
  | .local _ .vmem, ⟨3, _⟩ => ⟨S1536x256, .fp8e5m2⟩
  | .local _ .vmem, ⟨4, _⟩ => ⟨S1536x256, .fp8e5m2⟩
  | .local _ .vmem, ⟨5, _⟩ => ⟨S3584x256, .bf16⟩
  | .local _ .vmem, ⟨6, _⟩ => ⟨S3584x256, .bf16⟩
  | .local _ .vmem, ⟨7, _⟩ => ⟨S3584x256, .fp8e4m3⟩
  | .local _ .vmem, ⟨8, _⟩ => ⟨S3584x256, .fp8e4m3⟩
  | .local _ .vmem, ⟨9, _⟩ => ⟨S3584x148, .f32⟩
  | .local _ .vmem, ⟨10, _⟩ => ⟨S3584x256, .fp8e4m3⟩
  | .local _ .vmem, ⟨11, _⟩ => ⟨S3584x256, .fp8e4m3⟩
  | .local _ .vmem, ⟨12, _⟩ => ⟨S3584x148, .f32⟩
  | .local _ .vmem, ⟨13, _⟩ => ⟨S3584x256, .bf16⟩
  | .local _ .vmem, ⟨14, _⟩ => ⟨S3584x256, .bf16⟩
  | .local _ .vmem, ⟨15, _⟩ => ⟨S3584x256, .f32⟩
  | .local _ .vmem, ⟨16, _⟩ => ⟨S3584x256, .f32⟩
  | .local _ .vmem, ⟨17, _⟩ => ⟨S3584x256, .fp8e4m3⟩
  | .local _ .vmem, ⟨18, _⟩ => ⟨S3584x256, .fp8e4m3⟩
  | .local _ .vmem, ⟨19, _⟩ => ⟨S3584x256, .f32⟩
  | .local _ .vmem, ⟨20, _⟩ => ⟨S3584x256, .fp8e4m3⟩
  | .local _ .vmem, ⟨21, _⟩ => ⟨S3584x256, .fp8e4m3⟩
  | .local _ .vmem, ⟨22, _⟩ => ⟨S3584x256, .f32⟩
  | .local _ .vmem, ⟨23, _⟩ => ⟨S3584x1536, .bf16⟩
  | .local _ .vmem, ⟨24, _⟩ => ⟨S2x1536x256, .fp8e5m2⟩
  | .local _ .vmem, ⟨25, _⟩ => ⟨S256x256, .f32⟩
  | .local _ .vmem, ⟨26, _⟩ => ⟨S256x256, .f32⟩
  | .local _ .vmem, ⟨27, _⟩ => ⟨S3584x256, .bf16⟩
  | .local _ .vmem, ⟨28, _⟩ => ⟨S3584x256, .bf16⟩
  | .local _ .smem, ⟨0, _⟩ => ⟨S1, .i32⟩
  | _, _ => ⟨S6x256x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23

abbrev nD : Nat := 1
abbrev τ : Topo := Topo.v7x

variable {F : FTy → Type} [FloatOps F]

abbrev grid0 : Pipeline.Grid := ⟨1, ![74], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_32 : BitVec 32 := 0#32
  let c28_i32 : BitVec 32 := 28#32
  let v142 : BitVec 32 := Scalar.addi c0_i32_32 c28_i32
  let c1_i32_33 : BitVec 32 := 1#32
  ⟨c0_i32_32, v142, c1_i32_33⟩
def k0_mult1 (k0_t1 : Fin k0_t1_loop.trips) : BitVec 32 :=
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  v159
def k0_off1 (k0_t1 : Fin k0_t1_loop.trips) : Fin 2 → Nat :=
  let c0_48 : Index := 0#32
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v161 : Index := Scalar.indexCast v160
  ![0, v161.toNat]
def k0_off2 (k0_t1 : Fin k0_t1_loop.trips) : Fin 2 → Nat :=
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v167 : Index := Scalar.indexCast v160
  let c0_49 : Index := 0#32
  ![v167.toNat, 0]
def k0_off3 (k0_t1 : Fin k0_t1_loop.trips) : Fin 2 → Nat :=
  let c128 : Index := 128#32
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v171 : Index := Scalar.indexCast v160
  ![128, v171.toNat]
def k0_off4 (k0_t1 : Fin k0_t1_loop.trips) : Fin 2 → Nat :=
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v177 : Index := Scalar.indexCast v160
  let c128_50 : Index := 128#32
  ![v177.toNat, 128]
def k0_off5 (k0_t1 : Fin k0_t1_loop.trips) : Fin 2 → Nat :=
  let c256 : Index := 256#32
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v181 : Index := Scalar.indexCast v160
  ![256, v181.toNat]
def k0_off6 (k0_t1 : Fin k0_t1_loop.trips) : Fin 2 → Nat :=
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v187 : Index := Scalar.indexCast v160
  let c256_51 : Index := 256#32
  ![v187.toNat, 256]
def k0_off7 (k0_t1 : Fin k0_t1_loop.trips) : Fin 2 → Nat :=
  let c384 : Index := 384#32
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v191 : Index := Scalar.indexCast v160
  ![384, v191.toNat]
def k0_off8 (k0_t1 : Fin k0_t1_loop.trips) : Fin 2 → Nat :=
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v197 : Index := Scalar.indexCast v160
  let c384_52 : Index := 384#32
  ![v197.toNat, 384]
def k0_off9 (k0_t1 : Fin k0_t1_loop.trips) : Fin 2 → Nat :=
  let c512 : Index := 512#32
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v201 : Index := Scalar.indexCast v160
  ![512, v201.toNat]
def k0_off10 (k0_t1 : Fin k0_t1_loop.trips) : Fin 2 → Nat :=
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v207 : Index := Scalar.indexCast v160
  let c512_53 : Index := 512#32
  ![v207.toNat, 512]
def k0_off11 (k0_t1 : Fin k0_t1_loop.trips) : Fin 2 → Nat :=
  let c640 : Index := 640#32
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v211 : Index := Scalar.indexCast v160
  ![640, v211.toNat]
def k0_off12 (k0_t1 : Fin k0_t1_loop.trips) : Fin 2 → Nat :=
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v217 : Index := Scalar.indexCast v160
  let c640_54 : Index := 640#32
  ![v217.toNat, 640]
def k0_off13 (k0_t1 : Fin k0_t1_loop.trips) : Fin 2 → Nat :=
  let c768 : Index := 768#32
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v221 : Index := Scalar.indexCast v160
  ![768, v221.toNat]
def k0_off14 (k0_t1 : Fin k0_t1_loop.trips) : Fin 2 → Nat :=
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v227 : Index := Scalar.indexCast v160
  let c768_55 : Index := 768#32
  ![v227.toNat, 768]
def k0_off15 (k0_t1 : Fin k0_t1_loop.trips) : Fin 2 → Nat :=
  let c896 : Index := 896#32
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v231 : Index := Scalar.indexCast v160
  ![896, v231.toNat]
def k0_off16 (k0_t1 : Fin k0_t1_loop.trips) : Fin 2 → Nat :=
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v237 : Index := Scalar.indexCast v160
  let c896_56 : Index := 896#32
  ![v237.toNat, 896]
def k0_off17 (k0_t1 : Fin k0_t1_loop.trips) : Fin 2 → Nat :=
  let c1024 : Index := 1024#32
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v241 : Index := Scalar.indexCast v160
  ![1024, v241.toNat]
def k0_off18 (k0_t1 : Fin k0_t1_loop.trips) : Fin 2 → Nat :=
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v247 : Index := Scalar.indexCast v160
  let c1024_57 : Index := 1024#32
  ![v247.toNat, 1024]
def k0_off19 (k0_t1 : Fin k0_t1_loop.trips) : Fin 2 → Nat :=
  let c1152 : Index := 1152#32
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v251 : Index := Scalar.indexCast v160
  ![1152, v251.toNat]
def k0_off20 (k0_t1 : Fin k0_t1_loop.trips) : Fin 2 → Nat :=
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v257 : Index := Scalar.indexCast v160
  let c1152_58 : Index := 1152#32
  ![v257.toNat, 1152]
def k0_off21 (k0_t1 : Fin k0_t1_loop.trips) : Fin 2 → Nat :=
  let c1280 : Index := 1280#32
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v261 : Index := Scalar.indexCast v160
  ![1280, v261.toNat]
def k0_off22 (k0_t1 : Fin k0_t1_loop.trips) : Fin 2 → Nat :=
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v267 : Index := Scalar.indexCast v160
  let c1280_59 : Index := 1280#32
  ![v267.toNat, 1280]
def k0_off23 (k0_t1 : Fin k0_t1_loop.trips) : Fin 2 → Nat :=
  let c1408 : Index := 1408#32
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v271 : Index := Scalar.indexCast v160
  ![1408, v271.toNat]
def k0_off24 (k0_t1 : Fin k0_t1_loop.trips) : Fin 2 → Nat :=
  let c0_i32_32 : BitVec 32 := 0#32
  let c1_i32_33 : BitVec 32 := 1#32
  let arg23 : BitVec 32 := Scf.iv c0_i32_32 c1_i32_33 k0_t1
  let c128_i32_47 : BitVec 32 := 128#32
  let v159 : BitVec 32 := Scalar.muli arg23 c128_i32_47
  let v160 : BitVec 32 := v159
  let v277 : Index := Scalar.indexCast v160
  let c1408_60 : Index := 1408#32
  ![v277.toNat, 1408]
def k0_cond3 (i : grid0.Coords) : BitVec 1 :=
  let arg0 : BitVec 32 := BitVec.ofNat 32 (i 0).val
  let c0_i32_3 : BitVec 32 := 0#32
  let v7 : BitVec 1 := Scalar.cmpi .sgt arg0 c0_i32_3
  let v8 : BitVec 32 := Scalar.extui v7
  let c0_i32_4 : BitVec 32 := 0#32
  let v9 : BitVec 1 := Scalar.cmpi .ne v8 c0_i32_4
  v9

def k0_off25 (i : grid0.Coords) : Fin 3 → Nat :=
  let arg0 : BitVec 32 := BitVec.ofNat 32 (i 0).val
  let c2_i32_30 : BitVec 32 := 2#32
  let v78 : BitVec 32 := Scalar.remsi arg0 c2_i32_30
  let v79 : Index := Scalar.indexCast v78
  let c0_31 : Index := 0#32
  let c0_32 : Index := 0#32
  ![v79.toNat, 0, 0]
def k0_mult2 (i : grid0.Coords) : BitVec 32 :=
  let arg0 : BitVec 32 := BitVec.ofNat 32 (i 0).val
  let c2_i32_11 : BitVec 32 := 2#32
  let v40 : BitVec 32 := Scalar.muli arg0 c2_i32_11
  let c0_i32_12 : BitVec 32 := 0#32
  let v42 : BitVec 1 := Scalar.cmpi .sgt v40 c0_i32_12
  let v43 : BitVec 32 := Scalar.extui v42
  let c0_i32_13 : BitVec 32 := 0#32
  let v44 : BitVec 1 := Scalar.cmpi .slt v40 c0_i32_13
  let v45 : BitVec 32 := Scalar.extui v44
  let v46 : BitVec 32 := Scalar.subi v43 v45
  let c128_i32 : BitVec 32 := 128#32
  let c0_i32_14 : BitVec 32 := 0#32
  let v47 : BitVec 1 := Scalar.cmpi .sgt c128_i32 c0_i32_14
  let v48 : BitVec 32 := Scalar.extui v47
  let c0_i32_15 : BitVec 32 := 0#32
  let v49 : BitVec 1 := Scalar.cmpi .slt c128_i32 c0_i32_15
  let v50 : BitVec 32 := Scalar.extui v49
  let v51 : BitVec 32 := Scalar.subi v48 v50
  let v52 : BitVec 1 := Scalar.cmpi .ne v46 v51
  let v53 : BitVec 32 := Scalar.remsi v40 c128_i32
  let c0_i32_16 : BitVec 32 := 0#32
  let v54 : BitVec 1 := Scalar.cmpi .ne v53 c0_i32_16
  let v55 : BitVec 1 := Scalar.andi v52 v54
  let v41 : BitVec 32 := Scalar.divsi v40 c128_i32
  let c1_i32 : BitVec 32 := 1#32
  let v56 : BitVec 32 := Scalar.subi v41 c1_i32
  let v57 : BitVec 32 := Scalar.select v55 v56 v41
  let c128_i32_17 : BitVec 32 := 128#32
  let v58 : BitVec 32 := Scalar.muli v57 c128_i32_17
  v58
@[reducible] def k0_t2_loop : Scf.Loop 32 :=
  let c0_i32_24 : BitVec 32 := 0#32
  let c14_i32 : BitVec 32 := 14#32
  let v72 : BitVec 32 := Scalar.addi c0_i32_24 c14_i32
  let c1_i32_25 : BitVec 32 := 1#32
  ⟨c0_i32_24, v72, c1_i32_25⟩
def k0_mult3 (k0_t2 : Fin k0_t2_loop.trips) : BitVec 32 :=
  let c0_i32_24 : BitVec 32 := 0#32
  let c1_i32_25 : BitVec 32 := 1#32
  let arg23 : BitVec 32 := Scf.iv c0_i32_24 c1_i32_25 k0_t2
  let c256_i32 : BitVec 32 := 256#32
  let v76 : BitVec 32 := Scalar.muli arg23 c256_i32
  v76
def k0_off26 (k0_t2 : Fin k0_t2_loop.trips) : Fin 2 → Nat :=
  let c0_i32_24 : BitVec 32 := 0#32
  let c1_i32_25 : BitVec 32 := 1#32
  let arg23 : BitVec 32 := Scf.iv c0_i32_24 c1_i32_25 k0_t2
  let c256_i32 : BitVec 32 := 256#32
  let v76 : BitVec 32 := Scalar.muli arg23 c256_i32
  let v77 : BitVec 32 := v76
  let v78 : Index := Scalar.indexCast v77
  let c0_28 : Index := 0#32
  ![v78.toNat, 0]
def k0_off27 (i : grid0.Coords) : Fin 3 → Nat :=
  let arg0 : BitVec 32 := BitVec.ofNat 32 (i 0).val
  let c2_i32 : BitVec 32 := 2#32
  let v0 : BitVec 32 := Scalar.remsi arg0 c2_i32
  let v80 : Index := Scalar.indexCast v0
  let c0_29 : Index := 0#32
  let c0_30 : Index := 0#32
  ![v80.toNat, 0, 0]
def k0_mult4 (k0_t2 : Fin k0_t2_loop.trips) : BitVec 32 :=
  let c0_i32_24 : BitVec 32 := 0#32
  let c1_i32_25 : BitVec 32 := 1#32
  let arg23 : BitVec 32 := Scf.iv c0_i32_24 c1_i32_25 k0_t2
  let c256_i32_34 : BitVec 32 := 256#32
  let v87 : BitVec 32 := Scalar.muli arg23 c256_i32_34
  let c0_i32_35 : BitVec 32 := 0#32
  let v88 : BitVec 32 := Scalar.addi v87 c0_i32_35
  v88
def k0_off28 (k0_t2 : Fin k0_t2_loop.trips) (c0_i32_35 : BitVec 32) : Fin 2 → Nat :=
  let c0_i32_24 : BitVec 32 := 0#32
  let c1_i32_25 : BitVec 32 := 1#32
  let arg23 : BitVec 32 := Scf.iv c0_i32_24 c1_i32_25 k0_t2
  let c256_i32_34 : BitVec 32 := 256#32
  let v87 : BitVec 32 := Scalar.muli arg23 c256_i32_34
  let v88 : BitVec 32 := Scalar.addi v87 c0_i32_35
  let v89 : BitVec 32 := v88
  let v91 : Index := Scalar.indexCast v89
  let c0_38 : Index := 0#32
  ![v91.toNat, 0]
def k0_off29 (i : grid0.Coords) (k0_t2 : Fin k0_t2_loop.trips) (c0_i32_35 : BitVec 32) : Fin 2 → Nat :=
  let c0_i32_24 : BitVec 32 := 0#32
  let c1_i32_25 : BitVec 32 := 1#32
  let arg23 : BitVec 32 := Scf.iv c0_i32_24 c1_i32_25 k0_t2
  let c256_i32_34 : BitVec 32 := 256#32
  let v87 : BitVec 32 := Scalar.muli arg23 c256_i32_34
  let v88 : BitVec 32 := Scalar.addi v87 c0_i32_35
  let v89 : BitVec 32 := v88
  let v94 : Index := Scalar.indexCast v89
  let arg0 : BitVec 32 := BitVec.ofNat 32 (i 0).val
  let c2_i32_11 : BitVec 32 := 2#32
  let v40 : BitVec 32 := Scalar.muli arg0 c2_i32_11
  let c0_i32_12 : BitVec 32 := 0#32
  let v42 : BitVec 1 := Scalar.cmpi .sgt v40 c0_i32_12
  let v43 : BitVec 32 := Scalar.extui v42
  let c0_i32_13 : BitVec 32 := 0#32
  let v44 : BitVec 1 := Scalar.cmpi .slt v40 c0_i32_13
  let v45 : BitVec 32 := Scalar.extui v44
  let v46 : BitVec 32 := Scalar.subi v43 v45
  let c128_i32 : BitVec 32 := 128#32
  let c0_i32_14 : BitVec 32 := 0#32
  let v47 : BitVec 1 := Scalar.cmpi .sgt c128_i32 c0_i32_14
  let v48 : BitVec 32 := Scalar.extui v47
  let c0_i32_15 : BitVec 32 := 0#32
  let v49 : BitVec 1 := Scalar.cmpi .slt c128_i32 c0_i32_15
  let v50 : BitVec 32 := Scalar.extui v49
  let v51 : BitVec 32 := Scalar.subi v48 v50
  let v52 : BitVec 1 := Scalar.cmpi .ne v46 v51
  let v53 : BitVec 32 := Scalar.remsi v40 c128_i32
  let c0_i32_16 : BitVec 32 := 0#32
  let v54 : BitVec 1 := Scalar.cmpi .ne v53 c0_i32_16
  let v55 : BitVec 1 := Scalar.andi v52 v54
  let v41 : BitVec 32 := Scalar.divsi v40 c128_i32
  let c1_i32 : BitVec 32 := 1#32
  let v56 : BitVec 32 := Scalar.subi v41 c1_i32
  let v57 : BitVec 32 := Scalar.select v55 v56 v41
  let c128_i32_17 : BitVec 32 := 128#32
  let v58 : BitVec 32 := Scalar.muli v57 c128_i32_17
  let v59 : BitVec 32 := v58
  let v95 : Index := Scalar.indexCast v59
  ![v94.toNat, v95.toNat]
def k0_off30 (k0_t2 : Fin k0_t2_loop.trips) (c0_i32_35 : BitVec 32) : Fin 2 → Nat :=
  let c0_i32_24 : BitVec 32 := 0#32
  let c1_i32_25 : BitVec 32 := 1#32
  let arg23 : BitVec 32 := Scf.iv c0_i32_24 c1_i32_25 k0_t2
  let c256_i32_34 : BitVec 32 := 256#32
  let v87 : BitVec 32 := Scalar.muli arg23 c256_i32_34
  let v88 : BitVec 32 := Scalar.addi v87 c0_i32_35
  let v89 : BitVec 32 := v88
  let v205 : Index := Scalar.indexCast v89
  let c128_66 : Index := 128#32
  ![v205.toNat, 128]
def k0_mult5 (k0_t2 : Fin k0_t2_loop.trips) : BitVec 32 :=
  let c0_i32_24 : BitVec 32 := 0#32
  let c1_i32_25 : BitVec 32 := 1#32
  let arg23 : BitVec 32 := Scf.iv c0_i32_24 c1_i32_25 k0_t2
  let c256_i32_93 : BitVec 32 := 256#32
  let v318 : BitVec 32 := Scalar.muli arg23 c256_i32_93
  let c32_i32 : BitVec 32 := 32#32
  let v319 : BitVec 32 := Scalar.addi v318 c32_i32
  v319
def k0_mult6 (k0_t2 : Fin k0_t2_loop.trips) : BitVec 32 :=
  let c0_i32_24 : BitVec 32 := 0#32
  let c1_i32_25 : BitVec 32 := 1#32
  let arg23 : BitVec 32 := Scf.iv c0_i32_24 c1_i32_25 k0_t2
  let c256_i32_151 : BitVec 32 := 256#32
  let v549 : BitVec 32 := Scalar.muli arg23 c256_i32_151
  let c64_i32 : BitVec 32 := 64#32
  let v550 : BitVec 32 := Scalar.addi v549 c64_i32
  v550
def k0_mult7 (k0_t2 : Fin k0_t2_loop.trips) : BitVec 32 :=
  let c0_i32_24 : BitVec 32 := 0#32
  let c1_i32_25 : BitVec 32 := 1#32
  let arg23 : BitVec 32 := Scf.iv c0_i32_24 c1_i32_25 k0_t2
  let c256_i32_209 : BitVec 32 := 256#32
  let v780 : BitVec 32 := Scalar.muli arg23 c256_i32_209
  let c96_i32 : BitVec 32 := 96#32
  let v781 : BitVec 32 := Scalar.addi v780 c96_i32
  v781
def k0_mult8 (k0_t2 : Fin k0_t2_loop.trips) : BitVec 32 :=
  let c0_i32_24 : BitVec 32 := 0#32
  let c1_i32_25 : BitVec 32 := 1#32
  let arg23 : BitVec 32 := Scf.iv c0_i32_24 c1_i32_25 k0_t2
  let c256_i32_267 : BitVec 32 := 256#32
  let v1011 : BitVec 32 := Scalar.muli arg23 c256_i32_267
  let c128_i32_268 : BitVec 32 := 128#32
  let v1012 : BitVec 32 := Scalar.addi v1011 c128_i32_268
  v1012
def k0_mult9 (k0_t2 : Fin k0_t2_loop.trips) : BitVec 32 :=
  let c0_i32_24 : BitVec 32 := 0#32
  let c1_i32_25 : BitVec 32 := 1#32
  let arg23 : BitVec 32 := Scf.iv c0_i32_24 c1_i32_25 k0_t2
  let c256_i32_327 : BitVec 32 := 256#32
  let v1242 : BitVec 32 := Scalar.muli arg23 c256_i32_327
  let c160_i32 : BitVec 32 := 160#32
  let v1243 : BitVec 32 := Scalar.addi v1242 c160_i32
  v1243
def k0_mult10 (k0_t2 : Fin k0_t2_loop.trips) : BitVec 32 :=
  let c0_i32_24 : BitVec 32 := 0#32
  let c1_i32_25 : BitVec 32 := 1#32
  let arg23 : BitVec 32 := Scf.iv c0_i32_24 c1_i32_25 k0_t2
  let c256_i32_385 : BitVec 32 := 256#32
  let v1473 : BitVec 32 := Scalar.muli arg23 c256_i32_385
  let c192_i32 : BitVec 32 := 192#32
  let v1474 : BitVec 32 := Scalar.addi v1473 c192_i32
  v1474
def k0_mult11 (k0_t2 : Fin k0_t2_loop.trips) : BitVec 32 :=
  let c0_i32_24 : BitVec 32 := 0#32
  let c1_i32_25 : BitVec 32 := 1#32
  let arg23 : BitVec 32 := Scf.iv c0_i32_24 c1_i32_25 k0_t2
  let c256_i32_443 : BitVec 32 := 256#32
  let v1704 : BitVec 32 := Scalar.muli arg23 c256_i32_443
  let c224_i32 : BitVec 32 := 224#32
  let v1705 : BitVec 32 := Scalar.addi v1704 c224_i32
  v1705
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1536x256 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3584x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3584x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3584x148 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3584x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3584x148 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3584x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3584x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3584x256 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S3584x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S3584x256 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S3584x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F] [Named F]
def κ : String → Option EReal := fun
  | "b1" => some ((9 / 10 : ℝ) : EReal)
  | "below" => some ⊥
  | "c1" => some ((1 / 10 : ℝ) : EReal)
  | "c1_inv_max" => some ((1 / 4480 : ℝ) : EReal)
  | "c2" => some ((1 / 1000 : ℝ) : EReal)
  | "eps" => some ((1 / 100000000 : ℝ) : EReal)
  | "inv_max" => some ((1 / 448 : ℝ) : EReal)
  | "log2" => some ((Real.log 2 : ℝ) : EReal)
  | "neg_lr" => some ((-1 / 1000 : ℝ) : EReal)
  | "neg_lr_c1" => some ((-1 / 10000 : ℝ) : EReal)
  | "root_c2" => some ((Real.sqrt (1 / 1000) : ℝ) : EReal)
  | "root_c2_inv_max" => some (((Real.sqrt (1 / 1000)) * (1 / 448) : ℝ) : EReal)
  | "v_decay" => some ((2095054875 / 2097152 : ℝ) : EReal)
  | _ => none
-- ==== ReferenceIdeal.lean ====
abbrev S6x256x3584 : Shape := ⟨3, ![6, 256, 3584]⟩
abbrev S6x256 : Shape := ⟨2, ![6, 256]⟩
abbrev S6x256x18944 : Shape := ⟨3, ![6, 256, 18944]⟩
abbrev S3584x18944 : Shape := ⟨2, ![3584, 18944]⟩
abbrev S3584x148 : Shape := ⟨2, ![3584, 148]⟩
abbrev S_ : Shape := ⟨0, ![]⟩
abbrev S1 : Shape := ⟨1, ![1]⟩
abbrev S1536x3584 : Shape := ⟨2, ![1536, 3584]⟩
abbrev S1536x1 : Shape := ⟨2, ![1536, 1]⟩
abbrev S1536x18944 : Shape := ⟨2, ![1536, 18944]⟩
abbrev S3584x148x128 : Shape := ⟨3, ![3584, 148, 128]⟩
abbrev S3584x148x1 : Shape := ⟨3, ![3584, 148, 1]⟩
abbrev S1x1 : Shape := ⟨2, ![1, 1]⟩

abbrev nBuf : Space → Nat
  | .hbm => 21
  | .vmem => 15
  | .smem => 1
  | _ => 0

abbrev bufTy : (tb : Table) → Fin (tcTables nBuf tb) → BufTy
  | .hbm, ⟨0, _⟩ => ⟨S6x256x3584, .fp8e4m3⟩
  | .hbm, ⟨1, _⟩ => ⟨S6x256, .f32⟩
  | .hbm, ⟨2, _⟩ => ⟨S6x256x18944, .fp8e5m2⟩
  | .hbm, ⟨3, _⟩ => ⟨S6x256, .f32⟩
  | .hbm, ⟨4, _⟩ => ⟨S3584x18944, .bf16⟩
  | .hbm, ⟨5, _⟩ => ⟨S3584x18944, .fp8e4m3⟩
  | .hbm, ⟨6, _⟩ => ⟨S3584x148, .f32⟩
  | .hbm, ⟨7, _⟩ => ⟨S3584x18944, .fp8e4m3⟩
  | .hbm, ⟨8, _⟩ => ⟨S3584x148, .f32⟩
  | .hbm, ⟨9, _⟩ => ⟨S_, .i32⟩
  | .hbm, ⟨10, _⟩ => ⟨S1, .i32⟩
  | .hbm, ⟨11, _⟩ => ⟨S1536x3584, .fp8e4m3⟩
  | .hbm, ⟨12, _⟩ => ⟨S1536x1, .f32⟩
  | .hbm, ⟨13, _⟩ => ⟨S1536x18944, .fp8e5m2⟩
  | .hbm, ⟨14, _⟩ => ⟨S1536x1, .f32⟩
  | .hbm, ⟨15, _⟩ => ⟨S3584x18944, .bf16⟩
  | .hbm, ⟨16, _⟩ => ⟨S3584x18944, .f32⟩
  | .hbm, ⟨17, _⟩ => ⟨S3584x18944, .fp8e4m3⟩
  | .hbm, ⟨18, _⟩ => ⟨S3584x148, .f32⟩
  | .hbm, ⟨19, _⟩ => ⟨S3584x18944, .fp8e4m3⟩
  | .hbm, ⟨20, _⟩ => ⟨S3584x148, .f32⟩
  | .local _ .vmem, ⟨0, _⟩ => ⟨S1536x3584, .fp8e4m3⟩
  | .local _ .vmem, ⟨1, _⟩ => ⟨S1536x1, .f32⟩
  | .local _ .vmem, ⟨2, _⟩ => ⟨S1536x18944, .fp8e5m2⟩
  | .local _ .vmem, ⟨3, _⟩ => ⟨S1536x1, .f32⟩
  | .local _ .vmem, ⟨4, _⟩ => ⟨S3584x18944, .bf16⟩
  | .local _ .vmem, ⟨5, _⟩ => ⟨S3584x18944, .fp8e4m3⟩
  | .local _ .vmem, ⟨6, _⟩ => ⟨S3584x148, .f32⟩
  | .local _ .vmem, ⟨7, _⟩ => ⟨S3584x18944, .fp8e4m3⟩
  | .local _ .vmem, ⟨8, _⟩ => ⟨S3584x148, .f32⟩
  | .local _ .vmem, ⟨9, _⟩ => ⟨S3584x18944, .bf16⟩
  | .local _ .vmem, ⟨10, _⟩ => ⟨S3584x18944, .f32⟩
  | .local _ .vmem, ⟨11, _⟩ => ⟨S3584x18944, .fp8e4m3⟩
  | .local _ .vmem, ⟨12, _⟩ => ⟨S3584x148, .f32⟩
  | .local _ .vmem, ⟨13, _⟩ => ⟨S3584x18944, .fp8e4m3⟩
  | .local _ .vmem, ⟨14, _⟩ => ⟨S3584x148, .f32⟩
  | .local _ .smem, ⟨0, _⟩ => ⟨S1, .i32⟩
  | _, _ => ⟨S6x256x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F] [Named F]

def κ : String → Option EReal := fun
  | "b1" => some ((9 / 10 : ℝ) : EReal)
  | "below" => some ⊥
  | "c1" => some ((1 / 10 : ℝ) : EReal)
  | "c1_inv_max" => some ((1 / 4480 : ℝ) : EReal)
  | "c2" => some ((1 / 1000 : ℝ) : EReal)
  | "eps" => some ((1 / 100000000 : ℝ) : EReal)
  | "inv_max" => some ((1 / 448 : ℝ) : EReal)
  | "log2" => some ((Real.log 2 : ℝ) : EReal)
  | "neg_lr" => some ((-1 / 1000 : ℝ) : EReal)
  | "neg_lr_c1" => some ((-1 / 10000 : ℝ) : EReal)
  | "root_c2" => some ((Real.sqrt (1 / 1000) : ℝ) : EReal)
  | "root_c2_inv_max" => some (((Real.sqrt (1 / 1000)) * (1 / 448) : ℝ) : EReal)
  | "v_decay" => some ((2095054875 / 2097152 : ℝ) : EReal)
  | _ => none

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x18944 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584x18944 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3584x18944 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3584x148 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3584x18944 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3584x148 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3584x18944 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3584x18944 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3584x18944 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3584x148 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3584x18944 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3584x148 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.Kernel.Offsets.lean ====
/-
  Where the kernel's trips read and write, in closed form: the lane tile a grid point works in starts at column
  `128 * (point / 64)`.
-/
module

public import proofs.«01_k».proof.Proof.Gen.Kernel
public import proofs.«01_k».proof.Proof.Gen.Kernel.Launch
public import proofs.«01_k».proof.Proof.Gen.Kernel.Points
public import proofs.«01_k».proof.Proof.Gen.Kernel.Skeleton

@[expose] public section

noncomputable section

namespace Cert.Proof.Kernel

open Cert.Kernel Cert.Kernel.Gen
open Idealize.ShloMosaic Idealize.ShloMosaic.TcCoe Idealize.ShloMosaic.Tactic
open Idealize.SL Idealize.SL.Sem

/-- The column at which the lane tile of a grid point starts, as the kernel computes it. -/
def tileCol (i : grid0.Coords) : Nat :=
  let arg0 : BitVec 32 := BitVec.ofNat 32 (i 0).val
  let c2_i32_11 : BitVec 32 := 2#32
  let v40 : BitVec 32 := Scalar.muli arg0 c2_i32_11
  let c0_i32_12 : BitVec 32 := 0#32
  let v42 : BitVec 1 := Scalar.cmpi .sgt v40 c0_i32_12
  let v43 : BitVec 32 := Scalar.extui v42
  let c0_i32_13 : BitVec 32 := 0#32
  let v44 : BitVec 1 := Scalar.cmpi .slt v40 c0_i32_13
  let v45 : BitVec 32 := Scalar.extui v44
  let v46 : BitVec 32 := Scalar.subi v43 v45
  let c128_i32 : BitVec 32 := 128#32
  let c0_i32_14 : BitVec 32 := 0#32
  let v47 : BitVec 1 := Scalar.cmpi .sgt c128_i32 c0_i32_14
  let v48 : BitVec 32 := Scalar.extui v47
  let c0_i32_15 : BitVec 32 := 0#32
  let v49 : BitVec 1 := Scalar.cmpi .slt c128_i32 c0_i32_15
  let v50 : BitVec 32 := Scalar.extui v49
  let v51 : BitVec 32 := Scalar.subi v48 v50
  let v52 : BitVec 1 := Scalar.cmpi .ne v46 v51
  let v53 : BitVec 32 := Scalar.remsi v40 c128_i32
  let c0_i32_16 : BitVec 32 := 0#32
  let v54 : BitVec 1 := Scalar.cmpi .ne v53 c0_i32_16
  let v55 : BitVec 1 := Scalar.andi v52 v54
  let v41 : BitVec 32 := Scalar.divsi v40 c128_i32
  let c1_i32 : BitVec 32 := 1#32
  let v56 : BitVec 32 := Scalar.subi v41 c1_i32
  let v57 : BitVec 32 := Scalar.select v55 v56 v41
  let c128_i32_17 : BitVec 32 := 128#32
  let v58 : BitVec 32 := Scalar.muli v57 c128_i32_17
  let v59 : BitVec 32 := v58
  let v95 : Index := Scalar.indexCast v59
  v95.toNat

/-- The row at which slab `r` of trip `k` starts, as the kernel computes it. -/
def slabRow (k : Fin k0_t2_loop.trips) (r : BitVec 32) : Nat :=
  let v87 : BitVec 32 := Scalar.muli (Scf.iv 0#32 1#32 k) 256#32
  let v88 : BitVec 32 := Scalar.addi v87 r
  let v94 : Index := Scalar.indexCast v88
  v94.toNat

theorem off29_pair (i : grid0.Coords) (k : Fin k0_t2_loop.trips) (r : BitVec 32) :
    k0_off29 i k r = ![slabRow k r, tileCol i] := by
  unfold k0_off29 slabRow tileCol
  with_reducible rfl

/-- The column in closed form. -/
theorem tileCol_eq : ∀ i : grid0.Coords, tileCol i = 128 * ((i 0).val / 64) := by decide +kernel

/-- The row in closed form. -/
theorem slabRow_eq : ∀ k : Fin k0_t2_loop.trips, ∀ r : Fin 8,
    slabRow k (BitVec.ofNat 32 (32 * r.val)) = 256 * k.val + 32 * r.val := by decide +kernel

/-- The offsets of slab `r` of trip `k` in the arrays of scales. -/
theorem off29_eq (i : grid0.Coords) (k : Fin k0_t2_loop.trips) (r : Fin 8) :
    k0_off29 i k (BitVec.ofNat 32 (32 * r.val)) = ![256 * k.val + 32 * r.val, 128 * ((i 0).val / 64)] := by
  rw [off29_pair, slabRow_eq, tileCol_eq]

instance closedOff29_0 (i : grid0.Coords) (k : Fin k0_t2_loop.trips) : ClosedOff (k0_off29 i k (BitVec.ofNat 32 0)) := ⟨![256 * k.val + 32 * 0, 128 * ((i 0).val / 64)], off29_eq i k 0⟩
instance closedOff29_1 (i : grid0.Coords) (k : Fin k0_t2_loop.trips) : ClosedOff (k0_off29 i k (BitVec.ofNat 32 32)) := ⟨![256 * k.val + 32 * 1, 128 * ((i 0).val / 64)], off29_eq i k 1⟩
instance closedOff29_2 (i : grid0.Coords) (k : Fin k0_t2_loop.trips) : ClosedOff (k0_off29 i k (BitVec.ofNat 32 64)) := ⟨![256 * k.val + 32 * 2, 128 * ((i 0).val / 64)], off29_eq i k 2⟩
instance closedOff29_3 (i : grid0.Coords) (k : Fin k0_t2_loop.trips) : ClosedOff (k0_off29 i k (BitVec.ofNat 32 96)) := ⟨![256 * k.val + 32 * 3, 128 * ((i 0).val / 64)], off29_eq i k 3⟩
instance closedOff29_4 (i : grid0.Coords) (k : Fin k0_t2_loop.trips) : ClosedOff (k0_off29 i k (BitVec.ofNat 32 128)) := ⟨![256 * k.val + 32 * 4, 128 * ((i 0).val / 64)], off29_eq i k 4⟩
instance closedOff29_5 (i : grid0.Coords) (k : Fin k0_t2_loop.trips) : ClosedOff (k0_off29 i k (BitVec.ofNat 32 160)) := ⟨![256 * k.val + 32 * 5, 128 * ((i 0).val / 64)], off29_eq i k 5⟩
instance closedOff29_6 (i : grid0.Coords) (k : Fin k0_t2_loop.trips) : ClosedOff (k0_off29 i k (BitVec.ofNat 32 192)) := ⟨![256 * k.val + 32 * 6, 128 * ((i 0).val / 64)], off29_eq i k 6⟩
instance closedOff29_7 (i : grid0.Coords) (k : Fin k0_t2_loop.trips) : ClosedOff (k0_off29 i k (BitVec.ofNat 32 224)) := ⟨![256 * k.val + 32 * 7, 128 * ((i 0).val / 64)], off29_eq i k 7⟩

/-- Which points run the prologue, the later store of the staged tile, and the last step's rewriting. -/
theorem cond1_iff : ∀ i : grid0.Coords, k0_cond1 i = 1#1 ↔ (i 0).val = 0 := by decide +kernel
theorem cond3_iff : ∀ i : grid0.Coords, k0_cond3 i = 1#1 ↔ (i 0).val ≠ 0 := by decide +kernel

end Cert.Proof.Kernel
-- ==== Proof.Kernel.Trip.lean ====
/-
  One trip of the kernel's loop over the 256-row chunks of the weight: the chunk's gradient product, then its eight
  slabs of 32 rows in two halves of 128 columns, each written to the six outputs.
-/
module

public import proofs.«01_k».proof.Proof.Kernel.Offsets
public import proofs.«01_k».proof.Proof.Gen.Kernel.Loops

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What a trip works with: the arrays it reads at their contents, those it writes at any. -/
abbrev Trip (c : Dev nD) (arg6 : Memref sig .tc .vmem S3584x256 .bf16) (arg7 : Memref sig .tc .vmem S3584x256 .fp8e4m3) (arg9 : Memref sig .tc .vmem S3584x256 .fp8e4m3) (arg17 : Memref sig .tc .vmem S3584x1536 .bf16) (arg18 : Memref sig .tc .vmem S2x1536x256 .fp8e5m2) (arg21 : Memref sig .tc .vmem S3584x256 .bf16) (arg22 : Memref sig .tc .vmem S3584x256 .bf16) (arg11 : Memref sig .tc .vmem S3584x256 .bf16) (arg12 : Memref sig .tc .vmem S3584x256 .f32) (arg13 : Memref sig .tc .vmem S3584x256 .fp8e4m3) (arg14 : Memref sig .tc .vmem S3584x256 .f32) (arg15 : Memref sig .tc .vmem S3584x256 .fp8e4m3) (arg16 : Memref sig .tc .vmem S3584x256 .f32) (arg19 : Memref sig .tc .vmem S256x256 .f32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f19 : BufTy.Contents (Elt F) arg19.view.ty) : sProp 𝕄G :=
  iprop((arg6.view.loc (c : Thread nD τ) ↦[arg6.view.set]{fullShare} f6) ∗ (arg7.view.loc (c : Thread nD τ) ↦[arg7.view.set]{fullShare} f7) ∗ (arg9.view.loc (c : Thread nD τ) ↦[arg9.view.set]{fullShare} f9) ∗ (arg17.view.loc (c : Thread nD τ) ↦[arg17.view.set]{fullShare} f17) ∗ (arg18.view.loc (c : Thread nD τ) ↦[arg18.view.set]{fullShare} f18) ∗ (arg21.view.loc (c : Thread nD τ) ↦[arg21.view.set]{fullShare} f21) ∗ (arg22.view.loc (c : Thread nD τ) ↦[arg22.view.set]{fullShare} f22) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg19.view.loc (c : Thread nD τ) ↦[arg19.view.set]{fullShare} f19))

/-- What a trip leaves: the pieces written into the four plain outputs and the scratch, and the map that takes an
    array of scales to the one with this trip's lanes replaced. -/
structure TripOut (F : FTy → Type) [FloatOps F] (arg14 : Memref sig .tc .vmem S3584x256 .f32) (arg16 : Memref sig .tc .vmem S3584x256 .f32) where
  p11 : List (View.Piece (Elt F) S3584x256 .bf16)
  p12 : List (View.Piece (Elt F) S3584x256 .f32)
  p13 : List (View.Piece (Elt F) S3584x256 .fp8e4m3)
  p15 : List (View.Piece (Elt F) S3584x256 .fp8e4m3)
  p19 : List (View.Piece (Elt F) S256x256 .f32)
  g14 : BufTy.Contents (Elt F) arg14.view.ty → BufTy.Contents (Elt F) arg14.view.ty
  g16 : BufTy.Contents (Elt F) arg16.view.ty → BufTy.Contents (Elt F) arg16.view.ty

/-- One trip at a symbolic chunk `k`: what it writes is found by running it. -/
@[irreducible] def trip (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (k : Fin k0_t2_loop.trips) :
    { o : TripOut F arg14 arg16 // ∀ (E : Set ℕ) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f19 : BufTy.Contents (Elt F) arg19.view.ty),
      Trip (F := F) c arg6 arg7 arg9 arg17 arg18 arg21 arg22 arg11 arg12 arg13 arg14 arg15 arg16 arg19 f6 f7 f9 f17 f18 f21 f22 f11 f12 f13 f14 f15 f16 f19
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 k PUnit.unit)
          (fun _ => Trip (F := F) c arg6 arg7 arg9 arg17 arg18 arg21 arg22 arg11 arg12 arg13 arg14 arg15 arg16 arg19 f6 f7 f9 f17 f18 f21 f22 (arg11.view.writes (Elt F) f11 o.p11) (arg12.view.writes (Elt F) f12 o.p12) (arg13.view.writes (Elt F) f13 o.p13) (o.g14 f14) (arg15.view.writes (Elt F) f15 o.p15) (o.g16 f16) (arg19.view.writes (Elt F) f19 o.p19)) } := by
  have hk : k.val < 14 := Nat.lt_of_lt_of_le k.isLt k0_t2_abs.2.1
  have hi : (i 0).val < 74 := (i 0).isLt
  refine ⟨⟨?_, ?_, ?_, ?_, ?_, ?_, ?_⟩, fun E f11 f12 f13 f14 f15 f16 f19 => ?run⟩
  case run =>
    unfold k0_t2_body
    iintro ⟨H6, H7, H9, H17, H18, H21, H22, H11, H12, H13, H14, H15, H16, H19⟩
    sl_exec
    sl_step
    sl_close

/-- What trip `k` leaves, as a plain projection. -/
abbrev tripO (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (k : Fin k0_t2_loop.trips) : TripOut F arg14 arg16 :=
  (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).1

/-- One trip's contribution to what the trips before it left. -/
@[irreducible] def tripsStep (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (k : ℕ) (prev : TripOut F arg14 arg16) : TripOut F arg14 arg16 :=
  if h : k < k0_t2_loop.trips then
    let o := tripO (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 ⟨k, h⟩
    ⟨o.p11 ++ prev.p11, o.p12 ++ prev.p12, o.p13 ++ prev.p13, o.p15 ++ prev.p15, o.p19 ++ prev.p19, fun f => o.g14 (prev.g14 f), fun f => o.g16 (prev.g16 f)⟩
  else prev

/-- What the trips before `k` leave together. -/
def trips (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) : ℕ → TripOut F arg14 arg16
  | 0 => ⟨[], [], [], [], [], fun f => f, fun f => f⟩
  | k + 1 => tripsStep 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k (trips 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k)

theorem trips_succ (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (k : Fin k0_t2_loop.trips) :
    trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 (k.val + 1)
      = (let o := tripO (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k
         let prev := trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k.val
         ⟨o.p11 ++ prev.p11, o.p12 ++ prev.p12, o.p13 ++ prev.p13, o.p15 ++ prev.p15, o.p19 ++ prev.p19, fun f => o.g14 (prev.g14 f), fun f => o.g16 (prev.g16 f)⟩) := by
  rw [trips.eq_2]; unfold tripsStep; exact dif_pos k.isLt

/-- Before trip `k`: the arrays read at their contents, the arrays written at what the trips before `k` left. -/
abbrev inv (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (e11 : BufTy.Contents (Elt F) arg11.view.ty) (e12 : BufTy.Contents (Elt F) arg12.view.ty) (e13 : BufTy.Contents (Elt F) arg13.view.ty) (e14 : BufTy.Contents (Elt F) arg14.view.ty) (e15 : BufTy.Contents (Elt F) arg15.view.ty) (e16 : BufTy.Contents (Elt F) arg16.view.ty) (e19 : BufTy.Contents (Elt F) arg19.view.ty) (k : ℕ) (_u : PUnit) : sProp 𝕄G :=
  iprop((arg6.view.loc (c : Thread nD τ) ↦[arg6.view.set]{fullShare} f6) ∗ (arg7.view.loc (c : Thread nD τ) ↦[arg7.view.set]{fullShare} f7) ∗ (arg9.view.loc (c : Thread nD τ) ↦[arg9.view.set]{fullShare} f9) ∗ (arg17.view.loc (c : Thread nD τ) ↦[arg17.view.set]{fullShare} f17) ∗ (arg18.view.loc (c : Thread nD τ) ↦[arg18.view.set]{fullShare} f18) ∗ (arg21.view.loc (c : Thread nD τ) ↦[arg21.view.set]{fullShare} f21) ∗ (arg22.view.loc (c : Thread nD τ) ↦[arg22.view.set]{fullShare} f22) ∗ (∃ f11 f12 f13 f14 f15 f16 f19, (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg19.view.loc (c : Thread nD τ) ↦[arg19.view.set]{fullShare} f19)
    ∗ ⌜f11 = arg11.view.writes (Elt F) e11 (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).p11⌝
    ∗ ⌜f12 = arg12.view.writes (Elt F) e12 (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).p12⌝
    ∗ ⌜f13 = arg13.view.writes (Elt F) e13 (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).p13⌝
    ∗ ⌜f14 = (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).g14 e14⌝
    ∗ ⌜f15 = arg15.view.writes (Elt F) e15 (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).p15⌝
    ∗ ⌜f16 = (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).g16 e16⌝
    ∗ ⌜f19 = arg19.view.writes (Elt F) e19 (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).p19⌝))

/-- The loop by its invariant. -/
@[sl_loop] def loopInv (𝒱 : Variants) (c : Dev nD) (bd : Option 𝒱.V) (E : Set ℕ) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (e11 : BufTy.Contents (Elt F) arg11.view.ty) (e12 : BufTy.Contents (Elt F) arg12.view.ty) (e13 : BufTy.Contents (Elt F) arg13.view.ty) (e14 : BufTy.Contents (Elt F) arg14.view.ty) (e15 : BufTy.Contents (Elt F) arg15.view.ty) (e16 : BufTy.Contents (Elt F) arg16.view.ty) (e19 : BufTy.Contents (Elt F) arg19.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 where
  inv := inv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 e11 e12 e13 e14 e15 e16 e19
  step k acc := by
    iintro ⟨H6, H7, H9, H17, H18, H21, H22, ⟨%f11, %f12, %f13, %f14, %f15, %f16, %f19, H11, H12, H13, H14, H15, H16, H19, %h11, %h12, %h13, %h14, %h15, %h16, %h19⟩⟩
    iapply (wp_wand_r Idealize.ShloMosaic.frame (wpE (defs₀ (F := F)) 𝒱 (c : Thread nD τ) bd) E)
    isplitl [H6 H7 H9 H17 H18 H21 H22 H11 H12 H13 H14 H15 H16 H19]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).2 E f11 f12 f13 f14 f15 f16 f19)
      isplitl [H6]; · iexact H6
      isplitl [H7]; · iexact H7
      isplitl [H9]; · iexact H9
      isplitl [H17]; · iexact H17
      isplitl [H18]; · iexact H18
      isplitl [H21]; · iexact H21
      isplitl [H22]; · iexact H22
      isplitl [H11]; · iexact H11
      isplitl [H12]; · iexact H12
      isplitl [H13]; · iexact H13
      isplitl [H14]; · iexact H14
      isplitl [H15]; · iexact H15
      isplitl [H16]; · iexact H16
      iexact H19
    · iintro %_ ⟨H6, H7, H9, H17, H18, H21, H22, H11, H12, H13, H14, H15, H16, H19⟩
      isplitl [H6]; · iexact H6
      isplitl [H7]; · iexact H7
      isplitl [H9]; · iexact H9
      isplitl [H17]; · iexact H17
      isplitl [H18]; · iexact H18
      isplitl [H21]; · iexact H21
      isplitl [H22]; · iexact H22
      rw [trips_succ]
      iexists _, _, _, _, _, _, _
      isplitl [H11]; · iexact H11
      isplitl [H12]; · iexact H12
      isplitl [H13]; · iexact H13
      isplitl [H14]; · iexact H14
      isplitl [H15]; · iexact H15
      isplitl [H16]; · iexact H16
      isplitl [H19]; · iexact H19
      isplitr; · ipureintro; dsimp only; rw [View.writes_append, ← h11]
      isplitr; · ipureintro; dsimp only; rw [View.writes_append, ← h12]
      isplitr; · ipureintro; dsimp only; rw [View.writes_append, ← h13]
      isplitr; · ipureintro; dsimp only; rw [h14]
      isplitr; · ipureintro; dsimp only; rw [View.writes_append, ← h15]
      isplitr; · ipureintro; dsimp only; rw [h16]
      ipureintro; dsimp only; rw [View.writes_append, ← h19]

end Cert.Proof.Kernel
-- ==== Proof.Kernel.RunDefs.lean ====
/-
  One grid point of the kernel: what its body leaves in every buffer, for the first point, the points between and the
  last one.
-/
module

public import proofs.«01_k».proof.Proof.Kernel.Trip
public import proofs.«01_k».proof.Proof.Gen.Kernel.Loops

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The first point, by the condition under which the body stores the tile at once. -/
abbrev Cond2 (i : grid0.Coords) : Prop := Scalar.cmpi .ne (Scalar.extui (Scalar.cmpi .eq (BitVec.ofNat 32 (i 0).val) 0#32)) 0#32 = 1#1
/-- The last point. -/
abbrev Cond4 (i : grid0.Coords) : Prop := Scalar.cmpi .ne (Scalar.extui (Scalar.cmpi .eq (BitVec.ofNat 32 (i 0).val) 73#32)) 0#32 = 1#1

theorem cond2_iff : ∀ i : grid0.Coords, Cond2 i ↔ (i 0).val = 0 := by decide +kernel
theorem cond4_iff : ∀ i : grid0.Coords, Cond4 i ↔ (i 0).val = 73 := by decide +kernel

/-- Every buffer the body is given, at its contents. -/
abbrev Held (c : Dev nD) (arg1 : Memref sig .tc .smem S1 .i32) (arg2 : Memref sig .tc .vmem S1536x3584 .fp8e4m3) (arg3 : Memref sig .tc .vmem S6x256 .f32) (arg4 : Memref sig .tc .vmem S6x256 .f32) (arg5 : Memref sig .tc .vmem S1536x256 .fp8e5m2) (arg6 : Memref sig .tc .vmem S3584x256 .bf16) (arg7 : Memref sig .tc .vmem S3584x256 .fp8e4m3) (arg8 : Memref sig .tc .vmem S3584x148 .f32) (arg9 : Memref sig .tc .vmem S3584x256 .fp8e4m3) (arg10 : Memref sig .tc .vmem S3584x148 .f32) (arg11 : Memref sig .tc .vmem S3584x256 .bf16) (arg12 : Memref sig .tc .vmem S3584x256 .f32) (arg13 : Memref sig .tc .vmem S3584x256 .fp8e4m3) (arg14 : Memref sig .tc .vmem S3584x256 .f32) (arg15 : Memref sig .tc .vmem S3584x256 .fp8e4m3) (arg16 : Memref sig .tc .vmem S3584x256 .f32) (arg17 : Memref sig .tc .vmem S3584x1536 .bf16) (arg18 : Memref sig .tc .vmem S2x1536x256 .fp8e5m2) (arg19 : Memref sig .tc .vmem S256x256 .f32) (arg20 : Memref sig .tc .vmem S256x256 .f32) (arg21 : Memref sig .tc .vmem S3584x256 .bf16) (arg22 : Memref sig .tc .vmem S3584x256 .bf16) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) : sProp 𝕄G :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22))

/-- What the body works with at a point: the step count it reads, two numbers of the point, and the scratch arrays as
    the loop finds them. -/
structure RunOut (F : FTy → Type) [FloatOps F] (arg17 : Memref sig .tc .vmem S3584x1536 .bf16) (arg18 : Memref sig .tc .vmem S2x1536x256 .fp8e5m2) (arg21 : Memref sig .tc .vmem S3584x256 .bf16) (arg22 : Memref sig .tc .vmem S3584x256 .bf16) where
  stp : Elt F .i32
  v0 : BitVec 32
  v59 : BitVec 32
  c17 : BufTy.Contents (Elt F) arg17.view.ty
  c18 : BufTy.Contents (Elt F) arg18.view.ty
  c21 : BufTy.Contents (Elt F) arg21.view.ty
  c22 : BufTy.Contents (Elt F) arg22.view.ty

/-- What all the trips of a point leave. -/
abbrev mainOut (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (f6 : BufTy.Contents (Elt F) arg6.view.ty) (f7 : BufTy.Contents (Elt F) arg7.view.ty) (f9 : BufTy.Contents (Elt F) arg9.view.ty) (o : RunOut F arg17 arg18 arg21 arg22) : TripOut F arg14 arg16 :=
  trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) o.v0 (k0_pay265 o.stp) (k0_pay266 o.stp) (iota .tc S32x128 32 [1] iota_S32x128_d1_w32) 2#32 o.v59 f6 f7 f9 o.c17 o.c18 o.c21 o.c22 (Scf.trips k0_t2_loop.lb k0_t2_loop.ub k0_t2_loop.st)

/-- The array of scales as the last point rewrites it. -/
abbrev last14 (arg14 : Memref sig .tc .vmem S3584x256 .f32) (f : BufTy.Contents (Elt F) arg14.view.ty) : BufTy.Contents (Elt F) arg14.view.ty :=
  arg14.view.writes (Elt F) f [⟨Rect.unit ![0, 0] S3584x256.size inb_S3584x256_S3584x256_0_0, k0_pay4 (View.readAt (Elt F) arg14.view (Rect.unit ![0, 0] S3584x256.size inb_S3584x256_S3584x256_0_0).toLoadRect f)⟩]

/-- The same for the second moment's scales. -/
abbrev last16 (arg16 : Memref sig .tc .vmem S3584x256 .f32) (f : BufTy.Contents (Elt F) arg16.view.ty) : BufTy.Contents (Elt F) arg16.view.ty :=
  arg16.view.writes (Elt F) f [⟨Rect.unit ![0, 0] S3584x256.size inb_S3584x256_S3584x256_0_0, k0_pay5 (View.readAt (Elt F) arg16.view (Rect.unit ![0, 0] S3584x256.size inb_S3584x256_S3584x256_0_0).toLoadRect f)⟩]

end Cert.Proof.Kernel
-- ==== Proof.Kernel.RunA.lean ====
/-
  A: one grid point of the kernel, run once.
-/
module

public import proofs.«01_k».proof.Proof.Kernel.RunDefs
public import proofs.«01_k».proof.Proof.Gen.Kernel.Loops

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The body at the first point. -/
@[irreducible] def runA (𝒱 : Variants) (c : Dev nD) (bd : Option 𝒱.V) (i : grid0.Coords) (hc1 : k0_cond1 i = 1#1) (hc2 : Cond2 i) (hc3 : ¬ k0_cond3 i = 1#1) (hc4 : ¬ Cond4 i) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f17 : BufTy.Contents (Elt F) arg17.view.ty) (f18 : BufTy.Contents (Elt F) arg18.view.ty) (f21 : BufTy.Contents (Elt F) arg21.view.ty) (f22 : BufTy.Contents (Elt F) arg22.view.ty) :
    { o : RunOut F arg17 arg18 arg21 arg22 // ∀ (E : Set ℕ) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f19 : BufTy.Contents (Elt F) arg19.view.ty) (f20 : BufTy.Contents (Elt F) arg20.view.ty),
      Held (F := F) c arg1 arg2 arg3 arg4 arg5 arg6 arg7 arg8 arg9 arg10 arg11 arg12 arg13 arg14 arg15 arg16 arg17 arg18 arg19 arg20 arg21 arg22 f1 f2 f3 f4 f5 f6 f7 f8 f9 f10 f11 f12 f13 f14 f15 f16 f17 f18 f19 f20 f21 f22
      ⊢ wp frame (wpE (defs₀ (F := F)) 𝒱 (c : Thread nD τ) bd) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
          (fun _ => Held (F := F) c arg1 arg2 arg3 arg4 arg5 arg6 arg7 arg8 arg9 arg10 arg11 arg12 arg13 arg14 arg15 arg16 arg17 arg18 arg19 arg20 arg21 arg22 f1 f2 f3 f4 f5 f6 f7 f8 f9 f10 (arg11.view.writes (Elt F) f11 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p11) (arg12.view.writes (Elt F) f12 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p12) (arg13.view.writes (Elt F) f13 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p13) ((mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).g14 f14) (arg15.view.writes (Elt F) f15 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p15) ((mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).g16 f16) o.c17 o.c18 (arg19.view.writes (Elt F) f19 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p19) f20 o.c21 o.c22) } := by
  have hi : (i 0).val < 74 := (i 0).isLt
  refine ⟨⟨?_, ?_, ?_, ?_, ?_, ?_, ?_⟩, fun E f11 f12 f13 f14 f15 f16 f19 f20 => ?run⟩
  case run =>
    rw [cc0__body_eq_skeleton]; unfold cc0__body_skel
    simp only [k0_part45_eq_skeleton]; unfold k0_part45_skel
    iintro ⟨H1, H2, H3, H4, H5, H6, H7, H8, H9, H10, H11, H12, H13, H14, H15, H16, H17, H18, H19, H20, H21, H22⟩
    sl_exec
    simp only [bind_assoc]
    sl_exec
    sl_step
    sl_close

end Cert.Proof.Kernel
-- ==== Proof.Kernel.RunB.lean ====
/-
  B: one grid point of the kernel, run once.
-/
module

public import proofs.«01_k».proof.Proof.Kernel.RunDefs
public import proofs.«01_k».proof.Proof.Gen.Kernel.Loops

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The body at a point between. -/
@[irreducible] def runB (𝒱 : Variants) (c : Dev nD) (bd : Option 𝒱.V) (i : grid0.Coords) (hc1 : ¬ k0_cond1 i = 1#1) (hc2 : ¬ Cond2 i) (hc3 : k0_cond3 i = 1#1) (hc4 : ¬ Cond4 i) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f17 : BufTy.Contents (Elt F) arg17.view.ty) (f18 : BufTy.Contents (Elt F) arg18.view.ty) (f21 : BufTy.Contents (Elt F) arg21.view.ty) (f22 : BufTy.Contents (Elt F) arg22.view.ty) :
    { o : RunOut F arg17 arg18 arg21 arg22 // ∀ (E : Set ℕ) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f19 : BufTy.Contents (Elt F) arg19.view.ty) (f20 : BufTy.Contents (Elt F) arg20.view.ty),
      Held (F := F) c arg1 arg2 arg3 arg4 arg5 arg6 arg7 arg8 arg9 arg10 arg11 arg12 arg13 arg14 arg15 arg16 arg17 arg18 arg19 arg20 arg21 arg22 f1 f2 f3 f4 f5 f6 f7 f8 f9 f10 f11 f12 f13 f14 f15 f16 f17 f18 f19 f20 f21 f22
      ⊢ wp frame (wpE (defs₀ (F := F)) 𝒱 (c : Thread nD τ) bd) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
          (fun _ => Held (F := F) c arg1 arg2 arg3 arg4 arg5 arg6 arg7 arg8 arg9 arg10 arg11 arg12 arg13 arg14 arg15 arg16 arg17 arg18 arg19 arg20 arg21 arg22 f1 f2 f3 f4 f5 f6 f7 f8 f9 f10 (arg11.view.writes (Elt F) f11 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p11) (arg12.view.writes (Elt F) f12 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p12) (arg13.view.writes (Elt F) f13 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p13) ((mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).g14 f14) (arg15.view.writes (Elt F) f15 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p15) ((mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).g16 f16) o.c17 o.c18 (arg19.view.writes (Elt F) f19 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p19) f20 o.c21 o.c22) } := by
  have hi : (i 0).val < 74 := (i 0).isLt
  refine ⟨⟨?_, ?_, ?_, ?_, ?_, ?_, ?_⟩, fun E f11 f12 f13 f14 f15 f16 f19 f20 => ?run⟩
  case run =>
    rw [cc0__body_eq_skeleton]; unfold cc0__body_skel
    simp only [k0_part45_eq_skeleton]; unfold k0_part45_skel
    iintro ⟨H1, H2, H3, H4, H5, H6, H7, H8, H9, H10, H11, H12, H13, H14, H15, H16, H17, H18, H19, H20, H21, H22⟩
    sl_exec
    sl_step
    sl_close

end Cert.Proof.Kernel
-- ==== Proof.Kernel.RunC.lean ====
/-
  C: one grid point of the kernel, run once.
-/
module

public import proofs.«01_k».proof.Proof.Kernel.RunDefs
public import proofs.«01_k».proof.Proof.Gen.Kernel.Loops

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The body at the last point. -/
@[irreducible] def runC (𝒱 : Variants) (c : Dev nD) (bd : Option 𝒱.V) (i : grid0.Coords) (hc1 : ¬ k0_cond1 i = 1#1) (hc2 : ¬ Cond2 i) (hc3 : k0_cond3 i = 1#1) (hc4 : Cond4 i) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f17 : BufTy.Contents (Elt F) arg17.view.ty) (f18 : BufTy.Contents (Elt F) arg18.view.ty) (f21 : BufTy.Contents (Elt F) arg21.view.ty) (f22 : BufTy.Contents (Elt F) arg22.view.ty) :
    { o : RunOut F arg17 arg18 arg21 arg22 // ∀ (E : Set ℕ) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f19 : BufTy.Contents (Elt F) arg19.view.ty) (f20 : BufTy.Contents (Elt F) arg20.view.ty),
      Held (F := F) c arg1 arg2 arg3 arg4 arg5 arg6 arg7 arg8 arg9 arg10 arg11 arg12 arg13 arg14 arg15 arg16 arg17 arg18 arg19 arg20 arg21 arg22 f1 f2 f3 f4 f5 f6 f7 f8 f9 f10 f11 f12 f13 f14 f15 f16 f17 f18 f19 f20 f21 f22
      ⊢ wp frame (wpE (defs₀ (F := F)) 𝒱 (c : Thread nD τ) bd) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
          (fun _ => Held (F := F) c arg1 arg2 arg3 arg4 arg5 arg6 arg7 arg8 arg9 arg10 arg11 arg12 arg13 arg14 arg15 arg16 arg17 arg18 arg19 arg20 arg21 arg22 f1 f2 f3 f4 f5 f6 f7 f8 f9 f10 (arg11.view.writes (Elt F) f11 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p11) (arg12.view.writes (Elt F) f12 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p12) (arg13.view.writes (Elt F) f13 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p13) (last14 (F := F) arg14 ((mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).g14 f14)) (arg15.view.writes (Elt F) f15 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p15) (last16 (F := F) arg16 ((mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).g16 f16)) o.c17 o.c18 (arg19.view.writes (Elt F) f19 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p19) f20 o.c21 o.c22) } := by
  have hi : (i 0).val < 74 := (i 0).isLt
  refine ⟨⟨?_, ?_, ?_, ?_, ?_, ?_, ?_⟩, fun E f11 f12 f13 f14 f15 f16 f19 f20 => ?run⟩
  case run =>
    rw [cc0__body_eq_skeleton]; unfold cc0__body_skel
    simp only [k0_part45_eq_skeleton]; unfold k0_part45_skel
    iintro ⟨H1, H2, H3, H4, H5, H6, H7, H8, H9, H10, H11, H12, H13, H14, H15, H16, H17, H18, H19, H20, H21, H22⟩
    sl_exec
    sl_step
    sl_unfold_words
    sl_close

end Cert.Proof.Kernel
-- ==== Proof.Kernel.RunAt.lean ====
/-
  One grid point of the kernel, whichever it is.
-/
module

public import proofs.«01_k».proof.Proof.Kernel.RunA
public import proofs.«01_k».proof.Proof.Kernel.RunB
public import proofs.«01_k».proof.Proof.Kernel.RunC
public import proofs.«01_k».proof.Proof.Gen.Kernel.Loops

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat RDat Cfg Window BodyObligation cellOf)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem cond1_of {i : grid0.Coords} (h : (i 0).val = 0) : k0_cond1 i = 1#1 := (cond1_iff i).2 h
theorem not_cond1_of {i : grid0.Coords} (h : ¬ (i 0).val = 0) : ¬ k0_cond1 i = 1#1 := fun q => h ((cond1_iff i).1 q)
theorem cond2_of {i : grid0.Coords} (h : (i 0).val = 0) : Cond2 i := (cond2_iff i).2 h
theorem not_cond2_of {i : grid0.Coords} (h : ¬ (i 0).val = 0) : ¬ Cond2 i := fun q => h ((cond2_iff i).1 q)
theorem cond3_of {i : grid0.Coords} (h : ¬ (i 0).val = 0) : k0_cond3 i = 1#1 := (cond3_iff i).2 h
theorem not_cond3_of {i : grid0.Coords} (h : (i 0).val = 0) : ¬ k0_cond3 i = 1#1 := fun q => (cond3_iff i).1 q h
theorem cond4_of {i : grid0.Coords} (h : (i 0).val = 73) : Cond4 i := (cond4_iff i).2 h
theorem not_cond4_of {i : grid0.Coords} (h : ¬ (i 0).val = 73) : ¬ Cond4 i := fun q => h ((cond4_iff i).1 q)

/-- The array of scales after a point: rewritten by the last point, as the trips left it by the others. -/
def fin14 (i : grid0.Coords) (arg14 : Memref sig .tc .vmem S3584x256 .f32) (f : BufTy.Contents (Elt F) arg14.view.ty) : BufTy.Contents (Elt F) arg14.view.ty :=
  if (i 0).val = 73 then last14 arg14 f else f

/-- The same for the second moment's scales. -/
def fin16 (i : grid0.Coords) (arg16 : Memref sig .tc .vmem S3584x256 .f32) (f : BufTy.Contents (Elt F) arg16.view.ty) : BufTy.Contents (Elt F) arg16.view.ty :=
  if (i 0).val = 73 then last16 arg16 f else f

/-- What the body works with at a point. -/
def runAt (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f17 : BufTy.Contents (Elt F) arg17.view.ty) (f18 : BufTy.Contents (Elt F) arg18.view.ty) (f21 : BufTy.Contents (Elt F) arg21.view.ty) (f22 : BufTy.Contents (Elt F) arg22.view.ty) : RunOut F arg17 arg18 arg21 arg22 :=
  if h0 : (i 0).val = 0 then (runA (F := F) 𝒱 c bd i (cond1_of h0) (cond2_of h0) (not_cond3_of h0) (not_cond4_of (by omega)) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22).1
  else if h1 : (i 0).val = 73 then (runC (F := F) 𝒱 c bd i (not_cond1_of h0) (not_cond2_of h0) (cond3_of h0) (cond4_of h1) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22).1
  else (runB (F := F) 𝒱 c bd i (not_cond1_of h0) (not_cond2_of h0) (cond3_of h0) (not_cond4_of h1) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22).1

/-- The body runs at every point, and leaves what `runAt` and the trips say. -/
theorem runAt_triple (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f17 : BufTy.Contents (Elt F) arg17.view.ty) (f18 : BufTy.Contents (Elt F) arg18.view.ty) (f21 : BufTy.Contents (Elt F) arg21.view.ty) (f22 : BufTy.Contents (Elt F) arg22.view.ty) (o : RunOut F arg17 arg18 arg21 arg22)
    (ho : o = runAt (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22) (E : Set ℕ) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f19 : BufTy.Contents (Elt F) arg19.view.ty) (f20 : BufTy.Contents (Elt F) arg20.view.ty) :
      Held (F := F) c arg1 arg2 arg3 arg4 arg5 arg6 arg7 arg8 arg9 arg10 arg11 arg12 arg13 arg14 arg15 arg16 arg17 arg18 arg19 arg20 arg21 arg22 f1 f2 f3 f4 f5 f6 f7 f8 f9 f10 f11 f12 f13 f14 f15 f16 f17 f18 f19 f20 f21 f22
      ⊢ wp frame (wpE (defs₀ (F := F)) 𝒱 (c : Thread nD τ) bd) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
          (fun _ => Held (F := F) c arg1 arg2 arg3 arg4 arg5 arg6 arg7 arg8 arg9 arg10 arg11 arg12 arg13 arg14 arg15 arg16 arg17 arg18 arg19 arg20 arg21 arg22 f1 f2 f3 f4 f5 f6 f7 f8 f9 f10 (arg11.view.writes (Elt F) f11 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p11) (arg12.view.writes (Elt F) f12 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p12) (arg13.view.writes (Elt F) f13 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p13) (fin14 (F := F) i arg14 ((mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).g14 f14)) (arg15.view.writes (Elt F) f15 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p15) (fin16 (F := F) i arg16 ((mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).g16 f16)) o.c17 o.c18 (arg19.view.writes (Elt F) f19 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p19) f20 o.c21 o.c22) := by
  unfold runAt at ho
  by_cases h0 : (i 0).val = 0
  · rw [dif_pos h0] at ho
    have h1 : ¬ (i 0).val = 73 := by omega
    rw [fin14, fin16, if_neg h1, if_neg h1, ho]
    exact (runA (F := F) 𝒱 c bd i (cond1_of h0) (cond2_of h0) (not_cond3_of h0) (not_cond4_of (by omega)) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22).2 E f11 f12 f13 f14 f15 f16 f19 f20
  · rw [dif_neg h0] at ho
    by_cases h1 : (i 0).val = 73
    · rw [dif_pos h1] at ho
      rw [fin14, fin16, if_pos h1, if_pos h1, ho]
      exact (runC (F := F) 𝒱 c bd i (not_cond1_of h0) (not_cond2_of h0) (cond3_of h0) (cond4_of h1) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22).2 E f11 f12 f13 f14 f15 f16 f19 f20
    · rw [dif_neg h1] at ho
      rw [fin14, fin16, if_neg h1, if_neg h1, ho]
      exact (runB (F := F) 𝒱 c bd i (not_cond1_of h0) (not_cond2_of h0) (cond3_of h0) (not_cond4_of h1) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22).2 E f11 f12 f13 f14 f15 f16 f19 f20

end Cert.Proof.Kernel
-- ==== Proof.Kernel.Launch.lean ====
/-
  The launch: from what one point does to what the whole run leaves. The relations between what a point finds in an
  output window and what it leaves there, and what is known of the scratch arrays between points, are parameters here.
-/
module

public import proofs.«01_k».proof.Proof.Kernel.RunAt
public import proofs.«01_k».proof.Proof.Gen.Kernel.Frame
public import proofs.«01_k».proof.Proof.Gen.Kernel.Loops

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat RDat Cfg Window BodyObligation cellOf)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- What holds between points: the scratch arrays at contents of which `I` holds, and the generator's register. -/
def Between (I : Dev nD → Fin (cfg0.N + 1) → BufTy.Contents (Elt F) (Memref.whole cc0_scratch0 : Memref sig .tc .vmem S3584x1536 .bf16).view.ty → BufTy.Contents (Elt F) (Memref.whole cc0_scratch1 : Memref sig .tc .vmem S2x1536x256 .fp8e5m2).view.ty → BufTy.Contents (Elt F) (Memref.whole cc0_scratch4 : Memref sig .tc .vmem S3584x256 .bf16).view.ty → BufTy.Contents (Elt F) (Memref.whole cc0_scratch5 : Memref sig .tc .vmem S3584x256 .bf16).view.ty → Prop) (c : Dev nD) (t : Fin (cfg0.N + 1)) : sProp 𝕄G :=
  iprop(∃ (f17 : BufTy.Contents (Elt F) (Memref.whole cc0_scratch0 : Memref sig .tc .vmem S3584x1536 .bf16).view.ty) (f18 : BufTy.Contents (Elt F) (Memref.whole cc0_scratch1 : Memref sig .tc .vmem S2x1536x256 .fp8e5m2).view.ty) (f19 : BufTy.Contents (Elt F) (Memref.whole cc0_scratch2 : Memref sig .tc .vmem S256x256 .f32).view.ty) (f20 : BufTy.Contents (Elt F) (Memref.whole cc0_scratch3 : Memref sig .tc .vmem S256x256 .f32).view.ty) (f21 : BufTy.Contents (Elt F) (Memref.whole cc0_scratch4 : Memref sig .tc .vmem S3584x256 .bf16).view.ty) (f22 : BufTy.Contents (Elt F) (Memref.whole cc0_scratch5 : Memref sig .tc .vmem S3584x256 .bf16).view.ty), ⌜I c t f17 f18 f21 f22⌝ ∗ ((Memref.whole cc0_scratch0 : Memref sig .tc .vmem S3584x1536 .bf16).view.loc (c : Thread nD τ) ↦[(Memref.whole cc0_scratch0 : Memref sig .tc .vmem S3584x1536 .bf16).view.set]{fullShare} f17) ∗ ((Memref.whole cc0_scratch1 : Memref sig .tc .vmem S2x1536x256 .fp8e5m2).view.loc (c : Thread nD τ) ↦[(Memref.whole cc0_scratch1 : Memref sig .tc .vmem S2x1536x256 .fp8e5m2).view.set]{fullShare} f18) ∗ ((Memref.whole cc0_scratch2 : Memref sig .tc .vmem S256x256 .f32).view.loc (c : Thread nD τ) ↦[(Memref.whole cc0_scratch2 : Memref sig .tc .vmem S256x256 .f32).view.set]{fullShare} f19) ∗ ((Memref.whole cc0_scratch3 : Memref sig .tc .vmem S256x256 .f32).view.loc (c : Thread nD τ) ↦[(Memref.whole cc0_scratch3 : Memref sig .tc .vmem S256x256 .f32).view.set]{fullShare} f20) ∗ ((Memref.whole cc0_scratch4 : Memref sig .tc .vmem S3584x256 .bf16).view.loc (c : Thread nD τ) ↦[(Memref.whole cc0_scratch4 : Memref sig .tc .vmem S3584x256 .bf16).view.set]{fullShare} f21) ∗ ((Memref.whole cc0_scratch5 : Memref sig .tc .vmem S3584x256 .bf16).view.loc (c : Thread nD τ) ↦[(Memref.whole cc0_scratch5 : Memref sig .tc .vmem S3584x256 .bf16).view.set]{fullShare} f22) ∗ (∃ r, prngReg c r))

/-- The launch's proof data. -/
def rdat (I : Dev nD → Fin (cfg0.N + 1) → BufTy.Contents (Elt F) (Memref.whole cc0_scratch0 : Memref sig .tc .vmem S3584x1536 .bf16).view.ty → BufTy.Contents (Elt F) (Memref.whole cc0_scratch1 : Memref sig .tc .vmem S2x1536x256 .fp8e5m2).view.ty → BufTy.Contents (Elt F) (Memref.whole cc0_scratch4 : Memref sig .tc .vmem S3584x256 .bf16).view.ty → BufTy.Contents (Elt F) (Memref.whole cc0_scratch5 : Memref sig .tc .vmem S3584x256 .bf16).view.ty → Prop)
    (R10 : Dev nD → Fin cfg0.N → ((cfg0.win 10).block.Idx → Elt F (cfg0.win 10).elt) → ((cfg0.win 10).block.Idx → Elt F (cfg0.win 10).elt) → Prop)
    (R11 : Dev nD → Fin cfg0.N → ((cfg0.win 11).block.Idx → Elt F (cfg0.win 11).elt) → ((cfg0.win 11).block.Idx → Elt F (cfg0.win 11).elt) → Prop)
    (R12 : Dev nD → Fin cfg0.N → ((cfg0.win 12).block.Idx → Elt F (cfg0.win 12).elt) → ((cfg0.win 12).block.Idx → Elt F (cfg0.win 12).elt) → Prop)
    (R13 : Dev nD → Fin cfg0.N → ((cfg0.win 13).block.Idx → Elt F (cfg0.win 13).elt) → ((cfg0.win 13).block.Idx → Elt F (cfg0.win 13).elt) → Prop)
    (R14 : Dev nD → Fin cfg0.N → ((cfg0.win 14).block.Idx → Elt F (cfg0.win 14).elt) → ((cfg0.win 14).block.Idx → Elt F (cfg0.win 14).elt) → Prop)
    (R15 : Dev nD → Fin cfg0.N → ((cfg0.win 15).block.Idx → Elt F (cfg0.win 15).elt) → ((cfg0.win 15).block.Idx → Elt F (cfg0.win 15).elt) → Prop)
    (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => X = Y
    | ⟨9, _⟩ => X = Y
    | ⟨10, _⟩ => R10 c t Y X
    | ⟨11, _⟩ => R11 c t Y X
    | ⟨12, _⟩ => R12 c t Y X
    | ⟨13, _⟩ => R13 c t Y X
    | ⟨14, _⟩ => R14 c t Y X
    | ⟨15, _⟩ => R15 c t Y X
    | ⟨_ + 16, h⟩ => absurd h (Nat.not_lt.2 (Nat.le_add_left _ _))
  Φ t := Between I c t
  q _ := fullShare
  owed _ := 0

/-- What a point must be shown to do: from the windows' contents and scratch arrays of which `I` holds, every output
    window is left as its relation says, and `I` holds again. -/
def Step (I : Dev nD → Fin (cfg0.N + 1) → BufTy.Contents (Elt F) (Memref.whole cc0_scratch0 : Memref sig .tc .vmem S3584x1536 .bf16).view.ty → BufTy.Contents (Elt F) (Memref.whole cc0_scratch1 : Memref sig .tc .vmem S2x1536x256 .fp8e5m2).view.ty → BufTy.Contents (Elt F) (Memref.whole cc0_scratch4 : Memref sig .tc .vmem S3584x256 .bf16).view.ty → BufTy.Contents (Elt F) (Memref.whole cc0_scratch5 : Memref sig .tc .vmem S3584x256 .bf16).view.ty → Prop)
    (R10 : Dev nD → Fin cfg0.N → ((cfg0.win 10).block.Idx → Elt F (cfg0.win 10).elt) → ((cfg0.win 10).block.Idx → Elt F (cfg0.win 10).elt) → Prop)
    (R11 : Dev nD → Fin cfg0.N → ((cfg0.win 11).block.Idx → Elt F (cfg0.win 11).elt) → ((cfg0.win 11).block.Idx → Elt F (cfg0.win 11).elt) → Prop)
    (R12 : Dev nD → Fin cfg0.N → ((cfg0.win 12).block.Idx → Elt F (cfg0.win 12).elt) → ((cfg0.win 12).block.Idx → Elt F (cfg0.win 12).elt) → Prop)
    (R13 : Dev nD → Fin cfg0.N → ((cfg0.win 13).block.Idx → Elt F (cfg0.win 13).elt) → ((cfg0.win 13).block.Idx → Elt F (cfg0.win 13).elt) → Prop)
    (R14 : Dev nD → Fin cfg0.N → ((cfg0.win 14).block.Idx → Elt F (cfg0.win 14).elt) → ((cfg0.win 14).block.Idx → Elt F (cfg0.win 14).elt) → Prop)
    (R15 : Dev nD → Fin cfg0.N → ((cfg0.win 15).block.Idx → Elt F (cfg0.win 15).elt) → ((cfg0.win 15).block.Idx → Elt F (cfg0.win 15).elt) → Prop) : Prop :=
  ∀ (c : Dev nD) (t : Fin cfg0.N) (Y : (w : Fin cfg0.W) → (cfg0.win w).block.Idx → Elt F (cfg0.win w).elt),
    (∀ w, (rdat m I R10 R11 R12 R13 R14 R15 c).Finds w t (Y w)) →
    ∀ (f1 : BufTy.Contents (Elt F) (st0_0 t).view.ty) (f2 : BufTy.Contents (Elt F) (st0_1 t).view.ty) (f3 : BufTy.Contents (Elt F) (st0_2 t).view.ty) (f4 : BufTy.Contents (Elt F) (st0_3 t).view.ty) (f5 : BufTy.Contents (Elt F) (st0_4 t).view.ty) (f6 : BufTy.Contents (Elt F) (st0_5 t).view.ty) (f7 : BufTy.Contents (Elt F) (st0_6 t).view.ty) (f8 : BufTy.Contents (Elt F) (st0_7 t).view.ty) (f9 : BufTy.Contents (Elt F) (st0_8 t).view.ty) (f10 : BufTy.Contents (Elt F) (st0_9 t).view.ty) (f11 : BufTy.Contents (Elt F) (st0_10 t).view.ty) (f12 : BufTy.Contents (Elt F) (st0_11 t).view.ty) (f13 : BufTy.Contents (Elt F) (st0_12 t).view.ty) (f14 : BufTy.Contents (Elt F) (st0_13 t).view.ty) (f15 : BufTy.Contents (Elt F) (st0_14 t).view.ty) (f16 : BufTy.Contents (Elt F) (st0_15 t).view.ty) (f17 : BufTy.Contents (Elt F) (Memref.whole cc0_scratch0 : Memref sig .tc .vmem S3584x1536 .bf16).view.ty) (f18 : BufTy.Contents (Elt F) (Memref.whole cc0_scratch1 : Memref sig .tc .vmem S2x1536x256 .fp8e5m2).view.ty) (f21 : BufTy.Contents (Elt F) (Memref.whole cc0_scratch4 : Memref sig .tc .vmem S3584x256 .bf16).view.ty) (f22 : BufTy.Contents (Elt F) (Memref.whole cc0_scratch5 : Memref sig .tc .vmem S3584x256 .bf16).view.ty)
      (o : RunOut F (Memref.whole cc0_scratch0) (Memref.whole cc0_scratch1) (Memref.whole cc0_scratch4) (Memref.whole cc0_scratch5)),
    (st0_0 t).view.read (Elt F) f1 = Y 0 → (st0_1 t).view.read (Elt F) f2 = Y 1 → (st0_2 t).view.read (Elt F) f3 = Y 2 → (st0_3 t).view.read (Elt F) f4 = Y 3 → (st0_4 t).view.read (Elt F) f5 = Y 4 → (st0_5 t).view.read (Elt F) f6 = Y 5 → (st0_6 t).view.read (Elt F) f7 = Y 6 → (st0_7 t).view.read (Elt F) f8 = Y 7 → (st0_8 t).view.read (Elt F) f9 = Y 8 → (st0_9 t).view.read (Elt F) f10 = Y 9 → (st0_10 t).view.read (Elt F) f11 = Y 10 → (st0_11 t).view.read (Elt F) f12 = Y 11 → (st0_12 t).view.read (Elt F) f13 = Y 12 → (st0_13 t).view.read (Elt F) f14 = Y 13 → (st0_14 t).view.read (Elt F) f15 = Y 14 → (st0_15 t).view.read (Elt F) f16 = Y 15 →
    I c t.castSucc f17 f18 f21 f22 →
    o = runAt (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f6 f7 f8 f9 f10 f17 f18 f21 f22 →
    R10 c t (Y 10) ((st0_10 t).view.read (Elt F) ((st0_10 t).view.writes (Elt F) f11 (mainOut (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f6 f7 f9 o).p11)) ∧ R11 c t (Y 11) ((st0_11 t).view.read (Elt F) ((st0_11 t).view.writes (Elt F) f12 (mainOut (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f6 f7 f9 o).p12)) ∧ R12 c t (Y 12) ((st0_12 t).view.read (Elt F) ((st0_12 t).view.writes (Elt F) f13 (mainOut (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f6 f7 f9 o).p13)) ∧ R13 c t (Y 13) ((st0_13 t).view.read (Elt F) (fin14 (F := F) (grid0.coords t) (st0_13 t) ((mainOut (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f6 f7 f9 o).g14 f14))) ∧ R14 c t (Y 14) ((st0_14 t).view.read (Elt F) ((st0_14 t).view.writes (Elt F) f15 (mainOut (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f6 f7 f9 o).p15)) ∧ R15 c t (Y 15) ((st0_15 t).view.read (Elt F) (fin16 (F := F) (grid0.coords t) (st0_15 t) ((mainOut (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f6 f7 f9 o).g16 f16)))
      ∧ I c t.succ o.c17 o.c18 o.c21 o.c22

variable {m} {I : Dev nD → Fin (cfg0.N + 1) → BufTy.Contents (Elt F) (Memref.whole cc0_scratch0 : Memref sig .tc .vmem S3584x1536 .bf16).view.ty → BufTy.Contents (Elt F) (Memref.whole cc0_scratch1 : Memref sig .tc .vmem S2x1536x256 .fp8e5m2).view.ty → BufTy.Contents (Elt F) (Memref.whole cc0_scratch4 : Memref sig .tc .vmem S3584x256 .bf16).view.ty → BufTy.Contents (Elt F) (Memref.whole cc0_scratch5 : Memref sig .tc .vmem S3584x256 .bf16).view.ty → Prop}
    {R10 : Dev nD → Fin cfg0.N → ((cfg0.win 10).block.Idx → Elt F (cfg0.win 10).elt) → ((cfg0.win 10).block.Idx → Elt F (cfg0.win 10).elt) → Prop}
    {R11 : Dev nD → Fin cfg0.N → ((cfg0.win 11).block.Idx → Elt F (cfg0.win 11).elt) → ((cfg0.win 11).block.Idx → Elt F (cfg0.win 11).elt) → Prop}
    {R12 : Dev nD → Fin cfg0.N → ((cfg0.win 12).block.Idx → Elt F (cfg0.win 12).elt) → ((cfg0.win 12).block.Idx → Elt F (cfg0.win 12).elt) → Prop}
    {R13 : Dev nD → Fin cfg0.N → ((cfg0.win 13).block.Idx → Elt F (cfg0.win 13).elt) → ((cfg0.win 13).block.Idx → Elt F (cfg0.win 13).elt) → Prop}
    {R14 : Dev nD → Fin cfg0.N → ((cfg0.win 14).block.Idx → Elt F (cfg0.win 14).elt) → ((cfg0.win 14).block.Idx → Elt F (cfg0.win 14).elt) → Prop}
    {R15 : Dev nD → Fin cfg0.N → ((cfg0.win 15).block.Idx → Elt F (cfg0.win 15).elt) → ((cfg0.win 15).block.Idx → Elt F (cfg0.win 15).elt) → Prop}

/-- The body table's row at a point is the body. -/
theorem defs₀_row (t : Fin cfg0.N) :
    defs₀ (F := F) .tc cfg0.body (cfg0.bodyArgs t (cfg0.slots t)) = bodyAt0 t := by
  unfold defs₀; rw [Defs.onTc_tc]

theorem sound_body (h : Step m I R10 R11 R12 R13 R14 R15) (c : Dev nD) (t : Fin cfg0.N) (Y : (w : Fin cfg0.W) → (cfg0.win w).block.Idx → Elt F (cfg0.win w).elt)
    (hY : ∀ w, (rdat m I R10 R11 R12 R13 R14 R15 c).Finds w t (Y w)) :
    iprop(Between I c t.castSucc ∗ (rdat m I R10 R11 R12 R13 R14 R15 c).owesAt () t.castSucc
      ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13) ∗ owns (c : Thread nD τ) (st0_14 t) fullShare (Y 14) ∗ owns (c : Thread nD τ) (st0_15 t) fullShare (Y 15))
    ⊢ wp frame (wpE (defs₀ (F := F)) Variants.none c none) Set.univ (bodyAt0 t) (fun _ =>
      iprop(Between I c t.succ ∗ (rdat m I R10 R11 R12 R13 R14 R15 c).owesAt () t.succ
      ∗ (∃ X, ⌜X = Y 0⌝ ∗ owns (c : Thread nD τ) (st0_0 t) fullShare X) ∗ (∃ X, ⌜X = Y 1⌝ ∗ owns (c : Thread nD τ) (st0_1 t) fullShare X) ∗ (∃ X, ⌜X = Y 2⌝ ∗ owns (c : Thread nD τ) (st0_2 t) fullShare X) ∗ (∃ X, ⌜X = Y 3⌝ ∗ owns (c : Thread nD τ) (st0_3 t) fullShare X) ∗ (∃ X, ⌜X = Y 4⌝ ∗ owns (c : Thread nD τ) (st0_4 t) fullShare X) ∗ (∃ X, ⌜X = Y 5⌝ ∗ owns (c : Thread nD τ) (st0_5 t) fullShare X) ∗ (∃ X, ⌜X = Y 6⌝ ∗ owns (c : Thread nD τ) (st0_6 t) fullShare X) ∗ (∃ X, ⌜X = Y 7⌝ ∗ owns (c : Thread nD τ) (st0_7 t) fullShare X) ∗ (∃ X, ⌜X = Y 8⌝ ∗ owns (c : Thread nD τ) (st0_8 t) fullShare X) ∗ (∃ X, ⌜X = Y 9⌝ ∗ owns (c : Thread nD τ) (st0_9 t) fullShare X)
      ∗ (∃ X, ⌜R10 c t (Y 10) X⌝ ∗ owns (c : Thread nD τ) (st0_10 t) fullShare X) ∗ (∃ X, ⌜R11 c t (Y 11) X⌝ ∗ owns (c : Thread nD τ) (st0_11 t) fullShare X) ∗ (∃ X, ⌜R12 c t (Y 12) X⌝ ∗ owns (c : Thread nD τ) (st0_12 t) fullShare X) ∗ (∃ X, ⌜R13 c t (Y 13) X⌝ ∗ owns (c : Thread nD τ) (st0_13 t) fullShare X) ∗ (∃ X, ⌜R14 c t (Y 14) X⌝ ∗ owns (c : Thread nD τ) (st0_14 t) fullShare X) ∗ (∃ X, ⌜R15 c t (Y 15) X⌝ ∗ owns (c : Thread nD τ) (st0_15 t) fullShare X))) := by
  unfold Between owns
  rw [show (rdat m I R10 R11 R12 R13 R14 R15 c).owesAt () t.succ = (rdat m I R10 R11 R12 R13 R14 R15 c).owesAt () t.castSucc from rfl]
  iintro ⟨⟨%f17, %f18, %f19, %f20, %f21, %f22, %hI, H17, H18, H19, H20, H21, H22, HR⟩, Ho, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩⟩
  have hs := h c t Y hY f1 f2 f3 f4 f5 f6 f7 f8 f9 f10 f11 f12 f13 f14 f15 f16 f17 f18 f21 f22 _ h1 h2 h3 h4 h5 h6 h7 h8 h9 h10 h11 h12 h13 h14 h15 h16 hI rfl
  have ht := runAt_triple (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f6 f7 f8 f9 f10 f17 f18 f21 f22 _ rfl Set.univ f11 f12 f13 f14 f15 f16 f19 f20
  obtain ⟨k11, k12, k13, k14, k15, k16, kI⟩ := hs
  iapply (wp_wand frame (wpE (defs₀ (F := F)) Variants.none c none) Set.univ) $$ [H1 H2 H3 H4 H5 H6 H7 H8 H9 H10 H11 H12 H13 H14 H15 H16 H17 H18 H19 H20 H21 H22]
  · iapply ht
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  iintro %_ ⟨H1, H2, H3, H4, H5, H6, H7, H8, H9, H10, H11, H12, H13, H14, H15, H16, H17, H18, H19, H20, H21, H22⟩
  isplitl [H17 H18 H19 H20 H21 H22 HR]
  · iexists _, _, _, _, _, _
    isplitr
    · ipureintro; exact kI
    iframe
  isplitl [Ho]; · iexact Ho
  isplitl [H1]
  · iexists _; isplitr
    swap; · iexists _; isplitr
            swap; · iexact H1
            ipureintro; rfl
    ipureintro; exact h1
  isplitl [H2]
  · iexists _; isplitr
    swap; · iexists _; isplitr
            swap; · iexact H2
            ipureintro; rfl
    ipureintro; exact h2
  isplitl [H3]
  · iexists _; isplitr
    swap; · iexists _; isplitr
            swap; · iexact H3
            ipureintro; rfl
    ipureintro; exact h3
  isplitl [H4]
  · iexists _; isplitr
    swap; · iexists _; isplitr
            swap; · iexact H4
            ipureintro; rfl
    ipureintro; exact h4
  isplitl [H5]
  · iexists _; isplitr
    swap; · iexists _; isplitr
            swap; · iexact H5
            ipureintro; rfl
    ipureintro; exact h5
  isplitl [H6]
  · iexists _; isplitr
    swap; · iexists _; isplitr
            swap; · iexact H6
            ipureintro; rfl
    ipureintro; exact h6
  isplitl [H7]
  · iexists _; isplitr
    swap; · iexists _; isplitr
            swap; · iexact H7
            ipureintro; rfl
    ipureintro; exact h7
  isplitl [H8]
  · iexists _; isplitr
    swap; · iexists _; isplitr
            swap; · iexact H8
            ipureintro; rfl
    ipureintro; exact h8
  isplitl [H9]
  · iexists _; isplitr
    swap; · iexists _; isplitr
            swap; · iexact H9
            ipureintro; rfl
    ipureintro; exact h9
  isplitl [H10]
  · iexists _; isplitr
    swap; · iexists _; isplitr
            swap; · iexact H10
            ipureintro; rfl
    ipureintro; exact h10
  isplitl [H11]
  · iexists _; isplitr
    swap; · iexists _; isplitr
            swap; · iexact H11
            ipureintro; rfl
    ipureintro; exact k11
  isplitl [H12]
  · iexists _; isplitr
    swap; · iexists _; isplitr
            swap; · iexact H12
            ipureintro; rfl
    ipureintro; exact k12
  isplitl [H13]
  · iexists _; isplitr
    swap; · iexists _; isplitr
            swap; · iexact H13
            ipureintro; rfl
    ipureintro; exact k13
  isplitl [H14]
  · iexists _; isplitr
    swap; · iexists _; isplitr
            swap; · iexact H14
            ipureintro; rfl
    ipureintro; exact k14
  isplitl [H15]
  · iexists _; isplitr
    swap; · iexists _; isplitr
            swap; · iexact H15
            ipureintro; rfl
    ipureintro; exact k15
  iexists _; isplitr
  swap; · iexists _; isplitr
          swap; · iexact H16
          ipureintro; rfl
  ipureintro; exact k16

/-- The obligation of the body, at every point. -/
theorem body_obligation (h : Step m I R10 R11 R12 R13 R14 R15) (c : Dev nD) :
    (rdat m I R10 R11 R12 R13 R14 R15 c).BodyObligation (defs₀ (F := F)) Variants.none () Set.univ := fun t Y hY => by
  rw [bigSep_W0, bigSep_W0, defs₀_row]
  exact triple_restated (sound_body h c t Y hY) rfl .rfl fun _ => .rfl

theorem between_in (hI : ∀ c f17 f18 f21 f22, I c 0 f17 f18 f21 f22) (c : Dev nD) :
    (Pipeline.ΦA spec0 c : sProp 𝕄G) ⊢ Between I c 0 := by
  unfold Pipeline.ΦA Between
  rw [scopedRest0_eq]
  simp only [Memref.view_whole, View.set_whole]
  iintro ⟨⟨⟨%f17, H17⟩, ⟨%f18, H18⟩, ⟨%f19, H19⟩, ⟨%f20, H20⟩, ⟨%f21, H21⟩, ⟨%f22, H22⟩⟩, HR⟩
  iexists f17, f18, f19, f20, f21, f22
  isplitr
  · ipureintro; exact hI c _ _ _ _
  iframe

theorem between_out (c : Dev nD) (t : Fin (cfg0.N + 1)) :
    Between I c t ⊢ (Pipeline.ΦA spec0 c : sProp 𝕄G) := by
  unfold Pipeline.ΦA Between
  rw [scopedRest0_eq]
  simp only [Memref.view_whole, View.set_whole]
  iintro ⟨%f17, %f18, %f19, %f20, %f21, %f22, -, H17, H18, H19, H20, H21, H22, HR⟩
  isplitr [HR]
  · isplitl [H17]; · iexists f17; iexact H17
    isplitl [H18]; · iexists f18; iexact H18
    isplitl [H19]; · iexists f19; iexact H19
    isplitl [H20]; · iexists f20; iexact H20
    isplitl [H21]; · iexists f21; iexact H21
    iexists f22; iexact H22
  iexact HR

set_option backward.isDefEq.respectTransparency.types false in
/-- The run: every array ends as the relations say, nothing else is written, and every counter is zero. -/
theorem run_main (h : Step m I R10 R11 R12 R13 R14 R15) (hI : ∀ c f17 f18 f21 f22, I c 0 f17 f18 f21 f22) :
    θ_run defs (onTc (τ := τ) (main (F := F))) (s₀ m ρ) (fun r => RDat.FramePost cfg0 (rdat m I R10 R11 R12 R13 R14 R15) (V m) r ∧ r.2.sem = fun _ => 0) :=
  RDat.θ_run_frame_track (Q' := _) cfgs (0 : Fin 1) launch0 defs₀ Variants.none (rdat m I R10 R11 R12 R13 R14 R15) m ρ main
    (hbody := body_obligation h) (hshare := fun c => (rdat m I R10 R11 R12 R13 R14 R15 c).share_full fun _ => rfl) (howed := fun _ _ => rfl)
    (V := V m) (hmain := hmain m Variants.none) (hA := fun _ _ => rfl)
    (hin := between_in hI) (hout := fun c => between_out c _)

/-- The argument arrays end as launched, and every counter is zero. -/
theorem frame_of_step (h : Step m I R10 R11 R12 R13 R14 R15) (hI : ∀ c f17 f18 f21 f22, I c 0 f17 f18 f21 f22) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨((h.1 c).2 main_arg0 (Pipeline.mem_restRefs_of main_arg0 (by decide) (by decide))).trans (V_main_arg0 m c), (h.1.arr_in c 2 rfl).trans (V_main_arg1 m c), ((h.1 c).2 main_arg2 (Pipeline.mem_restRefs_of main_arg2 (by decide) (by decide))).trans (V_main_arg2 m c), (h.1.arr_in c 3 rfl).trans (V_main_arg3 m c), (h.1.arr_in c 5 rfl).trans (V_main_arg4 m c), (h.1.arr_in c 6 rfl).trans (V_main_arg5 m c), (h.1.arr_in c 7 rfl).trans (V_main_arg6 m c), (h.1.arr_in c 8 rfl).trans (V_main_arg7 m c), (h.1.arr_in c 9 rfl).trans (V_main_arg8 m c), ((h.1 c).2 main_arg9 (Pipeline.mem_restRefs_of main_arg9 (by decide) (by decide))).trans (V_main_arg9 m c)⟩, h.2⟩) (run_main ρ h hI)

end Cert.Proof.Kernel
-- ==== Proof.Kernel.FrameMain.lean ====
/-
  The frame: nothing is said of what the output windows hold.
-/
module

public import proofs.«01_k».proof.Proof.Kernel.Launch
public import proofs.«01_k».proof.Proof.Gen.Kernel.Loops

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat RDat Cfg Window BodyObligation cellOf)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The argument arrays end as launched, and every counter is zero. -/
theorem frame_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  frame_of_step (I := fun _ _ _ _ _ _ => True) (R10 := fun _ _ _ _ => True) (R11 := fun _ _ _ _ => True) (R12 := fun _ _ _ _ => True) (R13 := fun _ _ _ _ => True) (R14 := fun _ _ _ _ => True) (R15 := fun _ _ _ _ => True) ρ
    (fun _ _ _ _ _ _ _ _ _ _ _ _ _ _ _ _ _ _ _ _ _ _ _ _ _ _ _ _ _ _ _ _ _ _ _ _ _ _ _ _ _ _ _ => ⟨trivial, trivial, trivial, trivial, trivial, trivial, trivial⟩) (fun _ _ _ _ _ => trivial)

end Cert.Proof.Kernel
-- ==== Proof.KernelIdeal.Offsets.lean ====
/-
  Where the kernel's trips read and write, in closed form: the lane tile a grid point works in starts at column
  `128 * (point / 64)`.
-/
module

public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.Sem

/-- The column at which the lane tile of a grid point starts, as the kernel computes it. -/
def tileCol (i : grid0.Coords) : Nat :=
  let arg0 : BitVec 32 := BitVec.ofNat 32 (i 0).val
  let c2_i32_11 : BitVec 32 := 2#32
  let v40 : BitVec 32 := Scalar.muli arg0 c2_i32_11
  let c0_i32_12 : BitVec 32 := 0#32
  let v42 : BitVec 1 := Scalar.cmpi .sgt v40 c0_i32_12
  let v43 : BitVec 32 := Scalar.extui v42
  let c0_i32_13 : BitVec 32 := 0#32
  let v44 : BitVec 1 := Scalar.cmpi .slt v40 c0_i32_13
  let v45 : BitVec 32 := Scalar.extui v44
  let v46 : BitVec 32 := Scalar.subi v43 v45
  let c128_i32 : BitVec 32 := 128#32
  let c0_i32_14 : BitVec 32 := 0#32
  let v47 : BitVec 1 := Scalar.cmpi .sgt c128_i32 c0_i32_14
  let v48 : BitVec 32 := Scalar.extui v47
  let c0_i32_15 : BitVec 32 := 0#32
  let v49 : BitVec 1 := Scalar.cmpi .slt c128_i32 c0_i32_15
  let v50 : BitVec 32 := Scalar.extui v49
  let v51 : BitVec 32 := Scalar.subi v48 v50
  let v52 : BitVec 1 := Scalar.cmpi .ne v46 v51
  let v53 : BitVec 32 := Scalar.remsi v40 c128_i32
  let c0_i32_16 : BitVec 32 := 0#32
  let v54 : BitVec 1 := Scalar.cmpi .ne v53 c0_i32_16
  let v55 : BitVec 1 := Scalar.andi v52 v54
  let v41 : BitVec 32 := Scalar.divsi v40 c128_i32
  let c1_i32 : BitVec 32 := 1#32
  let v56 : BitVec 32 := Scalar.subi v41 c1_i32
  let v57 : BitVec 32 := Scalar.select v55 v56 v41
  let c128_i32_17 : BitVec 32 := 128#32
  let v58 : BitVec 32 := Scalar.muli v57 c128_i32_17
  let v59 : BitVec 32 := v58
  let v95 : Index := Scalar.indexCast v59
  v95.toNat

/-- The row at which slab `r` of trip `k` starts, as the kernel computes it. -/
def slabRow (k : Fin k0_t2_loop.trips) (r : BitVec 32) : Nat :=
  let v87 : BitVec 32 := Scalar.muli (Scf.iv 0#32 1#32 k) 256#32
  let v88 : BitVec 32 := Scalar.addi v87 r
  let v94 : Index := Scalar.indexCast v88
  v94.toNat

theorem off29_pair (i : grid0.Coords) (k : Fin k0_t2_loop.trips) (r : BitVec 32) :
    k0_off29 i k r = ![slabRow k r, tileCol i] := by
  unfold k0_off29 slabRow tileCol
  with_reducible rfl

/-- The column in closed form. -/
theorem tileCol_eq : ∀ i : grid0.Coords, tileCol i = 128 * ((i 0).val / 64) := by decide +kernel

/-- The row in closed form. -/
theorem slabRow_eq : ∀ k : Fin k0_t2_loop.trips, ∀ r : Fin 8,
    slabRow k (BitVec.ofNat 32 (32 * r.val)) = 256 * k.val + 32 * r.val := by decide +kernel

/-- The offsets of slab `r` of trip `k` in the arrays of scales. -/
theorem off29_eq (i : grid0.Coords) (k : Fin k0_t2_loop.trips) (r : Fin 8) :
    k0_off29 i k (BitVec.ofNat 32 (32 * r.val)) = ![256 * k.val + 32 * r.val, 128 * ((i 0).val / 64)] := by
  rw [off29_pair, slabRow_eq, tileCol_eq]

instance closedOff29_0 (i : grid0.Coords) (k : Fin k0_t2_loop.trips) : ClosedOff (k0_off29 i k (BitVec.ofNat 32 0)) := ⟨![256 * k.val + 32 * 0, 128 * ((i 0).val / 64)], off29_eq i k 0⟩
instance closedOff29_1 (i : grid0.Coords) (k : Fin k0_t2_loop.trips) : ClosedOff (k0_off29 i k (BitVec.ofNat 32 32)) := ⟨![256 * k.val + 32 * 1, 128 * ((i 0).val / 64)], off29_eq i k 1⟩
instance closedOff29_2 (i : grid0.Coords) (k : Fin k0_t2_loop.trips) : ClosedOff (k0_off29 i k (BitVec.ofNat 32 64)) := ⟨![256 * k.val + 32 * 2, 128 * ((i 0).val / 64)], off29_eq i k 2⟩
instance closedOff29_3 (i : grid0.Coords) (k : Fin k0_t2_loop.trips) : ClosedOff (k0_off29 i k (BitVec.ofNat 32 96)) := ⟨![256 * k.val + 32 * 3, 128 * ((i 0).val / 64)], off29_eq i k 3⟩
instance closedOff29_4 (i : grid0.Coords) (k : Fin k0_t2_loop.trips) : ClosedOff (k0_off29 i k (BitVec.ofNat 32 128)) := ⟨![256 * k.val + 32 * 4, 128 * ((i 0).val / 64)], off29_eq i k 4⟩
instance closedOff29_5 (i : grid0.Coords) (k : Fin k0_t2_loop.trips) : ClosedOff (k0_off29 i k (BitVec.ofNat 32 160)) := ⟨![256 * k.val + 32 * 5, 128 * ((i 0).val / 64)], off29_eq i k 5⟩
instance closedOff29_6 (i : grid0.Coords) (k : Fin k0_t2_loop.trips) : ClosedOff (k0_off29 i k (BitVec.ofNat 32 192)) := ⟨![256 * k.val + 32 * 6, 128 * ((i 0).val / 64)], off29_eq i k 6⟩
instance closedOff29_7 (i : grid0.Coords) (k : Fin k0_t2_loop.trips) : ClosedOff (k0_off29 i k (BitVec.ofNat 32 224)) := ⟨![256 * k.val + 32 * 7, 128 * ((i 0).val / 64)], off29_eq i k 7⟩

/-- Which points run the prologue, the later store of the staged tile, and the last step's rewriting. -/
theorem cond1_iff : ∀ i : grid0.Coords, k0_cond1 i = 1#1 ↔ (i 0).val = 0 := by decide +kernel
theorem cond3_iff : ∀ i : grid0.Coords, k0_cond3 i = 1#1 ↔ (i 0).val ≠ 0 := by decide +kernel

end Cert.Proof.KernelIdeal
-- ==== Proof.KernelIdeal.Trip.lean ====
/-
  One trip of the kernel's loop over the 256-row chunks of the weight: the chunk's gradient product, then its eight
  slabs of 32 rows in two halves of 128 columns, each written to the six outputs.
-/
module

public import proofs.«01_k».proof.Proof.KernelIdeal.Offsets
public import proofs.«01_k».proof.Proof.Gen.KernelIdeal.Loops

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- What a trip works with: the arrays it reads at their contents, those it writes at any. -/
abbrev Trip (c : Dev nD) (arg6 : Memref sig .tc .vmem S3584x256 .bf16) (arg7 : Memref sig .tc .vmem S3584x256 .fp8e4m3) (arg9 : Memref sig .tc .vmem S3584x256 .fp8e4m3) (arg17 : Memref sig .tc .vmem S3584x1536 .bf16) (arg18 : Memref sig .tc .vmem S2x1536x256 .fp8e5m2) (arg21 : Memref sig .tc .vmem S3584x256 .bf16) (arg22 : Memref sig .tc .vmem S3584x256 .bf16) (arg11 : Memref sig .tc .vmem S3584x256 .bf16) (arg12 : Memref sig .tc .vmem S3584x256 .f32) (arg13 : Memref sig .tc .vmem S3584x256 .fp8e4m3) (arg14 : Memref sig .tc .vmem S3584x256 .f32) (arg15 : Memref sig .tc .vmem S3584x256 .fp8e4m3) (arg16 : Memref sig .tc .vmem S3584x256 .f32) (arg19 : Memref sig .tc .vmem S256x256 .f32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f19 : BufTy.Contents (Elt F) arg19.view.ty) : sProp 𝕄G :=
  iprop((arg6.view.loc (c : Thread nD τ) ↦[arg6.view.set]{fullShare} f6) ∗ (arg7.view.loc (c : Thread nD τ) ↦[arg7.view.set]{fullShare} f7) ∗ (arg9.view.loc (c : Thread nD τ) ↦[arg9.view.set]{fullShare} f9) ∗ (arg17.view.loc (c : Thread nD τ) ↦[arg17.view.set]{fullShare} f17) ∗ (arg18.view.loc (c : Thread nD τ) ↦[arg18.view.set]{fullShare} f18) ∗ (arg21.view.loc (c : Thread nD τ) ↦[arg21.view.set]{fullShare} f21) ∗ (arg22.view.loc (c : Thread nD τ) ↦[arg22.view.set]{fullShare} f22) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg19.view.loc (c : Thread nD τ) ↦[arg19.view.set]{fullShare} f19))

/-- What a trip leaves: the pieces written into the four plain outputs and the scratch, and the map that takes an
    array of scales to the one with this trip's lanes replaced. -/
structure TripOut (F : FTy → Type) [FloatOps F] [Named F] (arg14 : Memref sig .tc .vmem S3584x256 .f32) (arg16 : Memref sig .tc .vmem S3584x256 .f32) where
  p11 : List (View.Piece (Elt F) S3584x256 .bf16)
  p12 : List (View.Piece (Elt F) S3584x256 .f32)
  p13 : List (View.Piece (Elt F) S3584x256 .fp8e4m3)
  p15 : List (View.Piece (Elt F) S3584x256 .fp8e4m3)
  p19 : List (View.Piece (Elt F) S256x256 .f32)
  g14 : BufTy.Contents (Elt F) arg14.view.ty → BufTy.Contents (Elt F) arg14.view.ty
  g16 : BufTy.Contents (Elt F) arg16.view.ty → BufTy.Contents (Elt F) arg16.view.ty

/-- One trip at a symbolic chunk `k`: what it writes is found by running it. -/
@[irreducible] def trip (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (k : Fin k0_t2_loop.trips) :
    { o : TripOut F arg14 arg16 // ∀ (E : Set ℕ) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f19 : BufTy.Contents (Elt F) arg19.view.ty),
      Trip (F := F) c arg6 arg7 arg9 arg17 arg18 arg21 arg22 arg11 arg12 arg13 arg14 arg15 arg16 arg19 f6 f7 f9 f17 f18 f21 f22 f11 f12 f13 f14 f15 f16 f19
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 k PUnit.unit)
          (fun _ => Trip (F := F) c arg6 arg7 arg9 arg17 arg18 arg21 arg22 arg11 arg12 arg13 arg14 arg15 arg16 arg19 f6 f7 f9 f17 f18 f21 f22 (arg11.view.writes (Elt F) f11 o.p11) (arg12.view.writes (Elt F) f12 o.p12) (arg13.view.writes (Elt F) f13 o.p13) (o.g14 f14) (arg15.view.writes (Elt F) f15 o.p15) (o.g16 f16) (arg19.view.writes (Elt F) f19 o.p19)) } := by
  have hk : k.val < 14 := Nat.lt_of_lt_of_le k.isLt k0_t2_abs.2.1
  have hi : (i 0).val < 74 := (i 0).isLt
  refine ⟨⟨?_, ?_, ?_, ?_, ?_, ?_, ?_⟩, fun E f11 f12 f13 f14 f15 f16 f19 => ?run⟩
  case run =>
    unfold k0_t2_body
    iintro ⟨H6, H7, H9, H17, H18, H21, H22, H11, H12, H13, H14, H15, H16, H19⟩
    sl_exec
    sl_step
    sl_close

/-- What trip `k` leaves, as a plain projection. -/
abbrev tripO (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (k : Fin k0_t2_loop.trips) : TripOut F arg14 arg16 :=
  (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).1

/-- One trip's contribution to what the trips before it left. -/
@[irreducible] def tripsStep (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (k : ℕ) (prev : TripOut F arg14 arg16) : TripOut F arg14 arg16 :=
  if h : k < k0_t2_loop.trips then
    let o := tripO (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 ⟨k, h⟩
    ⟨o.p11 ++ prev.p11, o.p12 ++ prev.p12, o.p13 ++ prev.p13, o.p15 ++ prev.p15, o.p19 ++ prev.p19, fun f => o.g14 (prev.g14 f), fun f => o.g16 (prev.g16 f)⟩
  else prev

/-- What the trips before `k` leave together. -/
def trips (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) : ℕ → TripOut F arg14 arg16
  | 0 => ⟨[], [], [], [], [], fun f => f, fun f => f⟩
  | k + 1 => tripsStep 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k (trips 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k)

theorem trips_succ (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (k : Fin k0_t2_loop.trips) :
    trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 (k.val + 1)
      = (let o := tripO (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k
         let prev := trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k.val
         ⟨o.p11 ++ prev.p11, o.p12 ++ prev.p12, o.p13 ++ prev.p13, o.p15 ++ prev.p15, o.p19 ++ prev.p19, fun f => o.g14 (prev.g14 f), fun f => o.g16 (prev.g16 f)⟩) := by
  rw [trips.eq_2]; unfold tripsStep; exact dif_pos k.isLt

/-- Before trip `k`: the arrays read at their contents, the arrays written at what the trips before `k` left. -/
abbrev inv (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (e11 : BufTy.Contents (Elt F) arg11.view.ty) (e12 : BufTy.Contents (Elt F) arg12.view.ty) (e13 : BufTy.Contents (Elt F) arg13.view.ty) (e14 : BufTy.Contents (Elt F) arg14.view.ty) (e15 : BufTy.Contents (Elt F) arg15.view.ty) (e16 : BufTy.Contents (Elt F) arg16.view.ty) (e19 : BufTy.Contents (Elt F) arg19.view.ty) (k : ℕ) (_u : PUnit) : sProp 𝕄G :=
  iprop((arg6.view.loc (c : Thread nD τ) ↦[arg6.view.set]{fullShare} f6) ∗ (arg7.view.loc (c : Thread nD τ) ↦[arg7.view.set]{fullShare} f7) ∗ (arg9.view.loc (c : Thread nD τ) ↦[arg9.view.set]{fullShare} f9) ∗ (arg17.view.loc (c : Thread nD τ) ↦[arg17.view.set]{fullShare} f17) ∗ (arg18.view.loc (c : Thread nD τ) ↦[arg18.view.set]{fullShare} f18) ∗ (arg21.view.loc (c : Thread nD τ) ↦[arg21.view.set]{fullShare} f21) ∗ (arg22.view.loc (c : Thread nD τ) ↦[arg22.view.set]{fullShare} f22) ∗ (∃ f11 f12 f13 f14 f15 f16 f19, (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg19.view.loc (c : Thread nD τ) ↦[arg19.view.set]{fullShare} f19)
    ∗ ⌜f11 = arg11.view.writes (Elt F) e11 (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).p11⌝
    ∗ ⌜f12 = arg12.view.writes (Elt F) e12 (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).p12⌝
    ∗ ⌜f13 = arg13.view.writes (Elt F) e13 (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).p13⌝
    ∗ ⌜f14 = (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).g14 e14⌝
    ∗ ⌜f15 = arg15.view.writes (Elt F) e15 (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).p15⌝
    ∗ ⌜f16 = (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).g16 e16⌝
    ∗ ⌜f19 = arg19.view.writes (Elt F) e19 (trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).p19⌝))

/-- The loop by its invariant. -/
@[sl_loop] def loopInv (𝒱 : Variants) (c : Dev nD) (bd : Option 𝒱.V) (E : Set ℕ) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (e11 : BufTy.Contents (Elt F) arg11.view.ty) (e12 : BufTy.Contents (Elt F) arg12.view.ty) (e13 : BufTy.Contents (Elt F) arg13.view.ty) (e14 : BufTy.Contents (Elt F) arg14.view.ty) (e15 : BufTy.Contents (Elt F) arg15.view.ty) (e16 : BufTy.Contents (Elt F) arg16.view.ty) (e19 : BufTy.Contents (Elt F) arg19.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 where
  inv := inv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 e11 e12 e13 e14 e15 e16 e19
  step k acc := by
    iintro ⟨H6, H7, H9, H17, H18, H21, H22, ⟨%f11, %f12, %f13, %f14, %f15, %f16, %f19, H11, H12, H13, H14, H15, H16, H19, %h11, %h12, %h13, %h14, %h15, %h16, %h19⟩⟩
    iapply (wp_wand_r Idealize.ShloMosaic.frame (wpE (defs₀ (F := F)) 𝒱 (c : Thread nD τ) bd) E)
    isplitl [H6 H7 H9 H17 H18 H21 H22 H11 H12 H13 H14 H15 H16 H19]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).2 E f11 f12 f13 f14 f15 f16 f19)
      isplitl [H6]; · iexact H6
      isplitl [H7]; · iexact H7
      isplitl [H9]; · iexact H9
      isplitl [H17]; · iexact H17
      isplitl [H18]; · iexact H18
      isplitl [H21]; · iexact H21
      isplitl [H22]; · iexact H22
      isplitl [H11]; · iexact H11
      isplitl [H12]; · iexact H12
      isplitl [H13]; · iexact H13
      isplitl [H14]; · iexact H14
      isplitl [H15]; · iexact H15
      isplitl [H16]; · iexact H16
      iexact H19
    · iintro %_ ⟨H6, H7, H9, H17, H18, H21, H22, H11, H12, H13, H14, H15, H16, H19⟩
      isplitl [H6]; · iexact H6
      isplitl [H7]; · iexact H7
      isplitl [H9]; · iexact H9
      isplitl [H17]; · iexact H17
      isplitl [H18]; · iexact H18
      isplitl [H21]; · iexact H21
      isplitl [H22]; · iexact H22
      rw [trips_succ]
      iexists _, _, _, _, _, _, _
      isplitl [H11]; · iexact H11
      isplitl [H12]; · iexact H12
      isplitl [H13]; · iexact H13
      isplitl [H14]; · iexact H14
      isplitl [H15]; · iexact H15
      isplitl [H16]; · iexact H16
      isplitl [H19]; · iexact H19
      isplitr; · ipureintro; dsimp only; rw [View.writes_append, ← h11]
      isplitr; · ipureintro; dsimp only; rw [View.writes_append, ← h12]
      isplitr; · ipureintro; dsimp only; rw [View.writes_append, ← h13]
      isplitr; · ipureintro; dsimp only; rw [h14]
      isplitr; · ipureintro; dsimp only; rw [View.writes_append, ← h15]
      isplitr; · ipureintro; dsimp only; rw [h16]
      ipureintro; dsimp only; rw [View.writes_append, ← h19]

end Cert.Proof.KernelIdeal
-- ==== Proof.KernelIdeal.RunDefs.lean ====
/-
  One grid point of the kernel: what its body leaves in every buffer, for the first point, the points between and the
  last one.
-/
module

public import proofs.«01_k».proof.Proof.KernelIdeal.Trip
public import proofs.«01_k».proof.Proof.Gen.KernelIdeal.Loops

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The first point, by the condition under which the body stores the tile at once. -/
abbrev Cond2 (i : grid0.Coords) : Prop := Scalar.cmpi .ne (Scalar.extui (Scalar.cmpi .eq (BitVec.ofNat 32 (i 0).val) 0#32)) 0#32 = 1#1
/-- The last point. -/
abbrev Cond4 (i : grid0.Coords) : Prop := Scalar.cmpi .ne (Scalar.extui (Scalar.cmpi .eq (BitVec.ofNat 32 (i 0).val) 73#32)) 0#32 = 1#1

theorem cond2_iff : ∀ i : grid0.Coords, Cond2 i ↔ (i 0).val = 0 := by decide +kernel
theorem cond4_iff : ∀ i : grid0.Coords, Cond4 i ↔ (i 0).val = 73 := by decide +kernel

/-- Every buffer the body is given, at its contents. -/
abbrev Held (c : Dev nD) (arg1 : Memref sig .tc .smem S1 .i32) (arg2 : Memref sig .tc .vmem S1536x3584 .fp8e4m3) (arg3 : Memref sig .tc .vmem S6x256 .f32) (arg4 : Memref sig .tc .vmem S6x256 .f32) (arg5 : Memref sig .tc .vmem S1536x256 .fp8e5m2) (arg6 : Memref sig .tc .vmem S3584x256 .bf16) (arg7 : Memref sig .tc .vmem S3584x256 .fp8e4m3) (arg8 : Memref sig .tc .vmem S3584x148 .f32) (arg9 : Memref sig .tc .vmem S3584x256 .fp8e4m3) (arg10 : Memref sig .tc .vmem S3584x148 .f32) (arg11 : Memref sig .tc .vmem S3584x256 .bf16) (arg12 : Memref sig .tc .vmem S3584x256 .f32) (arg13 : Memref sig .tc .vmem S3584x256 .fp8e4m3) (arg14 : Memref sig .tc .vmem S3584x256 .f32) (arg15 : Memref sig .tc .vmem S3584x256 .fp8e4m3) (arg16 : Memref sig .tc .vmem S3584x256 .f32) (arg17 : Memref sig .tc .vmem S3584x1536 .bf16) (arg18 : Memref sig .tc .vmem S2x1536x256 .fp8e5m2) (arg19 : Memref sig .tc .vmem S256x256 .f32) (arg20 : Memref sig .tc .vmem S256x256 .f32) (arg21 : Memref sig .tc .vmem S3584x256 .bf16) (arg22 : Memref sig .tc .vmem S3584x256 .bf16) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) : sProp 𝕄G :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22))

/-- What the body works with at a point: the step count it reads, two numbers of the point, and the scratch arrays as
    the loop finds them. -/
structure RunOut (F : FTy → Type) [FloatOps F] [Named F] (arg17 : Memref sig .tc .vmem S3584x1536 .bf16) (arg18 : Memref sig .tc .vmem S2x1536x256 .fp8e5m2) (arg21 : Memref sig .tc .vmem S3584x256 .bf16) (arg22 : Memref sig .tc .vmem S3584x256 .bf16) where
  stp : Elt F .i32
  v0 : BitVec 32
  v59 : BitVec 32
  c17 : BufTy.Contents (Elt F) arg17.view.ty
  c18 : BufTy.Contents (Elt F) arg18.view.ty
  c21 : BufTy.Contents (Elt F) arg21.view.ty
  c22 : BufTy.Contents (Elt F) arg22.view.ty

/-- What all the trips of a point leave. -/
abbrev mainOut (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (f6 : BufTy.Contents (Elt F) arg6.view.ty) (f7 : BufTy.Contents (Elt F) arg7.view.ty) (f9 : BufTy.Contents (Elt F) arg9.view.ty) (o : RunOut F arg17 arg18 arg21 arg22) : TripOut F arg14 arg16 :=
  trips (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) o.v0 (k0_pay265 o.stp) (k0_pay266 o.stp) (iota .tc S32x128 32 [1] iota_S32x128_d1_w32) 2#32 o.v59 f6 f7 f9 o.c17 o.c18 o.c21 o.c22 (Scf.trips k0_t2_loop.lb k0_t2_loop.ub k0_t2_loop.st)

/-- The array of scales as the last point rewrites it. -/
abbrev last14 (arg14 : Memref sig .tc .vmem S3584x256 .f32) (f : BufTy.Contents (Elt F) arg14.view.ty) : BufTy.Contents (Elt F) arg14.view.ty :=
  arg14.view.writes (Elt F) f [⟨Rect.unit ![0, 0] S3584x256.size inb_S3584x256_S3584x256_0_0, k0_pay4 (View.readAt (Elt F) arg14.view (Rect.unit ![0, 0] S3584x256.size inb_S3584x256_S3584x256_0_0).toLoadRect f)⟩]

/-- The same for the second moment's scales. -/
abbrev last16 (arg16 : Memref sig .tc .vmem S3584x256 .f32) (f : BufTy.Contents (Elt F) arg16.view.ty) : BufTy.Contents (Elt F) arg16.view.ty :=
  arg16.view.writes (Elt F) f [⟨Rect.unit ![0, 0] S3584x256.size inb_S3584x256_S3584x256_0_0, k0_pay5 (View.readAt (Elt F) arg16.view (Rect.unit ![0, 0] S3584x256.size inb_S3584x256_S3584x256_0_0).toLoadRect f)⟩]

end Cert.Proof.KernelIdeal
-- ==== Proof.KernelIdeal.RunA.lean ====
/-
  A: one grid point of the kernel, run once.
-/
module

public import proofs.«01_k».proof.Proof.KernelIdeal.RunDefs
public import proofs.«01_k».proof.Proof.Gen.KernelIdeal.Loops

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The body at the first point. -/
@[irreducible] def runA (𝒱 : Variants) (c : Dev nD) (bd : Option 𝒱.V) (i : grid0.Coords) (hc1 : k0_cond1 i = 1#1) (hc2 : Cond2 i) (hc3 : ¬ k0_cond3 i = 1#1) (hc4 : ¬ Cond4 i) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f17 : BufTy.Contents (Elt F) arg17.view.ty) (f18 : BufTy.Contents (Elt F) arg18.view.ty) (f21 : BufTy.Contents (Elt F) arg21.view.ty) (f22 : BufTy.Contents (Elt F) arg22.view.ty) :
    { o : RunOut F arg17 arg18 arg21 arg22 // ∀ (E : Set ℕ) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f19 : BufTy.Contents (Elt F) arg19.view.ty) (f20 : BufTy.Contents (Elt F) arg20.view.ty),
      Held (F := F) c arg1 arg2 arg3 arg4 arg5 arg6 arg7 arg8 arg9 arg10 arg11 arg12 arg13 arg14 arg15 arg16 arg17 arg18 arg19 arg20 arg21 arg22 f1 f2 f3 f4 f5 f6 f7 f8 f9 f10 f11 f12 f13 f14 f15 f16 f17 f18 f19 f20 f21 f22
      ⊢ wp frame (wpE (defs₀ (F := F)) 𝒱 (c : Thread nD τ) bd) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
          (fun _ => Held (F := F) c arg1 arg2 arg3 arg4 arg5 arg6 arg7 arg8 arg9 arg10 arg11 arg12 arg13 arg14 arg15 arg16 arg17 arg18 arg19 arg20 arg21 arg22 f1 f2 f3 f4 f5 f6 f7 f8 f9 f10 (arg11.view.writes (Elt F) f11 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p11) (arg12.view.writes (Elt F) f12 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p12) (arg13.view.writes (Elt F) f13 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p13) ((mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).g14 f14) (arg15.view.writes (Elt F) f15 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p15) ((mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).g16 f16) o.c17 o.c18 (arg19.view.writes (Elt F) f19 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p19) f20 o.c21 o.c22) } := by
  have hi : (i 0).val < 74 := (i 0).isLt
  refine ⟨⟨?_, ?_, ?_, ?_, ?_, ?_, ?_⟩, fun E f11 f12 f13 f14 f15 f16 f19 f20 => ?run⟩
  case run =>
    rw [cc0__body_eq_skeleton]; unfold cc0__body_skel
    simp only [k0_part45_eq_skeleton]; unfold k0_part45_skel
    iintro ⟨H1, H2, H3, H4, H5, H6, H7, H8, H9, H10, H11, H12, H13, H14, H15, H16, H17, H18, H19, H20, H21, H22⟩
    sl_exec
    simp only [bind_assoc]
    sl_exec
    sl_step
    sl_close

end Cert.Proof.KernelIdeal
-- ==== Proof.KernelIdeal.RunB.lean ====
/-
  B: one grid point of the kernel, run once.
-/
module

public import proofs.«01_k».proof.Proof.KernelIdeal.RunDefs
public import proofs.«01_k».proof.Proof.Gen.KernelIdeal.Loops

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The body at a point between. -/
@[irreducible] def runB (𝒱 : Variants) (c : Dev nD) (bd : Option 𝒱.V) (i : grid0.Coords) (hc1 : ¬ k0_cond1 i = 1#1) (hc2 : ¬ Cond2 i) (hc3 : k0_cond3 i = 1#1) (hc4 : ¬ Cond4 i) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f17 : BufTy.Contents (Elt F) arg17.view.ty) (f18 : BufTy.Contents (Elt F) arg18.view.ty) (f21 : BufTy.Contents (Elt F) arg21.view.ty) (f22 : BufTy.Contents (Elt F) arg22.view.ty) :
    { o : RunOut F arg17 arg18 arg21 arg22 // ∀ (E : Set ℕ) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f19 : BufTy.Contents (Elt F) arg19.view.ty) (f20 : BufTy.Contents (Elt F) arg20.view.ty),
      Held (F := F) c arg1 arg2 arg3 arg4 arg5 arg6 arg7 arg8 arg9 arg10 arg11 arg12 arg13 arg14 arg15 arg16 arg17 arg18 arg19 arg20 arg21 arg22 f1 f2 f3 f4 f5 f6 f7 f8 f9 f10 f11 f12 f13 f14 f15 f16 f17 f18 f19 f20 f21 f22
      ⊢ wp frame (wpE (defs₀ (F := F)) 𝒱 (c : Thread nD τ) bd) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
          (fun _ => Held (F := F) c arg1 arg2 arg3 arg4 arg5 arg6 arg7 arg8 arg9 arg10 arg11 arg12 arg13 arg14 arg15 arg16 arg17 arg18 arg19 arg20 arg21 arg22 f1 f2 f3 f4 f5 f6 f7 f8 f9 f10 (arg11.view.writes (Elt F) f11 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p11) (arg12.view.writes (Elt F) f12 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p12) (arg13.view.writes (Elt F) f13 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p13) ((mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).g14 f14) (arg15.view.writes (Elt F) f15 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p15) ((mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).g16 f16) o.c17 o.c18 (arg19.view.writes (Elt F) f19 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p19) f20 o.c21 o.c22) } := by
  have hi : (i 0).val < 74 := (i 0).isLt
  refine ⟨⟨?_, ?_, ?_, ?_, ?_, ?_, ?_⟩, fun E f11 f12 f13 f14 f15 f16 f19 f20 => ?run⟩
  case run =>
    rw [cc0__body_eq_skeleton]; unfold cc0__body_skel
    simp only [k0_part45_eq_skeleton]; unfold k0_part45_skel
    iintro ⟨H1, H2, H3, H4, H5, H6, H7, H8, H9, H10, H11, H12, H13, H14, H15, H16, H17, H18, H19, H20, H21, H22⟩
    sl_exec
    sl_step
    sl_close

end Cert.Proof.KernelIdeal
-- ==== Proof.KernelIdeal.RunC.lean ====
/-
  C: one grid point of the kernel, run once.
-/
module

public import proofs.«01_k».proof.Proof.KernelIdeal.RunDefs
public import proofs.«01_k».proof.Proof.Gen.KernelIdeal.Loops

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The body at the last point. -/
@[irreducible] def runC (𝒱 : Variants) (c : Dev nD) (bd : Option 𝒱.V) (i : grid0.Coords) (hc1 : ¬ k0_cond1 i = 1#1) (hc2 : ¬ Cond2 i) (hc3 : k0_cond3 i = 1#1) (hc4 : Cond4 i) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f17 : BufTy.Contents (Elt F) arg17.view.ty) (f18 : BufTy.Contents (Elt F) arg18.view.ty) (f21 : BufTy.Contents (Elt F) arg21.view.ty) (f22 : BufTy.Contents (Elt F) arg22.view.ty) :
    { o : RunOut F arg17 arg18 arg21 arg22 // ∀ (E : Set ℕ) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f19 : BufTy.Contents (Elt F) arg19.view.ty) (f20 : BufTy.Contents (Elt F) arg20.view.ty),
      Held (F := F) c arg1 arg2 arg3 arg4 arg5 arg6 arg7 arg8 arg9 arg10 arg11 arg12 arg13 arg14 arg15 arg16 arg17 arg18 arg19 arg20 arg21 arg22 f1 f2 f3 f4 f5 f6 f7 f8 f9 f10 f11 f12 f13 f14 f15 f16 f17 f18 f19 f20 f21 f22
      ⊢ wp frame (wpE (defs₀ (F := F)) 𝒱 (c : Thread nD τ) bd) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
          (fun _ => Held (F := F) c arg1 arg2 arg3 arg4 arg5 arg6 arg7 arg8 arg9 arg10 arg11 arg12 arg13 arg14 arg15 arg16 arg17 arg18 arg19 arg20 arg21 arg22 f1 f2 f3 f4 f5 f6 f7 f8 f9 f10 (arg11.view.writes (Elt F) f11 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p11) (arg12.view.writes (Elt F) f12 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p12) (arg13.view.writes (Elt F) f13 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p13) (last14 (F := F) arg14 ((mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).g14 f14)) (arg15.view.writes (Elt F) f15 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p15) (last16 (F := F) arg16 ((mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).g16 f16)) o.c17 o.c18 (arg19.view.writes (Elt F) f19 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p19) f20 o.c21 o.c22) } := by
  have hi : (i 0).val < 74 := (i 0).isLt
  refine ⟨⟨?_, ?_, ?_, ?_, ?_, ?_, ?_⟩, fun E f11 f12 f13 f14 f15 f16 f19 f20 => ?run⟩
  case run =>
    rw [cc0__body_eq_skeleton]; unfold cc0__body_skel
    simp only [k0_part45_eq_skeleton]; unfold k0_part45_skel
    iintro ⟨H1, H2, H3, H4, H5, H6, H7, H8, H9, H10, H11, H12, H13, H14, H15, H16, H17, H18, H19, H20, H21, H22⟩
    sl_exec
    sl_step
    sl_unfold_words
    sl_close

end Cert.Proof.KernelIdeal
-- ==== Proof.KernelIdeal.RunAt.lean ====
/-
  One grid point of the kernel, whichever it is.
-/
module

public import proofs.«01_k».proof.Proof.KernelIdeal.RunA
public import proofs.«01_k».proof.Proof.KernelIdeal.RunB
public import proofs.«01_k».proof.Proof.KernelIdeal.RunC
public import proofs.«01_k».proof.Proof.Gen.KernelIdeal.Loops

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat RDat Cfg Window BodyObligation cellOf)
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

theorem cond1_of {i : grid0.Coords} (h : (i 0).val = 0) : k0_cond1 i = 1#1 := (cond1_iff i).2 h
theorem not_cond1_of {i : grid0.Coords} (h : ¬ (i 0).val = 0) : ¬ k0_cond1 i = 1#1 := fun q => h ((cond1_iff i).1 q)
theorem cond2_of {i : grid0.Coords} (h : (i 0).val = 0) : Cond2 i := (cond2_iff i).2 h
theorem not_cond2_of {i : grid0.Coords} (h : ¬ (i 0).val = 0) : ¬ Cond2 i := fun q => h ((cond2_iff i).1 q)
theorem cond3_of {i : grid0.Coords} (h : ¬ (i 0).val = 0) : k0_cond3 i = 1#1 := (cond3_iff i).2 h
theorem not_cond3_of {i : grid0.Coords} (h : (i 0).val = 0) : ¬ k0_cond3 i = 1#1 := fun q => (cond3_iff i).1 q h
theorem cond4_of {i : grid0.Coords} (h : (i 0).val = 73) : Cond4 i := (cond4_iff i).2 h
theorem not_cond4_of {i : grid0.Coords} (h : ¬ (i 0).val = 73) : ¬ Cond4 i := fun q => h ((cond4_iff i).1 q)

/-- The array of scales after a point: rewritten by the last point, as the trips left it by the others. -/
def fin14 (i : grid0.Coords) (arg14 : Memref sig .tc .vmem S3584x256 .f32) (f : BufTy.Contents (Elt F) arg14.view.ty) : BufTy.Contents (Elt F) arg14.view.ty :=
  if (i 0).val = 73 then last14 arg14 f else f

/-- The same for the second moment's scales. -/
def fin16 (i : grid0.Coords) (arg16 : Memref sig .tc .vmem S3584x256 .f32) (f : BufTy.Contents (Elt F) arg16.view.ty) : BufTy.Contents (Elt F) arg16.view.ty :=
  if (i 0).val = 73 then last16 arg16 f else f

/-- What the body works with at a point. -/
def runAt (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f17 : BufTy.Contents (Elt F) arg17.view.ty) (f18 : BufTy.Contents (Elt F) arg18.view.ty) (f21 : BufTy.Contents (Elt F) arg21.view.ty) (f22 : BufTy.Contents (Elt F) arg22.view.ty) : RunOut F arg17 arg18 arg21 arg22 :=
  if h0 : (i 0).val = 0 then (runA (F := F) 𝒱 c bd i (cond1_of h0) (cond2_of h0) (not_cond3_of h0) (not_cond4_of (by omega)) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22).1
  else if h1 : (i 0).val = 73 then (runC (F := F) 𝒱 c bd i (not_cond1_of h0) (not_cond2_of h0) (cond3_of h0) (cond4_of h1) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22).1
  else (runB (F := F) 𝒱 c bd i (not_cond1_of h0) (not_cond2_of h0) (cond3_of h0) (not_cond4_of h1) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22).1

/-- The body runs at every point, and leaves what `runAt` and the trips say. -/
theorem runAt_triple (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f17 : BufTy.Contents (Elt F) arg17.view.ty) (f18 : BufTy.Contents (Elt F) arg18.view.ty) (f21 : BufTy.Contents (Elt F) arg21.view.ty) (f22 : BufTy.Contents (Elt F) arg22.view.ty) (o : RunOut F arg17 arg18 arg21 arg22)
    (ho : o = runAt (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22) (E : Set ℕ) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f19 : BufTy.Contents (Elt F) arg19.view.ty) (f20 : BufTy.Contents (Elt F) arg20.view.ty) :
      Held (F := F) c arg1 arg2 arg3 arg4 arg5 arg6 arg7 arg8 arg9 arg10 arg11 arg12 arg13 arg14 arg15 arg16 arg17 arg18 arg19 arg20 arg21 arg22 f1 f2 f3 f4 f5 f6 f7 f8 f9 f10 f11 f12 f13 f14 f15 f16 f17 f18 f19 f20 f21 f22
      ⊢ wp frame (wpE (defs₀ (F := F)) 𝒱 (c : Thread nD τ) bd) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
          (fun _ => Held (F := F) c arg1 arg2 arg3 arg4 arg5 arg6 arg7 arg8 arg9 arg10 arg11 arg12 arg13 arg14 arg15 arg16 arg17 arg18 arg19 arg20 arg21 arg22 f1 f2 f3 f4 f5 f6 f7 f8 f9 f10 (arg11.view.writes (Elt F) f11 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p11) (arg12.view.writes (Elt F) f12 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p12) (arg13.view.writes (Elt F) f13 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p13) (fin14 (F := F) i arg14 ((mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).g14 f14)) (arg15.view.writes (Elt F) f15 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p15) (fin16 (F := F) i arg16 ((mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).g16 f16)) o.c17 o.c18 (arg19.view.writes (Elt F) f19 (mainOut (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p19) f20 o.c21 o.c22) := by
  unfold runAt at ho
  by_cases h0 : (i 0).val = 0
  · rw [dif_pos h0] at ho
    have h1 : ¬ (i 0).val = 73 := by omega
    rw [fin14, fin16, if_neg h1, if_neg h1, ho]
    exact (runA (F := F) 𝒱 c bd i (cond1_of h0) (cond2_of h0) (not_cond3_of h0) (not_cond4_of (by omega)) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22).2 E f11 f12 f13 f14 f15 f16 f19 f20
  · rw [dif_neg h0] at ho
    by_cases h1 : (i 0).val = 73
    · rw [dif_pos h1] at ho
      rw [fin14, fin16, if_pos h1, if_pos h1, ho]
      exact (runC (F := F) 𝒱 c bd i (not_cond1_of h0) (not_cond2_of h0) (cond3_of h0) (cond4_of h1) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22).2 E f11 f12 f13 f14 f15 f16 f19 f20
    · rw [dif_neg h1] at ho
      rw [fin14, fin16, if_neg h1, if_neg h1, ho]
      exact (runB (F := F) 𝒱 c bd i (not_cond1_of h0) (not_cond2_of h0) (cond3_of h0) (not_cond4_of h1) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22).2 E f11 f12 f13 f14 f15 f16 f19 f20

end Cert.Proof.KernelIdeal
-- ==== Proof.KernelIdeal.Launch.lean ====
/-
  The launch: from what one point does to what the whole run leaves. The relations between what a point finds in an
  output window and what it leaves there, and what is known of the scratch arrays between points, are parameters here.
-/
module

public import proofs.«01_k».proof.Proof.KernelIdeal.RunAt
public import proofs.«01_k».proof.Proof.Gen.KernelIdeal.Frame
public import proofs.«01_k».proof.Proof.Gen.KernelIdeal.Loops

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat RDat Cfg Window BodyObligation cellOf)
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- What holds between points: the scratch arrays at contents of which `I` holds, and the generator's register. -/
def Between (I : Dev nD → Fin (cfg0.N + 1) → BufTy.Contents (Elt F) (Memref.whole cc0_scratch0 : Memref sig .tc .vmem S3584x1536 .bf16).view.ty → BufTy.Contents (Elt F) (Memref.whole cc0_scratch1 : Memref sig .tc .vmem S2x1536x256 .fp8e5m2).view.ty → BufTy.Contents (Elt F) (Memref.whole cc0_scratch4 : Memref sig .tc .vmem S3584x256 .bf16).view.ty → BufTy.Contents (Elt F) (Memref.whole cc0_scratch5 : Memref sig .tc .vmem S3584x256 .bf16).view.ty → Prop) (c : Dev nD) (t : Fin (cfg0.N + 1)) : sProp 𝕄G :=
  iprop(∃ (f17 : BufTy.Contents (Elt F) (Memref.whole cc0_scratch0 : Memref sig .tc .vmem S3584x1536 .bf16).view.ty) (f18 : BufTy.Contents (Elt F) (Memref.whole cc0_scratch1 : Memref sig .tc .vmem S2x1536x256 .fp8e5m2).view.ty) (f19 : BufTy.Contents (Elt F) (Memref.whole cc0_scratch2 : Memref sig .tc .vmem S256x256 .f32).view.ty) (f20 : BufTy.Contents (Elt F) (Memref.whole cc0_scratch3 : Memref sig .tc .vmem S256x256 .f32).view.ty) (f21 : BufTy.Contents (Elt F) (Memref.whole cc0_scratch4 : Memref sig .tc .vmem S3584x256 .bf16).view.ty) (f22 : BufTy.Contents (Elt F) (Memref.whole cc0_scratch5 : Memref sig .tc .vmem S3584x256 .bf16).view.ty), ⌜I c t f17 f18 f21 f22⌝ ∗ ((Memref.whole cc0_scratch0 : Memref sig .tc .vmem S3584x1536 .bf16).view.loc (c : Thread nD τ) ↦[(Memref.whole cc0_scratch0 : Memref sig .tc .vmem S3584x1536 .bf16).view.set]{fullShare} f17) ∗ ((Memref.whole cc0_scratch1 : Memref sig .tc .vmem S2x1536x256 .fp8e5m2).view.loc (c : Thread nD τ) ↦[(Memref.whole cc0_scratch1 : Memref sig .tc .vmem S2x1536x256 .fp8e5m2).view.set]{fullShare} f18) ∗ ((Memref.whole cc0_scratch2 : Memref sig .tc .vmem S256x256 .f32).view.loc (c : Thread nD τ) ↦[(Memref.whole cc0_scratch2 : Memref sig .tc .vmem S256x256 .f32).view.set]{fullShare} f19) ∗ ((Memref.whole cc0_scratch3 : Memref sig .tc .vmem S256x256 .f32).view.loc (c : Thread nD τ) ↦[(Memref.whole cc0_scratch3 : Memref sig .tc .vmem S256x256 .f32).view.set]{fullShare} f20) ∗ ((Memref.whole cc0_scratch4 : Memref sig .tc .vmem S3584x256 .bf16).view.loc (c : Thread nD τ) ↦[(Memref.whole cc0_scratch4 : Memref sig .tc .vmem S3584x256 .bf16).view.set]{fullShare} f21) ∗ ((Memref.whole cc0_scratch5 : Memref sig .tc .vmem S3584x256 .bf16).view.loc (c : Thread nD τ) ↦[(Memref.whole cc0_scratch5 : Memref sig .tc .vmem S3584x256 .bf16).view.set]{fullShare} f22) ∗ (∃ r, prngReg c r))

/-- The launch's proof data. -/
def rdat (I : Dev nD → Fin (cfg0.N + 1) → BufTy.Contents (Elt F) (Memref.whole cc0_scratch0 : Memref sig .tc .vmem S3584x1536 .bf16).view.ty → BufTy.Contents (Elt F) (Memref.whole cc0_scratch1 : Memref sig .tc .vmem S2x1536x256 .fp8e5m2).view.ty → BufTy.Contents (Elt F) (Memref.whole cc0_scratch4 : Memref sig .tc .vmem S3584x256 .bf16).view.ty → BufTy.Contents (Elt F) (Memref.whole cc0_scratch5 : Memref sig .tc .vmem S3584x256 .bf16).view.ty → Prop)
    (R10 : Dev nD → Fin cfg0.N → ((cfg0.win 10).block.Idx → Elt F (cfg0.win 10).elt) → ((cfg0.win 10).block.Idx → Elt F (cfg0.win 10).elt) → Prop)
    (R11 : Dev nD → Fin cfg0.N → ((cfg0.win 11).block.Idx → Elt F (cfg0.win 11).elt) → ((cfg0.win 11).block.Idx → Elt F (cfg0.win 11).elt) → Prop)
    (R12 : Dev nD → Fin cfg0.N → ((cfg0.win 12).block.Idx → Elt F (cfg0.win 12).elt) → ((cfg0.win 12).block.Idx → Elt F (cfg0.win 12).elt) → Prop)
    (R13 : Dev nD → Fin cfg0.N → ((cfg0.win 13).block.Idx → Elt F (cfg0.win 13).elt) → ((cfg0.win 13).block.Idx → Elt F (cfg0.win 13).elt) → Prop)
    (R14 : Dev nD → Fin cfg0.N → ((cfg0.win 14).block.Idx → Elt F (cfg0.win 14).elt) → ((cfg0.win 14).block.Idx → Elt F (cfg0.win 14).elt) → Prop)
    (R15 : Dev nD → Fin cfg0.N → ((cfg0.win 15).block.Idx → Elt F (cfg0.win 15).elt) → ((cfg0.win 15).block.Idx → Elt F (cfg0.win 15).elt) → Prop)
    (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => X = Y
    | ⟨9, _⟩ => X = Y
    | ⟨10, _⟩ => R10 c t Y X
    | ⟨11, _⟩ => R11 c t Y X
    | ⟨12, _⟩ => R12 c t Y X
    | ⟨13, _⟩ => R13 c t Y X
    | ⟨14, _⟩ => R14 c t Y X
    | ⟨15, _⟩ => R15 c t Y X
    | ⟨_ + 16, h⟩ => absurd h (Nat.not_lt.2 (Nat.le_add_left _ _))
  Φ t := Between I c t
  q _ := fullShare
  owed _ := 0

/-- What a point must be shown to do: from the windows' contents and scratch arrays of which `I` holds, every output
    window is left as its relation says, and `I` holds again. -/
def Step (I : Dev nD → Fin (cfg0.N + 1) → BufTy.Contents (Elt F) (Memref.whole cc0_scratch0 : Memref sig .tc .vmem S3584x1536 .bf16).view.ty → BufTy.Contents (Elt F) (Memref.whole cc0_scratch1 : Memref sig .tc .vmem S2x1536x256 .fp8e5m2).view.ty → BufTy.Contents (Elt F) (Memref.whole cc0_scratch4 : Memref sig .tc .vmem S3584x256 .bf16).view.ty → BufTy.Contents (Elt F) (Memref.whole cc0_scratch5 : Memref sig .tc .vmem S3584x256 .bf16).view.ty → Prop)
    (R10 : Dev nD → Fin cfg0.N → ((cfg0.win 10).block.Idx → Elt F (cfg0.win 10).elt) → ((cfg0.win 10).block.Idx → Elt F (cfg0.win 10).elt) → Prop)
    (R11 : Dev nD → Fin cfg0.N → ((cfg0.win 11).block.Idx → Elt F (cfg0.win 11).elt) → ((cfg0.win 11).block.Idx → Elt F (cfg0.win 11).elt) → Prop)
    (R12 : Dev nD → Fin cfg0.N → ((cfg0.win 12).block.Idx → Elt F (cfg0.win 12).elt) → ((cfg0.win 12).block.Idx → Elt F (cfg0.win 12).elt) → Prop)
    (R13 : Dev nD → Fin cfg0.N → ((cfg0.win 13).block.Idx → Elt F (cfg0.win 13).elt) → ((cfg0.win 13).block.Idx → Elt F (cfg0.win 13).elt) → Prop)
    (R14 : Dev nD → Fin cfg0.N → ((cfg0.win 14).block.Idx → Elt F (cfg0.win 14).elt) → ((cfg0.win 14).block.Idx → Elt F (cfg0.win 14).elt) → Prop)
    (R15 : Dev nD → Fin cfg0.N → ((cfg0.win 15).block.Idx → Elt F (cfg0.win 15).elt) → ((cfg0.win 15).block.Idx → Elt F (cfg0.win 15).elt) → Prop) : Prop :=
  ∀ (c : Dev nD) (t : Fin cfg0.N) (Y : (w : Fin cfg0.W) → (cfg0.win w).block.Idx → Elt F (cfg0.win w).elt),
    (∀ w, (rdat m I R10 R11 R12 R13 R14 R15 c).Finds w t (Y w)) →
    ∀ (f1 : BufTy.Contents (Elt F) (st0_0 t).view.ty) (f2 : BufTy.Contents (Elt F) (st0_1 t).view.ty) (f3 : BufTy.Contents (Elt F) (st0_2 t).view.ty) (f4 : BufTy.Contents (Elt F) (st0_3 t).view.ty) (f5 : BufTy.Contents (Elt F) (st0_4 t).view.ty) (f6 : BufTy.Contents (Elt F) (st0_5 t).view.ty) (f7 : BufTy.Contents (Elt F) (st0_6 t).view.ty) (f8 : BufTy.Contents (Elt F) (st0_7 t).view.ty) (f9 : BufTy.Contents (Elt F) (st0_8 t).view.ty) (f10 : BufTy.Contents (Elt F) (st0_9 t).view.ty) (f11 : BufTy.Contents (Elt F) (st0_10 t).view.ty) (f12 : BufTy.Contents (Elt F) (st0_11 t).view.ty) (f13 : BufTy.Contents (Elt F) (st0_12 t).view.ty) (f14 : BufTy.Contents (Elt F) (st0_13 t).view.ty) (f15 : BufTy.Contents (Elt F) (st0_14 t).view.ty) (f16 : BufTy.Contents (Elt F) (st0_15 t).view.ty) (f17 : BufTy.Contents (Elt F) (Memref.whole cc0_scratch0 : Memref sig .tc .vmem S3584x1536 .bf16).view.ty) (f18 : BufTy.Contents (Elt F) (Memref.whole cc0_scratch1 : Memref sig .tc .vmem S2x1536x256 .fp8e5m2).view.ty) (f21 : BufTy.Contents (Elt F) (Memref.whole cc0_scratch4 : Memref sig .tc .vmem S3584x256 .bf16).view.ty) (f22 : BufTy.Contents (Elt F) (Memref.whole cc0_scratch5 : Memref sig .tc .vmem S3584x256 .bf16).view.ty)
      (o : RunOut F (Memref.whole cc0_scratch0) (Memref.whole cc0_scratch1) (Memref.whole cc0_scratch4) (Memref.whole cc0_scratch5)),
    (st0_0 t).view.read (Elt F) f1 = Y 0 → (st0_1 t).view.read (Elt F) f2 = Y 1 → (st0_2 t).view.read (Elt F) f3 = Y 2 → (st0_3 t).view.read (Elt F) f4 = Y 3 → (st0_4 t).view.read (Elt F) f5 = Y 4 → (st0_5 t).view.read (Elt F) f6 = Y 5 → (st0_6 t).view.read (Elt F) f7 = Y 6 → (st0_7 t).view.read (Elt F) f8 = Y 7 → (st0_8 t).view.read (Elt F) f9 = Y 8 → (st0_9 t).view.read (Elt F) f10 = Y 9 → (st0_10 t).view.read (Elt F) f11 = Y 10 → (st0_11 t).view.read (Elt F) f12 = Y 11 → (st0_12 t).view.read (Elt F) f13 = Y 12 → (st0_13 t).view.read (Elt F) f14 = Y 13 → (st0_14 t).view.read (Elt F) f15 = Y 14 → (st0_15 t).view.read (Elt F) f16 = Y 15 →
    I c t.castSucc f17 f18 f21 f22 →
    o = runAt (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f6 f7 f8 f9 f10 f17 f18 f21 f22 →
    R10 c t (Y 10) ((st0_10 t).view.read (Elt F) ((st0_10 t).view.writes (Elt F) f11 (mainOut (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f6 f7 f9 o).p11)) ∧ R11 c t (Y 11) ((st0_11 t).view.read (Elt F) ((st0_11 t).view.writes (Elt F) f12 (mainOut (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f6 f7 f9 o).p12)) ∧ R12 c t (Y 12) ((st0_12 t).view.read (Elt F) ((st0_12 t).view.writes (Elt F) f13 (mainOut (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f6 f7 f9 o).p13)) ∧ R13 c t (Y 13) ((st0_13 t).view.read (Elt F) (fin14 (F := F) (grid0.coords t) (st0_13 t) ((mainOut (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f6 f7 f9 o).g14 f14))) ∧ R14 c t (Y 14) ((st0_14 t).view.read (Elt F) ((st0_14 t).view.writes (Elt F) f15 (mainOut (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f6 f7 f9 o).p15)) ∧ R15 c t (Y 15) ((st0_15 t).view.read (Elt F) (fin16 (F := F) (grid0.coords t) (st0_15 t) ((mainOut (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f6 f7 f9 o).g16 f16)))
      ∧ I c t.succ o.c17 o.c18 o.c21 o.c22

variable {m} {I : Dev nD → Fin (cfg0.N + 1) → BufTy.Contents (Elt F) (Memref.whole cc0_scratch0 : Memref sig .tc .vmem S3584x1536 .bf16).view.ty → BufTy.Contents (Elt F) (Memref.whole cc0_scratch1 : Memref sig .tc .vmem S2x1536x256 .fp8e5m2).view.ty → BufTy.Contents (Elt F) (Memref.whole cc0_scratch4 : Memref sig .tc .vmem S3584x256 .bf16).view.ty → BufTy.Contents (Elt F) (Memref.whole cc0_scratch5 : Memref sig .tc .vmem S3584x256 .bf16).view.ty → Prop}
    {R10 : Dev nD → Fin cfg0.N → ((cfg0.win 10).block.Idx → Elt F (cfg0.win 10).elt) → ((cfg0.win 10).block.Idx → Elt F (cfg0.win 10).elt) → Prop}
    {R11 : Dev nD → Fin cfg0.N → ((cfg0.win 11).block.Idx → Elt F (cfg0.win 11).elt) → ((cfg0.win 11).block.Idx → Elt F (cfg0.win 11).elt) → Prop}
    {R12 : Dev nD → Fin cfg0.N → ((cfg0.win 12).block.Idx → Elt F (cfg0.win 12).elt) → ((cfg0.win 12).block.Idx → Elt F (cfg0.win 12).elt) → Prop}
    {R13 : Dev nD → Fin cfg0.N → ((cfg0.win 13).block.Idx → Elt F (cfg0.win 13).elt) → ((cfg0.win 13).block.Idx → Elt F (cfg0.win 13).elt) → Prop}
    {R14 : Dev nD → Fin cfg0.N → ((cfg0.win 14).block.Idx → Elt F (cfg0.win 14).elt) → ((cfg0.win 14).block.Idx → Elt F (cfg0.win 14).elt) → Prop}
    {R15 : Dev nD → Fin cfg0.N → ((cfg0.win 15).block.Idx → Elt F (cfg0.win 15).elt) → ((cfg0.win 15).block.Idx → Elt F (cfg0.win 15).elt) → Prop}

/-- The body table's row at a point is the body. -/
theorem defs₀_row (t : Fin cfg0.N) :
    defs₀ (F := F) .tc cfg0.body (cfg0.bodyArgs t (cfg0.slots t)) = bodyAt0 t := by
  unfold defs₀; rw [Defs.onTc_tc]

theorem sound_body (h : Step m I R10 R11 R12 R13 R14 R15) (c : Dev nD) (t : Fin cfg0.N) (Y : (w : Fin cfg0.W) → (cfg0.win w).block.Idx → Elt F (cfg0.win w).elt)
    (hY : ∀ w, (rdat m I R10 R11 R12 R13 R14 R15 c).Finds w t (Y w)) :
    iprop(Between I c t.castSucc ∗ (rdat m I R10 R11 R12 R13 R14 R15 c).owesAt () t.castSucc
      ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13) ∗ owns (c : Thread nD τ) (st0_14 t) fullShare (Y 14) ∗ owns (c : Thread nD τ) (st0_15 t) fullShare (Y 15))
    ⊢ wp frame (wpE (defs₀ (F := F)) Variants.none c none) Set.univ (bodyAt0 t) (fun _ =>
      iprop(Between I c t.succ ∗ (rdat m I R10 R11 R12 R13 R14 R15 c).owesAt () t.succ
      ∗ (∃ X, ⌜X = Y 0⌝ ∗ owns (c : Thread nD τ) (st0_0 t) fullShare X) ∗ (∃ X, ⌜X = Y 1⌝ ∗ owns (c : Thread nD τ) (st0_1 t) fullShare X) ∗ (∃ X, ⌜X = Y 2⌝ ∗ owns (c : Thread nD τ) (st0_2 t) fullShare X) ∗ (∃ X, ⌜X = Y 3⌝ ∗ owns (c : Thread nD τ) (st0_3 t) fullShare X) ∗ (∃ X, ⌜X = Y 4⌝ ∗ owns (c : Thread nD τ) (st0_4 t) fullShare X) ∗ (∃ X, ⌜X = Y 5⌝ ∗ owns (c : Thread nD τ) (st0_5 t) fullShare X) ∗ (∃ X, ⌜X = Y 6⌝ ∗ owns (c : Thread nD τ) (st0_6 t) fullShare X) ∗ (∃ X, ⌜X = Y 7⌝ ∗ owns (c : Thread nD τ) (st0_7 t) fullShare X) ∗ (∃ X, ⌜X = Y 8⌝ ∗ owns (c : Thread nD τ) (st0_8 t) fullShare X) ∗ (∃ X, ⌜X = Y 9⌝ ∗ owns (c : Thread nD τ) (st0_9 t) fullShare X)
      ∗ (∃ X, ⌜R10 c t (Y 10) X⌝ ∗ owns (c : Thread nD τ) (st0_10 t) fullShare X) ∗ (∃ X, ⌜R11 c t (Y 11) X⌝ ∗ owns (c : Thread nD τ) (st0_11 t) fullShare X) ∗ (∃ X, ⌜R12 c t (Y 12) X⌝ ∗ owns (c : Thread nD τ) (st0_12 t) fullShare X) ∗ (∃ X, ⌜R13 c t (Y 13) X⌝ ∗ owns (c : Thread nD τ) (st0_13 t) fullShare X) ∗ (∃ X, ⌜R14 c t (Y 14) X⌝ ∗ owns (c : Thread nD τ) (st0_14 t) fullShare X) ∗ (∃ X, ⌜R15 c t (Y 15) X⌝ ∗ owns (c : Thread nD τ) (st0_15 t) fullShare X))) := by
  unfold Between owns
  rw [show (rdat m I R10 R11 R12 R13 R14 R15 c).owesAt () t.succ = (rdat m I R10 R11 R12 R13 R14 R15 c).owesAt () t.castSucc from rfl]
  iintro ⟨⟨%f17, %f18, %f19, %f20, %f21, %f22, %hI, H17, H18, H19, H20, H21, H22, HR⟩, Ho, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩⟩
  have hs := h c t Y hY f1 f2 f3 f4 f5 f6 f7 f8 f9 f10 f11 f12 f13 f14 f15 f16 f17 f18 f21 f22 _ h1 h2 h3 h4 h5 h6 h7 h8 h9 h10 h11 h12 h13 h14 h15 h16 hI rfl
  have ht := runAt_triple (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f1 f2 f3 f4 f5 f6 f7 f8 f9 f10 f17 f18 f21 f22 _ rfl Set.univ f11 f12 f13 f14 f15 f16 f19 f20
  obtain ⟨k11, k12, k13, k14, k15, k16, kI⟩ := hs
  iapply (wp_wand frame (wpE (defs₀ (F := F)) Variants.none c none) Set.univ) $$ [H1 H2 H3 H4 H5 H6 H7 H8 H9 H10 H11 H12 H13 H14 H15 H16 H17 H18 H19 H20 H21 H22]
  · iapply ht
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  iintro %_ ⟨H1, H2, H3, H4, H5, H6, H7, H8, H9, H10, H11, H12, H13, H14, H15, H16, H17, H18, H19, H20, H21, H22⟩
  isplitl [H17 H18 H19 H20 H21 H22 HR]
  · iexists _, _, _, _, _, _
    isplitr
    · ipureintro; exact kI
    iframe
  isplitl [Ho]; · iexact Ho
  isplitl [H1]
  · iexists _; isplitr
    swap; · iexists _; isplitr
            swap; · iexact H1
            ipureintro; rfl
    ipureintro; exact h1
  isplitl [H2]
  · iexists _; isplitr
    swap; · iexists _; isplitr
            swap; · iexact H2
            ipureintro; rfl
    ipureintro; exact h2
  isplitl [H3]
  · iexists _; isplitr
    swap; · iexists _; isplitr
            swap; · iexact H3
            ipureintro; rfl
    ipureintro; exact h3
  isplitl [H4]
  · iexists _; isplitr
    swap; · iexists _; isplitr
            swap; · iexact H4
            ipureintro; rfl
    ipureintro; exact h4
  isplitl [H5]
  · iexists _; isplitr
    swap; · iexists _; isplitr
            swap; · iexact H5
            ipureintro; rfl
    ipureintro; exact h5
  isplitl [H6]
  · iexists _; isplitr
    swap; · iexists _; isplitr
            swap; · iexact H6
            ipureintro; rfl
    ipureintro; exact h6
  isplitl [H7]
  · iexists _; isplitr
    swap; · iexists _; isplitr
            swap; · iexact H7
            ipureintro; rfl
    ipureintro; exact h7
  isplitl [H8]
  · iexists _; isplitr
    swap; · iexists _; isplitr
            swap; · iexact H8
            ipureintro; rfl
    ipureintro; exact h8
  isplitl [H9]
  · iexists _; isplitr
    swap; · iexists _; isplitr
            swap; · iexact H9
            ipureintro; rfl
    ipureintro; exact h9
  isplitl [H10]
  · iexists _; isplitr
    swap; · iexists _; isplitr
            swap; · iexact H10
            ipureintro; rfl
    ipureintro; exact h10
  isplitl [H11]
  · iexists _; isplitr
    swap; · iexists _; isplitr
            swap; · iexact H11
            ipureintro; rfl
    ipureintro; exact k11
  isplitl [H12]
  · iexists _; isplitr
    swap; · iexists _; isplitr
            swap; · iexact H12
            ipureintro; rfl
    ipureintro; exact k12
  isplitl [H13]
  · iexists _; isplitr
    swap; · iexists _; isplitr
            swap; · iexact H13
            ipureintro; rfl
    ipureintro; exact k13
  isplitl [H14]
  · iexists _; isplitr
    swap; · iexists _; isplitr
            swap; · iexact H14
            ipureintro; rfl
    ipureintro; exact k14
  isplitl [H15]
  · iexists _; isplitr
    swap; · iexists _; isplitr
            swap; · iexact H15
            ipureintro; rfl
    ipureintro; exact k15
  iexists _; isplitr
  swap; · iexists _; isplitr
          swap; · iexact H16
          ipureintro; rfl
  ipureintro; exact k16

/-- The obligation of the body, at every point. -/
theorem body_obligation (h : Step m I R10 R11 R12 R13 R14 R15) (c : Dev nD) :
    (rdat m I R10 R11 R12 R13 R14 R15 c).BodyObligation (defs₀ (F := F)) Variants.none () Set.univ := fun t Y hY => by
  rw [bigSep_W0, bigSep_W0, defs₀_row]
  exact triple_restated (sound_body h c t Y hY) rfl .rfl fun _ => .rfl

theorem between_in (hI : ∀ c f17 f18 f21 f22, I c 0 f17 f18 f21 f22) (c : Dev nD) :
    (Pipeline.ΦA spec0 c : sProp 𝕄G) ⊢ Between I c 0 := by
  unfold Pipeline.ΦA Between
  rw [scopedRest0_eq]
  simp only [Memref.view_whole, View.set_whole]
  iintro ⟨⟨⟨%f17, H17⟩, ⟨%f18, H18⟩, ⟨%f19, H19⟩, ⟨%f20, H20⟩, ⟨%f21, H21⟩, ⟨%f22, H22⟩⟩, HR⟩
  iexists f17, f18, f19, f20, f21, f22
  isplitr
  · ipureintro; exact hI c _ _ _ _
  iframe

theorem between_out (c : Dev nD) (t : Fin (cfg0.N + 1)) :
    Between I c t ⊢ (Pipeline.ΦA spec0 c : sProp 𝕄G) := by
  unfold Pipeline.ΦA Between
  rw [scopedRest0_eq]
  simp only [Memref.view_whole, View.set_whole]
  iintro ⟨%f17, %f18, %f19, %f20, %f21, %f22, -, H17, H18, H19, H20, H21, H22, HR⟩
  isplitr [HR]
  · isplitl [H17]; · iexists f17; iexact H17
    isplitl [H18]; · iexists f18; iexact H18
    isplitl [H19]; · iexists f19; iexact H19
    isplitl [H20]; · iexists f20; iexact H20
    isplitl [H21]; · iexists f21; iexact H21
    iexists f22; iexact H22
  iexact HR

set_option backward.isDefEq.respectTransparency.types false in
/-- The run: every array ends as the relations say, nothing else is written, and every counter is zero. -/
theorem run_main (h : Step m I R10 R11 R12 R13 R14 R15) (hI : ∀ c f17 f18 f21 f22, I c 0 f17 f18 f21 f22) :
    θ_run defs (onTc (τ := τ) (main (F := F))) (s₀ m ρ) (fun r => RDat.FramePost cfg0 (rdat m I R10 R11 R12 R13 R14 R15) (V m) r ∧ r.2.sem = fun _ => 0) :=
  RDat.θ_run_frame_track (Q' := _) cfgs (0 : Fin 1) launch0 defs₀ Variants.none (rdat m I R10 R11 R12 R13 R14 R15) m ρ main
    (hbody := body_obligation h) (hshare := fun c => (rdat m I R10 R11 R12 R13 R14 R15 c).share_full fun _ => rfl) (howed := fun _ _ => rfl)
    (V := V m) (hmain := hmain m Variants.none) (hA := fun _ _ => rfl)
    (hin := between_in hI) (hout := fun c => between_out c _)

/-- The argument arrays end as launched, and every counter is zero. -/
theorem frame_of_step (h : Step m I R10 R11 R12 R13 R14 R15) (hI : ∀ c f17 f18 f21 f22, I c 0 f17 f18 f21 f22) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨((h.1 c).2 main_arg0 (Pipeline.mem_restRefs_of main_arg0 (by decide) (by decide))).trans (V_main_arg0 m c), (h.1.arr_in c 2 rfl).trans (V_main_arg1 m c), ((h.1 c).2 main_arg2 (Pipeline.mem_restRefs_of main_arg2 (by decide) (by decide))).trans (V_main_arg2 m c), (h.1.arr_in c 3 rfl).trans (V_main_arg3 m c), (h.1.arr_in c 5 rfl).trans (V_main_arg4 m c), (h.1.arr_in c 6 rfl).trans (V_main_arg5 m c), (h.1.arr_in c 7 rfl).trans (V_main_arg6 m c), (h.1.arr_in c 8 rfl).trans (V_main_arg7 m c), (h.1.arr_in c 9 rfl).trans (V_main_arg8 m c), ((h.1 c).2 main_arg9 (Pipeline.mem_restRefs_of main_arg9 (by decide) (by decide))).trans (V_main_arg9 m c)⟩, h.2⟩) (run_main ρ h hI)

end Cert.Proof.KernelIdeal
-- ==== Proof.KernelIdeal.FrameMain.lean ====
/-
  The frame: nothing is said of what the output windows hold.
-/
module

public import proofs.«01_k».proof.Proof.KernelIdeal.Launch
public import proofs.«01_k».proof.Proof.Gen.KernelIdeal.Loops

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat RDat Cfg Window BodyObligation cellOf)
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The argument arrays end as launched, and every counter is zero. -/
theorem frame_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  frame_of_step (I := fun _ _ _ _ _ _ => True) (R10 := fun _ _ _ _ => True) (R11 := fun _ _ _ _ => True) (R12 := fun _ _ _ _ => True) (R13 := fun _ _ _ _ => True) (R14 := fun _ _ _ _ => True) (R15 := fun _ _ _ _ => True) ρ
    (fun _ _ _ _ _ _ _ _ _ _ _ _ _ _ _ _ _ _ _ _ _ _ _ _ _ _ _ _ _ _ _ _ _ _ _ _ _ _ _ _ _ _ _ => ⟨trivial, trivial, trivial, trivial, trivial, trivial, trivial⟩) (fun _ _ _ _ _ => trivial)

end Cert.Proof.KernelIdeal
-- ==== Proof.Scalars.lean ====
/-
  The scalar equations over the extended reals behind the claim: what one entry is in the kernel's units (the first
  moment times ten, the second times a thousand), and what it is as the reference writes it.
-/
module

public import Idealize.ShloMosaic.Lib.Pointwise
public import Idealize.ShloMosaic.Lib.IdealHost
public import Mathlib.Analysis.SpecialFunctions.Pow.Real

@[expose] public section

noncomputable section

namespace Cert.Proof.Scal

open Idealize.ShloMosaic

/-- The square root where the number is finite, 0 where it is not. -/
def root (v : EReal) : EReal := if v < ⊤ then Ideal.sqrt v else 0

/-- A number times its inverse square root. -/
def ssE (v : EReal) : EReal := v * Ideal.rsqrt (max v ⊥)

/-- The greatest of 128 numbers. -/
def top (f : Fin 128 → EReal) : EReal := Finset.univ.fold max ⊥ f

/-- The absolute value. -/
def mag (x : EReal) : EReal := max x (-x)

/-- The binary exponent, as the floor of a logarithm. -/
def expo (t : EReal) : EReal := Ideal.liftRound Int.floor (Ideal.div (Ideal.log t) ((Real.log 2 : ℝ) : EReal))

/-- A value clipped to the code's range. -/
def clip (x : EReal) : EReal := min (Ideal.ofBits .f32 0x43E00000#32) (max (Ideal.ofBits .f32 0xC3E00000#32) x)

theorem sqrt_coe (r : ℝ) : Ideal.sqrt (r : EReal) = if r < 0 then ⊥ else ((Real.sqrt r : ℝ) : EReal) := rfl
theorem rsqrt_coe (r : ℝ) : Ideal.rsqrt (r : EReal) = if r < 0 then ⊥ else if r = 0 then ⊤ else (((Real.sqrt r)⁻¹ : ℝ) : EReal) := rfl
theorem rsqrt_top : Ideal.rsqrt ⊤ = 0 := rfl
theorem exp_coe (r : ℝ) : Ideal.exp (r : EReal) = ((Real.exp r : ℝ) : EReal) := rfl
theorem log_coe (r : ℝ) : Ideal.log (r : EReal) = if r ≤ 0 then ⊥ else ((Real.log r : ℝ) : EReal) := rfl
theorem pow_coe (x y : ℝ) : Ideal.pow (x : EReal) (y : EReal) = ((x ^ y : ℝ) : EReal) := rfl

theorem div_coe (x : EReal) {b : ℝ} (hb : b ≠ 0) : Ideal.div x (b : EReal) = x * ((b⁻¹ : ℝ) : EReal) := by
  have : (b : EReal) ≠ 0 := by exact_mod_cast hb
  rw [Ideal.div, if_neg this, EReal.coe_inv]

theorem scale_add {c : ℝ} (hc : 0 ≤ c) (x y : EReal) : (c : EReal) * (x + y) = c * x + c * y :=
  EReal.left_distrib_of_nonneg_of_ne_top (by exact_mod_cast hc) (EReal.coe_ne_top c) x y

theorem scale_max {c : ℝ} (hc : 0 ≤ c) (x y : EReal) : (c : EReal) * max x y = max ((c : EReal) * x) (c * y) :=
  (show Monotone fun z : EReal => (c : EReal) * z from fun _ _ h => mul_le_mul_of_nonneg_left h (by exact_mod_cast hc)).map_max

theorem scale_mag {c : ℝ} (hc : 0 ≤ c) (x : EReal) : mag ((c : EReal) * x) = c * mag x := by
  unfold mag; rw [scale_max hc, mul_comm _ (-x), EReal.neg_mul, mul_comm x]

theorem scale_top {c : ℝ} (hc : 0 < c) (f : Fin 128 → EReal) : top (fun l => (c : EReal) * f l) = c * top f := by
  unfold top
  have h := Finset.fold_hom (s := (Finset.univ : Finset (Fin 128))) (op := (max : EReal → EReal → EReal)) (op' := max) (f := f) (b := ⊥)
    (m := fun z => (c : EReal) * z) (fun x y => scale_max hc.le x y)
  rw [← h, EReal.coe_mul_bot_of_pos hc]

theorem le_top_of (f : Fin 128 → EReal) (l : Fin 128) : f l ≤ top f :=
  ((Finset.fold_max_le _).1 (le_refl (top f))).2 l (Finset.mem_univ l)

/-- The greatest of a row that is `u` at one lane and 0 at the others, for `u` not negative. -/
theorem top_pick (f : Fin 128 → EReal) (L : Fin 128) (hL : 0 ≤ f L) (h0 : ∀ l, l ≠ L → f l = 0) : top f = f L := by
  refine le_antisymm ((Finset.fold_max_le _).2 ⟨bot_le, fun l _ => ?_⟩) (le_top_of f L)
  by_cases h : l = L
  · rw [h]
  · rw [h0 l h]; exact hL

theorem mag_of_nonneg {x : EReal} (h : 0 ≤ x) : mag x = x := by
  unfold mag; exact max_eq_left (le_trans (by simpa using EReal.neg_le_neg_iff.2 h) h)

theorem eq_zero_of_mag {x : EReal} (h : mag x ≤ 0) : x = 0 := by
  have h1 : x ≤ 0 := le_trans (le_max_left _ _) h
  have h2 : -x ≤ 0 := le_trans (le_max_right _ _) h
  exact le_antisymm h1 (by simpa using EReal.neg_le_neg_iff.2 h2)

theorem mul_self_nonneg' (x : EReal) : 0 ≤ x * x := by
  induction x with
  | bot => simp
  | top => simp
  | coe r => exact_mod_cast mul_self_nonneg r

theorem ssE_eq_root {v : EReal} (hv : 0 ≤ v) : ssE v = root v := by
  unfold ssE root
  rw [max_eq_left bot_le]
  induction v with
  | bot => exact absurd hv (by simp)
  | top => simp [rsqrt_top]
  | coe r =>
    have hr : 0 ≤ r := by exact_mod_cast hv
    rw [if_pos (EReal.coe_lt_top r)]
    simp only [rsqrt_coe, sqrt_coe, not_lt.2 hr, if_false]
    by_cases h0 : r = 0
    · simp [h0]
    · rw [if_neg h0, ← EReal.coe_mul, ← div_eq_mul_inv, Real.div_sqrt]

theorem root_real {v : EReal} (hv : 0 ≤ v) : ∃ r : ℝ, 0 ≤ r ∧ root v = r := by
  unfold root
  induction v with
  | bot => exact absurd hv (by simp)
  | top => exact ⟨0, le_refl _, by simp⟩
  | coe r =>
    have hr : 0 ≤ r := by exact_mod_cast hv
    exact ⟨Real.sqrt r, Real.sqrt_nonneg r, by rw [if_pos (EReal.coe_lt_top r)]; simp [sqrt_coe, not_lt.2 hr]⟩

theorem root_nonneg {v : EReal} (hv : 0 ≤ v) : 0 ≤ root v := by
  obtain ⟨r, hr, h⟩ := root_real hv; rw [h]; exact_mod_cast hr

theorem root_scale {c : ℝ} (hc : 0 < c) {v : EReal} (hv : 0 ≤ v) : root ((c : EReal) * v) = ((Real.sqrt c : ℝ) : EReal) * root v := by
  unfold root
  induction v with
  | bot => exact absurd hv (by simp)
  | top => rw [EReal.coe_mul_top_of_pos hc]; simp
  | coe r =>
    have hr : 0 ≤ r := by exact_mod_cast hv
    rw [← EReal.coe_mul, if_pos (EReal.coe_lt_top _), if_pos (EReal.coe_lt_top r)]
    simp only [sqrt_coe, not_lt.2 hr, not_lt.2 (mul_nonneg hc.le hr), if_false]
    rw [Real.sqrt_mul hc.le, EReal.coe_mul]

/-- The first moment: a tenth of the kernel's. -/
theorem moment1 (m ms g : EReal) :
    ((9 / 10 : ℝ) : EReal) * (m * ms) + ((1 / 10 : ℝ) : EReal) * g = ((1 / 10 : ℝ) : EReal) * (m * (ms * ((9 : ℝ) : EReal)) + g) := by
  rw [scale_add (by norm_num)]
  congr 1
  rw [show ((9 / 10 : ℝ) : EReal) = ((1 / 10 : ℝ) : EReal) * ((9 : ℝ) : EReal) by rw [← EReal.coe_mul]; norm_num]
  ac_rfl

/-- The second moment: a thousandth of the kernel's. -/
theorem moment2 (so g : EReal) :
    ((16760439 / 16777216 : ℝ) : EReal) * (so * so) + ((1 / 1000 : ℝ) : EReal) * g * g
      = ((1 / 1000 : ℝ) : EReal) * (so * so * ((2095054875 / 2097152 : ℝ) : EReal) + g * g) := by
  rw [scale_add (by norm_num)]
  congr 1
  · rw [show ((16760439 / 16777216 : ℝ) : EReal) = ((1 / 1000 : ℝ) : EReal) * ((2095054875 / 2097152 : ℝ) : EReal) by rw [← EReal.coe_mul]; norm_num]
    ac_rfl
  · ac_rfl

theorem moment2_nonneg (so g : EReal) : 0 ≤ so * so * ((2095054875 / 2097152 : ℝ) : EReal) + g * g :=
  add_nonneg (mul_nonneg (mul_self_nonneg' so) (by exact_mod_cast (by norm_num : (0 : ℝ) ≤ 2095054875 / 2097152))) (mul_self_nonneg' g)

/-- The bias correction `1 - b^t` in the two ways of writing it: a positive number. -/
theorem correction {b : ℝ} (hb : 0 < b) (hb1 : b < 1) {t : ℝ} (ht : 1 ≤ t) :
    ∃ r : ℝ, 0 < r ∧ 1 - Ideal.exp ((t : EReal) * Ideal.log (b : EReal)) = (r : EReal) ∧ 1 - Ideal.pow (b : EReal) (t : EReal) = (r : EReal) := by
  refine ⟨1 - b ^ t, by have := Real.rpow_lt_one hb.le hb1 (by linarith : (0 : ℝ) < t); linarith, ?_, ?_⟩
  · simp only [log_coe, not_le.2 hb, if_false]
    rw [← EReal.coe_mul]; simp only [exp_coe]
    rw [mul_comm, ← Real.rpow_def_of_pos hb]; norm_cast
  · simp only [pow_coe]; norm_cast

/-- The update. -/
theorem update (mm vv : EReal) (hv : 0 ≤ vv) {b1 b2 : ℝ} (h1 : 0 < b1) (h2 : 0 < b2) :
    Ideal.div (mm * Ideal.div (Ideal.div ((-1 / 10000 : ℝ) : EReal) (b1 : EReal)) (((Real.sqrt (1 / 1000) : ℝ) : EReal) * Ideal.rsqrt (b2 : EReal)))
        (ssE vv + Ideal.div ((1 / 100000000 : ℝ) : EReal) (((Real.sqrt (1 / 1000) : ℝ) : EReal) * Ideal.rsqrt (b2 : EReal)))
      = Ideal.div (((-1 / 1000 : ℝ) : EReal) * Ideal.div (((1 / 10 : ℝ) : EReal) * mm) (b1 : EReal))
        (root (Ideal.div (((1 / 1000 : ℝ) : EReal) * vv) (b2 : EReal)) + ((1 / 100000000 : ℝ) : EReal)) := by
  have hr : 0 < Real.sqrt (1 / 1000) := Real.sqrt_pos.2 (by norm_num)
  have hs : 0 < Real.sqrt b2 := Real.sqrt_pos.2 h2
  obtain ⟨S, hS, hroot⟩ := root_real hv
  have hk : Ideal.rsqrt (b2 : EReal) = (((Real.sqrt b2)⁻¹ : ℝ) : EReal) := by
    simp only [rsqrt_coe, not_lt.2 h2.le, if_false, h2.ne']
  have hq : root (Ideal.div (((1 / 1000 : ℝ) : EReal) * vv) (b2 : EReal)) = ((Real.sqrt (1 / 1000) * (Real.sqrt b2)⁻¹ * S : ℝ) : EReal) := by
    rw [div_coe _ h2.ne', mul_comm _ ((b2⁻¹ : ℝ) : EReal), ← mul_assoc, ← EReal.coe_mul, root_scale (by positivity) hv, hroot, ← EReal.coe_mul,
      Real.sqrt_mul (by positivity), Real.sqrt_inv, mul_comm (Real.sqrt b2)⁻¹]
  have hk0 : Real.sqrt (1 / 1000) * (Real.sqrt b2)⁻¹ ≠ 0 := by positivity
  have hd1 : S + 1 / 100000000 * (Real.sqrt (1 / 1000) * (Real.sqrt b2)⁻¹)⁻¹ ≠ 0 := by positivity
  have hd2 : Real.sqrt (1 / 1000) * (Real.sqrt b2)⁻¹ * S + 1 / 100000000 ≠ 0 := by positivity
  rw [ssE_eq_root hv, hroot, hq, hk, ← EReal.coe_mul, div_coe _ hk0, div_coe _ hk0, div_coe _ h1.ne', div_coe _ h1.ne', ← EReal.coe_mul, ← EReal.coe_mul,
    ← EReal.coe_mul, ← EReal.coe_add, ← EReal.coe_add, div_coe _ hd1, div_coe _ hd2, mul_comm (((1 / 10 : ℝ) : EReal)) mm]
  rw [show ((-1 / 1000 : ℝ) : EReal) * (mm * ((1 / 10 : ℝ) : EReal) * ((b1⁻¹ : ℝ) : EReal)) = mm * ((-1 / 1000 * (1 / 10) * b1⁻¹ : ℝ) : EReal) by
    rw [EReal.coe_mul, EReal.coe_mul]; ac_rfl]
  have hm : ∀ a b : ℝ, mm * (a : EReal) * (b : EReal) = mm * ((a * b : ℝ) : EReal) := fun a b => by rw [mul_assoc, ← EReal.coe_mul]
  rw [hm, hm]
  congr 2
  field_simp
  ring

theorem exponent_flip (E : EReal) : ((-1 : ℝ) : EReal) - E = 0 - (E + 1) := by
  induction E with
  | bot => rw [sub_eq_add_neg, EReal.neg_bot, EReal.bot_add, zero_sub, EReal.neg_bot, EReal.coe_add_top]
  | top => rw [sub_eq_add_neg, EReal.neg_top, show (⊤ + 1 : EReal) = ⊤ from EReal.top_add_coe 1, zero_sub, EReal.neg_top, EReal.add_bot]
  | coe r =>
    rw [show (0 : EReal) = ((0 : ℝ) : EReal) from rfl, show (1 : EReal) = ((1 : ℝ) : EReal) from rfl, ← EReal.coe_add, ← EReal.coe_sub, ← EReal.coe_sub]
    congr 1; ring

/-- A code: the kernel multiplies by a power of two from its own units, the reference by that power except where the
    whole block is 0. -/
theorem code {c : ℝ} (M t a : EReal) (ha : a = 0 → M = 0) :
    clip (M * ((c : EReal) * Ideal.exp2 (((-1 : ℝ) : EReal) - expo t)))
      = clip ((c : EReal) * M * (if a = 0 then 1 else Ideal.exp2 (0 - (expo t + 1)))) := by
  congr 1
  by_cases h : a = 0
  · rw [ha h]; simp
  · rw [if_neg h, exponent_flip]; ac_rfl

/-- The gradient: the two scales of a token in one factor or in two. -/
theorem product (x xs dy dys : Fin 1536 → EReal) : ∑ k, x k * (xs k * dys k) * dy k = ∑ k, x k * xs k * (dy k * dys k) :=
  Finset.sum_congr rfl fun k _ => by ac_rfl

theorem lit9 : Ideal.ofBits .f32 0x41100000#32 = ((9 : ℝ) : EReal) := by
  simp [Ideal.ofBits, Ideal.ieee]
  rw [← EReal.coe_mul]; norm_num
theorem litm1 : Ideal.ofBits .f32 0xBF800000#32 = ((-1 : ℝ) : EReal) := by
  simp [Ideal.ofBits, Ideal.ieee]
  rw [← EReal.coe_mul]; norm_num
theorem litB2 : Ideal.ofBits .f32 0x3F7FBE77#32 = ((16760439 / 16777216 : ℝ) : EReal) := by
  simp [Ideal.ofBits, Ideal.ieee]
  rw [← EReal.coe_mul]; norm_num
theorem litInf : Ideal.ofBits .f32 0x7F800000#32 = ⊤ := by
  simp [Ideal.ofBits, Ideal.ieee]
theorem litNegInf : Ideal.ofBits .f32 0xFF800000#32 = ⊥ := by
  simp [Ideal.ofBits, Ideal.ieee]

end Cert.Proof.Scal
-- ==== Proof.KernelIdeal.Tile.lean ====
/-
  What the kernel computes on one tile of 32 rows and 128 lanes, entry by entry, over the extended reals.
-/
module

public import proofs.«01_k».proof.Proof.Gen.KernelIdeal.Skeleton
public import proofs.«01_k».proof.Proof.Scalars

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Cert.Proof.Scal

/-- The kernel's first moment of a tile. -/
abbrev tMm (mask : IVec S32x128 1) (g : Vec F S32x128 .f32) (m : Vec F S32x128 .fp8e4m3) (mu : Vec F S32x128 .bf16) : FVec F S32x128 .f32 :=
  k0_pay28 mask g m mu

/-- The square root of the kernel's second moment of a tile. -/
abbrev tSs (mask : IVec S32x128 1) (g : Vec F S32x128 .f32) (s : Vec F S32x128 .fp8e4m3) (su : Vec F S32x128 .bf16) : FVec F S32x128 .f32 :=
  k0_pay31 g (k0_pay29 s) (k0_pay30 mask su)

/-- The update of a tile. -/
abbrev tUpd (v33 v38 : FVec F S32x128 .f32) (mask : IVec S32x128 1) (g : Vec F S32x128 .f32) (m : Vec F S32x128 .fp8e4m3) (mu : Vec F S32x128 .bf16)
    (s : Vec F S32x128 .fp8e4m3) (su : Vec F S32x128 .bf16) : FVec F S32x128 .f32 :=
  k0_pay32 v33 v38 g (tMm mask g m mu) (k0_pay29 s) (k0_pay30 mask su)

/-- The new weights of a tile. -/
abbrev tWn (v33 v38 : FVec F S32x128 .f32) (mask : IVec S32x128 1) (g : Vec F S32x128 .f32) (m : Vec F S32x128 .fp8e4m3) (mu : Vec F S32x128 .bf16)
    (s : Vec F S32x128 .fp8e4m3) (su : Vec F S32x128 .bf16) (w : Vec F S32x128 .bf16) : FVec F S32x128 .bf16 :=
  k0_pay33 v33 v38 g (tMm mask g m mu) (k0_pay29 s) (k0_pay30 mask su) w

/-- What the scale of the first moment is computed from. -/
abbrev tTm (mask : IVec S32x128 1) (g : Vec F S32x128 .f32) (m : Vec F S32x128 .fp8e4m3) (mu : Vec F S32x128 .bf16) : FVec F S32x128 .f32 :=
  k0_pay34 (tMm mask g m mu)

/-- What the scale of the root of the second moment is computed from. -/
abbrev tTs (mask : IVec S32x128 1) (g : Vec F S32x128 .f32) (s : Vec F S32x128 .fp8e4m3) (su : Vec F S32x128 .bf16) : FVec F S32x128 .f32 :=
  k0_pay35 g (k0_pay29 s) (k0_pay30 mask su)

/-- The codes of the first moment. -/
abbrev tMn (mask : IVec S32x128 1) (g : Vec F S32x128 .f32) (m : Vec F S32x128 .fp8e4m3) (mu : Vec F S32x128 .bf16) : FVec F S32x128 .fp8e4m3 :=
  k0_pay40 (tMm mask g m mu) (tTm mask g m mu)

/-- The codes of the root of the second moment. -/
abbrev tSn (mask : IVec S32x128 1) (g : Vec F S32x128 .f32) (s : Vec F S32x128 .fp8e4m3) (su : Vec F S32x128 .bf16) : FVec F S32x128 .fp8e4m3 :=
  k0_pay41 (tSs mask g s su) (tTs mask g s su)

/-- The first moment and the root of the second as numbers. -/
def mmE (m ms9 g : EReal) : EReal := m * ms9 + g
def vvE (so g : EReal) : EReal := so * so * ((2095054875 / 2097152 : ℝ) : EReal) + g * g

theorem nm_vdecay : Named.named (F := Ideal) κ "v_decay" (φ := .f32) 0x4479C000#32 = ((2095054875 / 2097152 : ℝ) : EReal) := IdealRules.named_const.ideal_named_scalar _ _ _ _ rfl
theorem nm_below : Named.named (F := Ideal) κ "below" (φ := .f32) 0x00800000#32 = ⊥ := IdealRules.named_const.ideal_named_scalar _ _ _ _ rfl
theorem nm_c1m : Named.named (F := Ideal) κ "c1_inv_max" (φ := .f32) 0x396A0EA1#32 = ((1 / 4480 : ℝ) : EReal) := IdealRules.named_const.ideal_named_scalar _ _ _ _ rfl
theorem nm_rm : Named.named (F := Ideal) κ "root_c2_inv_max" (φ := .f32) 0x389407DE#32 = (((Real.sqrt (1 / 1000)) * (1 / 448) : ℝ) : EReal) := IdealRules.named_const.ideal_named_scalar _ _ _ _ rfl
theorem nm_log2 : Named.named (F := Ideal) κ "log2" (φ := .f32) 0x3F317218#32 = ((Real.log 2 : ℝ) : EReal) := IdealRules.named_const.ideal_named_scalar _ _ _ _ rfl
theorem nm_c1 : Named.named (F := Ideal) κ "c1" (φ := .f32) 0x3DCCCCCD#32 = ((1 / 10 : ℝ) : EReal) := IdealRules.named_const.ideal_named_scalar _ _ _ _ rfl
theorem nm_r : Named.named (F := Ideal) κ "root_c2" (φ := .f32) 0x3D0186E2#32 = ((Real.sqrt (1 / 1000) : ℝ) : EReal) := IdealRules.named_const.ideal_named_scalar _ _ _ _ rfl
theorem nm_b1 : Named.named (F := Ideal) κ "b1" (φ := .f32) 0x3F666666#32 = ((9 / 10 : ℝ) : EReal) := IdealRules.named_const.ideal_named_scalar _ _ _ _ rfl
theorem nm_neg : Named.named (F := Ideal) κ "neg_lr_c1" (φ := .f32) 0xB8D1B717#32 = ((-1 / 10000 : ℝ) : EReal) := IdealRules.named_const.ideal_named_scalar _ _ _ _ rfl
theorem nm_eps : Named.named (F := Ideal) κ "eps" (φ := .f32) 0x322BCC77#32 = ((1 / 100000000 : ℝ) : EReal) := IdealRules.named_const.ideal_named_scalar _ _ _ _ rfl

section
variable (mask : IVec S32x128 1) (L : Fin 128) (hmask : ∀ r l, mask (ix2 r l) = if l = L then 1#1 else 0#1)
include hmask

/-- The masked row's greatest entry is the entry at the mask's lane. -/
theorem pick_at (u : Vec Ideal S32x128 .bf16) (r : Fin 32) (hu : 0 ≤ u (ix2 r L)) :
    (Finset.univ.fold max (⊥ : EReal) fun l : Fin 128 => Scalar.select (mask (ix2 r l)) (u (ix2 r l)) (0 : EReal)) = u (ix2 r L) := by
  have h := top_pick (fun l => Scalar.select (mask (ix2 r l)) (u (ix2 r l)) (0 : EReal)) L (by simp [hmask, Scalar.select, hu])
    (fun l hl => by simp [hmask, Scalar.select, hl])
  exact h.trans (by simp [hmask, Scalar.select])

theorem tMm_at (g : Vec Ideal S32x128 .f32) (m : Vec Ideal S32x128 .fp8e4m3) (mu : Vec Ideal S32x128 .bf16) (r : Fin 32) (l : Fin 128)
    (hu : 0 ≤ mu (ix2 r L)) :
    tMm mask g m mu (ix2 r l) = mmE (m (ix2 r l)) (mu (ix2 r L)) (g (ix2 r l)) := by
  rw [← pick_at mask L hmask mu r hu]
  unfold mmE
  pointwise [k0_pay28]
  rw [litNegInf]

theorem tSs_at (g : Vec Ideal S32x128 .f32) (s : Vec Ideal S32x128 .fp8e4m3) (su : Vec Ideal S32x128 .bf16) (r : Fin 32) (l : Fin 128)
    (hu : 0 ≤ su (ix2 r L)) :
    tSs mask g s su (ix2 r l) = ssE (vvE (s (ix2 r l) * su (ix2 r L)) (g (ix2 r l))) := by
  rw [← pick_at mask L hmask su r hu]
  unfold vvE ssE
  pointwise [k0_pay31, k0_pay30, k0_pay29]
  rw [litNegInf, nm_vdecay, nm_below]

end

theorem tUpd_at (v33 v38 : FVec Ideal S32x128 .f32) (mask : IVec S32x128 1) (g : Vec Ideal S32x128 .f32) (m : Vec Ideal S32x128 .fp8e4m3) (mu : Vec Ideal S32x128 .bf16)
    (s : Vec Ideal S32x128 .fp8e4m3) (su : Vec Ideal S32x128 .bf16) (r : Fin 32) (l : Fin 128) :
    tUpd v33 v38 mask g m mu s su (ix2 r l)
      = Ideal.div (tMm mask g m mu (ix2 r l) * v33 (ix2 r l)) (tSs mask g s su (ix2 r l) + v38 (ix2 r l)) := by
  unfold tUpd tSs
  pointwise [k0_pay32]

theorem tWn_at (v33 v38 : FVec Ideal S32x128 .f32) (mask : IVec S32x128 1) (g : Vec Ideal S32x128 .f32) (m : Vec Ideal S32x128 .fp8e4m3) (mu : Vec Ideal S32x128 .bf16)
    (s : Vec Ideal S32x128 .fp8e4m3) (su : Vec Ideal S32x128 .bf16) (w : Vec Ideal S32x128 .bf16) (r : Fin 32) (l : Fin 128) :
    tWn v33 v38 mask g m mu s su w (ix2 r l) = w (ix2 r l) + tUpd v33 v38 mask g m mu s su (ix2 r l) := by
  unfold tWn tUpd
  pointwise [k0_pay33]

theorem tTm_at (mask : IVec S32x128 1) (g : Vec Ideal S32x128 .f32) (m : Vec Ideal S32x128 .fp8e4m3) (mu : Vec Ideal S32x128 .bf16) (r : Fin 32) (l : Fin 128) :
    tTm mask g m mu (ix2 r l) = top (fun l' => mag (tMm mask g m mu (ix2 r l'))) * ((1 / 4480 : ℝ) : EReal) := by
  unfold tTm top mag
  rw [← nm_c1m, ← litNegInf]
  pointwise [k0_pay34]
  rfl

theorem tTs_at (mask : IVec S32x128 1) (g : Vec Ideal S32x128 .f32) (s : Vec Ideal S32x128 .fp8e4m3) (su : Vec Ideal S32x128 .bf16) (r : Fin 32) (l : Fin 128) :
    tTs mask g s su (ix2 r l) = top (fun l' => tSs mask g s su (ix2 r l')) * (((Real.sqrt (1 / 1000)) * (1 / 448) : ℝ) : EReal) := by
  unfold tTs tSs top
  rw [← nm_rm, ← litNegInf]
  pointwise [k0_pay35]

theorem tMn_at (mask : IVec S32x128 1) (g : Vec Ideal S32x128 .f32) (m : Vec Ideal S32x128 .fp8e4m3) (mu : Vec Ideal S32x128 .bf16) (r : Fin 32) (l : Fin 128) :
    tMn mask g m mu (ix2 r l)
      = clip (tMm mask g m mu (ix2 r l) * (((1 / 10 : ℝ) : EReal) * Ideal.exp2 (((-1 : ℝ) : EReal) - expo (tTm mask g m mu (ix2 r l))))) := by
  unfold tMn expo clip
  rw [← nm_c1, ← nm_log2, ← litm1]
  pointwise [k0_pay40]
  rfl

theorem tSn_at (mask : IVec S32x128 1) (g : Vec Ideal S32x128 .f32) (s : Vec Ideal S32x128 .fp8e4m3) (su : Vec Ideal S32x128 .bf16) (r : Fin 32) (l : Fin 128) :
    tSn mask g s su (ix2 r l)
      = clip (tSs mask g s su (ix2 r l) * (((Real.sqrt (1 / 1000) : ℝ) : EReal) * Ideal.exp2 (((-1 : ℝ) : EReal) - expo (tTs mask g s su (ix2 r l))))) := by
  unfold tSn expo clip
  rw [← nm_r, ← nm_log2, ← litm1]
  pointwise [k0_pay41]
  rfl

/-- The gain and the guard of a step, as the kernel works them out from the step's number. -/
theorem gain_at (t : BitVec 32) (r : Fin 32) (l : Fin 128) :
    k0_pay265 (F := Ideal) t (ix2 r l)
      = Ideal.div (Ideal.div ((-1 / 10000 : ℝ) : EReal) (1 - Ideal.exp ((((t.toInt : ℝ)) : EReal) * Ideal.log ((9 / 10 : ℝ) : EReal))))
          (((Real.sqrt (1 / 1000) : ℝ) : EReal) * Ideal.rsqrt (1 - Ideal.exp ((((t.toInt : ℝ)) : EReal) * Ideal.log ((16760439 / 16777216 : ℝ) : EReal)))) := by
  rw [← nm_neg, ← nm_b1, ← nm_r, ← litB2, ← Ideal.ofBits_one_f32]
  pointwise [k0_pay265, k0_pay264, k0_pay263]
  rfl

theorem guard_at (t : BitVec 32) (r : Fin 32) (l : Fin 128) :
    k0_pay266 (F := Ideal) t (ix2 r l)
      = Ideal.div ((1 / 100000000 : ℝ) : EReal)
          (((Real.sqrt (1 / 1000) : ℝ) : EReal) * Ideal.rsqrt (1 - Ideal.exp ((((t.toInt : ℝ)) : EReal) * Ideal.log ((16760439 / 16777216 : ℝ) : EReal)))) := by
  rw [← nm_eps, ← nm_r, ← litB2, ← Ideal.ofBits_one_f32]
  pointwise [k0_pay266, k0_pay264, k0_pay263]
  rfl

/-- The map of the last step from what a scale is computed from to the scale. -/
theorem scale_map4 (v : Vec Ideal S3584x256 .f32) (R : Fin 3584) (q : Fin 256) :
    k0_pay4 v (ix2 R q) = if v (ix2 R q) = 0 then 1 else Ideal.exp2 (expo (v (ix2 R q)) + 1) := by
  unfold expo
  pointwise [k0_pay4]
  rw [nm_log2]
  by_cases h : v (ix2 R q) = 0
  · rw [if_pos h]; simp [Scalar.select, h]
  · rw [if_neg h]; simp [Scalar.select, h]; rfl

theorem scale_map5 (v : Vec Ideal S3584x256 .f32) (R : Fin 3584) (q : Fin 256) :
    k0_pay5 v (ix2 R q) = if v (ix2 R q) = 0 then 1 else Ideal.exp2 (expo (v (ix2 R q)) + 1) := by
  unfold expo
  pointwise [k0_pay5]
  rw [nm_log2]
  by_cases h : v (ix2 R q) = 0
  · rw [if_pos h]; simp [Scalar.select, h]
  · rw [if_neg h]; simp [Scalar.select, h]; rfl

end Cert.Proof.KernelIdeal
-- ==== Proof.KernelIdeal.TripShape.lean ====
/-
  The stores of one trip, as the tile functions of the arrays the trip reads.
-/
module

public import proofs.«01_k».proof.Proof.KernelIdeal.Trip
public import proofs.«01_k».proof.Proof.KernelIdeal.Tile

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

theorem off28_eq (k : Fin k0_t2_loop.trips) (r : Fin 8) :
    k0_off28 k (BitVec.ofNat 32 (32 * r.val)) = ![256 * k.val + 32 * r.val, 0] := by
  rw [← slabRow_eq]; rfl

theorem off30_eq (k : Fin k0_t2_loop.trips) (r : Fin 8) :
    k0_off30 k (BitVec.ofNat 32 (32 * r.val)) = ![256 * k.val + 32 * r.val, 128] := by
  rw [← slabRow_eq]; rfl

theorem trip_lt (k : Fin k0_t2_loop.trips) : k.val < 14 := Nat.lt_of_lt_of_le k.isLt k0_t2_abs.2.1

theorem bnd28 (k : Fin k0_t2_loop.trips) (r : Fin 8) (a : Fin 2) :
    k0_off28 k (BitVec.ofNat 32 (32 * r.val)) a + S32x128.size a ≤ S3584x256.size a := by
  have := trip_lt k; have := r.isLt
  rw [off28_eq]
  match a with
  | 0 => show 256 * k.val + 32 * r.val + 32 ≤ 3584; omega
  | 1 => show 0 + 128 ≤ 256; omega

theorem bnd30 (k : Fin k0_t2_loop.trips) (r : Fin 8) (a : Fin 2) :
    k0_off30 k (BitVec.ofNat 32 (32 * r.val)) a + S32x128.size a ≤ S3584x256.size a := by
  have := trip_lt k; have := r.isLt
  rw [off30_eq]
  match a with
  | 0 => show 256 * k.val + 32 * r.val + 32 ≤ 3584; omega
  | 1 => show 128 + 128 ≤ 256; omega

theorem bnd29 (i : grid0.Coords) (k : Fin k0_t2_loop.trips) (r : Fin 8) (a : Fin 2) :
    k0_off29 i k (BitVec.ofNat 32 (32 * r.val)) a + S32x128.size a ≤ S3584x256.size a := by
  have := trip_lt k; have := r.isLt; have hi : (i 0).val < 74 := (i 0).isLt
  rw [off29_eq]
  match a with
  | 0 => show 256 * k.val + 32 * r.val + 32 ≤ 3584; omega
  | 1 => show 128 * ((i 0).val / 64) + 128 ≤ 256; omega

theorem bndG (r : Fin 8) (j : Fin 2) (a : Fin 2) : (![32 * r.val, 128 * j.val] : Fin 2 → ℕ) a + S32x128.size a ≤ S256x256.size a := by
  have := r.isLt; have := j.isLt
  match a with
  | 0 => show 32 * r.val + 32 ≤ 256; omega
  | 1 => show 128 * j.val + 128 ≤ 256; omega

theorem off26_eq (k : Fin k0_t2_loop.trips) : k0_off26 k = ![256 * k.val, 0] := by
  have h : ∀ k : Fin k0_t2_loop.trips, k0_off26 k = ![256 * k.val, 0] := by decide +kernel
  exact h k

theorem bnd26 (k : Fin k0_t2_loop.trips) (a : Fin 2) : k0_off26 k a + S256x1536.size a ≤ S3584x1536.size a := by
  have := trip_lt k
  rw [off26_eq]
  match a with
  | 0 => show 256 * k.val + 256 ≤ 3584; omega
  | 1 => show 0 + 1536 ≤ 1536; omega

theorem off27_eq : ∀ i : grid0.Coords, k0_off27 i = ![(i 0).val % 2, 0, 0] := by decide +kernel

theorem bnd27 (i : grid0.Coords) (a : Fin 3) : k0_off27 i a + S1x1536x256.size a ≤ S2x1536x256.size a := by
  rw [off27_eq]
  match a with
  | 0 => show (i 0).val % 2 + 1 ≤ 2; omega
  | 1 => show 0 + 1536 ≤ 1536; omega
  | 2 => show 0 + 256 ≤ 256; omega

theorem bnd0 (a : Fin 2) : (![0, 0] : Fin 2 → ℕ) a + S256x256.size a ≤ S256x256.size a := by
  match a with
  | 0 => show 0 + 256 ≤ 256; omega
  | 1 => show 0 + 256 ≤ 256; omega

section
variable (i : grid0.Coords) (arg17 : Memref sig .tc .vmem S3584x1536 .bf16) (arg18 : Memref sig .tc .vmem S2x1536x256 .fp8e5m2) (arg19 : Memref sig .tc .vmem S256x256 .f32)
  (f17 : BufTy.Contents (Elt F) arg17.view.ty) (f18 : BufTy.Contents (Elt F) arg18.view.ty) (k : Fin k0_t2_loop.trips)

/-- The gradient of a trip's 256 rows. -/
def cellG : FVec F S256x256 .f32 :=
  k0_pay27 (arg17.view.readAt (Elt F) (Rect.unit (s := S3584x1536) (k0_off26 k) S256x1536.size (bnd26 k)).toLoadRect f17)
    (arg18.view.readAt (Elt F) (Rect.unit (s := S2x1536x256) (k0_off27 i) S1x1536x256.size (bnd27 i)).toLoadRect f18)

/-- A tile of it: 32 rows and 128 lanes, read back from the scratch. -/
def tileG (r : Fin 8) (j : Fin 2) : Vec F S32x128 .f32 :=
  arg19.view.readCov [⟨Rect.unit (s := S256x256) ![0, 0] S256x256.size bnd0, cellG i arg17 arg18 f17 f18 k⟩] (Rect.unit (s := S256x256) ![32 * r.val, 128 * j.val] S32x128.size (bndG r j)).toLoadRect

end

def ldLo {e : EltTy} (a : Memref sig .tc .vmem S3584x256 e) (f : BufTy.Contents (Elt F) a.view.ty) (k : Fin k0_t2_loop.trips) (r : Fin 8) : Vec F S32x128 e :=
  a.view.readAt (Elt F) (Rect.unit (s := S3584x256) (k0_off28 k (BitVec.ofNat 32 (32 * r.val))) S32x128.size (bnd28 k r)).toLoadRect f
def ldHi {e : EltTy} (a : Memref sig .tc .vmem S3584x256 e) (f : BufTy.Contents (Elt F) a.view.ty) (k : Fin k0_t2_loop.trips) (r : Fin 8) : Vec F S32x128 e :=
  a.view.readAt (Elt F) (Rect.unit (s := S3584x256) (k0_off30 k (BitVec.ofNat 32 (32 * r.val))) S32x128.size (bnd30 k r)).toLoadRect f
def ldSc {e : EltTy} (a : Memref sig .tc .vmem S3584x256 e) (f : BufTy.Contents (Elt F) a.view.ty) (i : grid0.Coords) (k : Fin k0_t2_loop.trips) (r : Fin 8) : Vec F S32x128 e :=
  a.view.readAt (Elt F) (Rect.unit (s := S3584x256) (k0_off29 i k (BitVec.ofNat 32 (32 * r.val))) S32x128.size (bnd29 i k r)).toLoadRect f
def pLo {e : EltTy} (k : Fin k0_t2_loop.trips) (r : Fin 8) (v : Vec F S32x128 e) : View.Piece (Elt F) S3584x256 e :=
  ⟨Rect.unit (s := S3584x256) (k0_off28 k (BitVec.ofNat 32 (32 * r.val))) S32x128.size (bnd28 k r), v⟩
def pHi {e : EltTy} (k : Fin k0_t2_loop.trips) (r : Fin 8) (v : Vec F S32x128 e) : View.Piece (Elt F) S3584x256 e :=
  ⟨Rect.unit (s := S3584x256) (k0_off30 k (BitVec.ofNat 32 (32 * r.val))) S32x128.size (bnd30 k r), v⟩
/-- The sixteen stores of a trip, newest first. -/
def both {e : EltTy} (k : Fin k0_t2_loop.trips) (lo hi : Fin 8 → Vec F S32x128 e) : List (View.Piece (Elt F) S3584x256 e) :=
  [pHi k 7 (hi 7), pLo k 7 (lo 7), pHi k 6 (hi 6), pLo k 6 (lo 6), pHi k 5 (hi 5), pLo k 5 (lo 5), pHi k 4 (hi 4), pLo k 4 (lo 4),
   pHi k 3 (hi 3), pLo k 3 (lo 3), pHi k 2 (hi 2), pLo k 2 (lo 2), pHi k 1 (hi 1), pLo k 1 (lo 1), pHi k 0 (hi 0), pLo k 0 (lo 0)]

/-- A masked store of a tile into an array of scales. -/
def put (a : Memref sig .tc .vmem S3584x256 .f32) (i : grid0.Coords) (k : Fin k0_t2_loop.trips) (r : Fin 8) (v : Vec F S32x128 .f32) (mask : IVec S32x128 1)
    (f : BufTy.Contents (Elt F) a.view.ty) : BufTy.Contents (Elt F) a.view.ty :=
  View.write (Elt F) (a.access (Rect.unit (s := S3584x256) (k0_off29 i k (BitVec.ofNat 32 (32 * r.val))) S32x128.size (bnd29 i k r))) f v mask.on

/-- The sixteen masked stores of a trip. -/
def puts (a : Memref sig .tc .vmem S3584x256 .f32) (i : grid0.Coords) (k : Fin k0_t2_loop.trips) (m0 m1 : IVec S32x128 1) (lo hi : Fin 8 → Vec F S32x128 .f32)
    (f : BufTy.Contents (Elt F) a.view.ty) : BufTy.Contents (Elt F) a.view.ty :=
  put a i k 7 (hi 7) m1 <| put a i k 7 (lo 7) m0 <| put a i k 6 (hi 6) m1 <| put a i k 6 (lo 6) m0 <|
  put a i k 5 (hi 5) m1 <| put a i k 5 (lo 5) m0 <| put a i k 4 (hi 4) m1 <| put a i k 4 (lo 4) m0 <|
  put a i k 3 (hi 3) m1 <| put a i k 3 (lo 3) m0 <| put a i k 2 (hi 2) m1 <| put a i k 2 (lo 2) m0 <|
  put a i k 1 (hi 1) m1 <| put a i k 1 (lo 1) m0 <| put a i k 0 (hi 0) m1 <| put a i k 0 (lo 0) m0 f

end Cert.Proof.KernelIdeal
-- ==== Proof.KernelIdeal.Lists.lean ====
/-
  Reading the tiles of one trip entry by entry, and the stores of the trips put together.
-/
module

public import proofs.«01_k».proof.Proof.KernelIdeal.TripShape

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Cert.Proof.Scal

theorem emb_at {off : Fin 2 → ℕ} {a b : ℕ} (h : off = ![a, b]) (inb : ∀ c, off c + S32x128.size c ≤ S3584x256.size c) (p : Fin 32) (l : Fin 128)
    (ha : a + 32 ≤ 3584) (hb : b + 128 ≤ 256) :
    (Rect.unit (s := S3584x256) off S32x128.size inb).emb (ix2 p l) = ix2 ⟨a + p.val, by omega⟩ ⟨b + l.val, by omega⟩ := by
  subst h
  funext c
  apply Fin.ext
  match c with
  | ⟨0, _⟩ => show a + 1 * p.val = a + p.val; omega
  | ⟨1, _⟩ => show b + 1 * l.val = b + l.val; omega

theorem ld_at {e : EltTy} (m : Memref sig .tc .vmem S3584x256 e) (f : BufTy.Contents (Elt F) m.view.ty) {off : Fin 2 → ℕ} {a b : ℕ} (h : off = ![a, b])
    (inb : ∀ c, off c + S32x128.size c ≤ S3584x256.size c) (p : Fin 32) (l : Fin 128) (ha : a + 32 ≤ 3584) (hb : b + 128 ≤ 256) :
    m.view.readAt (Elt F) (Rect.unit (s := S3584x256) off S32x128.size inb).toLoadRect f (ix2 p l)
      = m.view.read (Elt F) f (ix2 ⟨a + p.val, by omega⟩ ⟨b + l.val, by omega⟩) := by
  rw [View.readAt_apply, ← emb_at h inb p l ha hb]
  rfl

/-- The row of slab `r` of trip `k`. -/
def row (k : Fin k0_t2_loop.trips) (r : Fin 8) (p : Fin 32) : Fin 3584 :=
  ⟨256 * k.val + 32 * r.val + p.val, by have := trip_lt k; omega⟩

/-- Lane `l` of half `j` of a block of 256 columns. -/
def col (j : Fin 2) (l : Fin 128) : Fin 256 := ⟨128 * j.val + l.val, by omega⟩

/-- The column of the scale arrays for half `j` of the block of point `i`, and the lane at which it lies. -/
def scol (i : grid0.Coords) (j : Fin 2) : Fin 256 := ⟨2 * (i 0).val + j.val, by have : (i 0).val < 74 := (i 0).isLt; omega⟩
def slane (i : grid0.Coords) (j : Fin 2) : Fin 128 := ⟨2 * (i 0).val % 128 + j.val, by omega⟩

theorem ldLo_at {e : EltTy} (a : Memref sig .tc .vmem S3584x256 e) (f : BufTy.Contents (Elt F) a.view.ty) (k : Fin k0_t2_loop.trips) (r : Fin 8) (p : Fin 32) (l : Fin 128) :
    ldLo a f k r (ix2 p l) = a.view.read (Elt F) f (ix2 (row k r p) (col 0 l)) := by
  have := trip_lt k
  exact (ld_at a f (off28_eq k r) _ p l (by omega) (by omega)).trans (by rfl)

theorem ldHi_at {e : EltTy} (a : Memref sig .tc .vmem S3584x256 e) (f : BufTy.Contents (Elt F) a.view.ty) (k : Fin k0_t2_loop.trips) (r : Fin 8) (p : Fin 32) (l : Fin 128) :
    ldHi a f k r (ix2 p l) = a.view.read (Elt F) f (ix2 (row k r p) (col 1 l)) := by
  have := trip_lt k
  exact (ld_at a f (off30_eq k r) _ p l (by omega) (by omega)).trans (by rfl)

theorem ldSc_at {e : EltTy} (a : Memref sig .tc .vmem S3584x256 e) (f : BufTy.Contents (Elt F) a.view.ty) (i : grid0.Coords) (k : Fin k0_t2_loop.trips) (r : Fin 8) (p : Fin 32) (j : Fin 2) :
    ldSc a f i k r (ix2 p (slane i j)) = a.view.read (Elt F) f (ix2 (row k r p) (scol i j)) := by
  have := trip_lt k; have hi : (i 0).val < 74 := (i 0).isLt
  refine (ld_at a f (off29_eq i k r) _ p (slane i j) (by omega) (by omega)).trans ?_
  congr 2
  apply Fin.ext
  show 128 * ((i 0).val / 64) + (2 * (i 0).val % 128 + j.val) = 2 * (i 0).val + j.val
  omega

/-- The masks of the two halves. -/
theorem mask0_at (i : grid0.Coords) (p : Fin 32) (l : Fin 128) :
    k0_pay1 (BitVec.ofNat 32 (i 0).val) (iota .tc S32x128 32 [1] iota_S32x128_d1_w32) 2#32 (ix2 p l) = if l = slane i 0 then 1#1 else 0#1 := by
  have h : ∀ i : Fin 74, ∀ l : Fin 128, k0_pay1 (BitVec.ofNat 32 i.val) (fun _ => BitVec.ofNat 32 l.val) 2#32 (ix2 0 0)
      = if l.val = 2 * i.val % 128 + (0 : Fin 2).val then 1#1 else 0#1 := by decide +kernel
  refine (show _ = k0_pay1 (BitVec.ofNat 32 (i 0).val) (fun _ => BitVec.ofNat 32 l.val) 2#32 (ix2 0 0) from ?_).trans ((h (i 0) l).trans ?_)
  · unfold k0_pay1; pointwise []
  · simp only [slane, Fin.ext_iff]

theorem mask1_at (i : grid0.Coords) (p : Fin 32) (l : Fin 128) :
    k0_pay2 (BitVec.ofNat 32 (i 0).val) (iota .tc S32x128 32 [1] iota_S32x128_d1_w32) 2#32 (ix2 p l) = if l = slane i 1 then 1#1 else 0#1 := by
  have h : ∀ i : Fin 74, ∀ l : Fin 128, k0_pay2 (BitVec.ofNat 32 i.val) (fun _ => BitVec.ofNat 32 l.val) 2#32 (ix2 0 0)
      = if l.val = 2 * i.val % 128 + (1 : Fin 2).val then 1#1 else 0#1 := by decide +kernel
  refine (show _ = k0_pay2 (BitVec.ofNat 32 (i 0).val) (fun _ => BitVec.ofNat 32 l.val) 2#32 (ix2 0 0) from ?_).trans ((h (i 0) l).trans ?_)
  · unfold k0_pay2; pointwise []
  · simp only [slane, Fin.ext_iff]

section
variable (i : grid0.Coords) (arg17 : Memref sig .tc .vmem S3584x1536 .bf16) (arg18 : Memref sig .tc .vmem S2x1536x256 .fp8e5m2) (arg19 : Memref sig .tc .vmem S256x256 .f32)

theorem tileG_at (f17 : BufTy.Contents (Elt F) arg17.view.ty) (f18 : BufTy.Contents (Elt F) arg18.view.ty) (k : Fin k0_t2_loop.trips) (r : Fin 8) (j : Fin 2) (p : Fin 32) (l : Fin 128) :
    tileG i arg17 arg18 arg19 f17 f18 k r j (ix2 p l)
      = cellG i arg17 arg18 f17 f18 k (ix2 ⟨32 * r.val + p.val, by omega⟩ (col j l)) := by
  unfold tileG View.readCov
  rw [View.readAt_apply]
  have he : ∀ y : S256x256.Idx, (Rect.unit (s := S256x256) ![0, 0] S256x256.size bnd0).emb y = y := fun y => by
    funext c; apply Fin.ext
    match c with
    | ⟨0, _⟩ => show 0 + 1 * (y 0).val = (y 0).val; omega
    | ⟨1, _⟩ => show 0 + 1 * (y 1).val = (y 1).val; omega
  refine (View.read_writes_apply_of_pieces _ _ (cellG i arg17 arg18 f17 f18 k) _ (fun q hq x => ?_) _ ⟨_, List.mem_singleton_self _, ?_⟩).trans ?_
  · obtain rfl := List.mem_singleton.1 hq
    exact congrArg _ (he x).symm
  · rw [← he (LoadRect.idx _ _)]; exact LoadRect.idx_mem _ _
  congr 1
  funext c; apply Fin.ext
  match c with
  | ⟨0, _⟩ => show 32 * r.val + 1 * p.val = 32 * r.val + p.val; omega
  | ⟨1, _⟩ => show 128 * j.val + 1 * l.val = 128 * j.val + l.val; omega

theorem cellG_at (f17 : BufTy.Contents (Elt Ideal) arg17.view.ty) (f18 : BufTy.Contents (Elt Ideal) arg18.view.ty) (k : Fin k0_t2_loop.trips) (p : Fin 256) (q : Fin 256) :
    cellG i arg17 arg18 f17 f18 k (ix2 p q)
      = ∑ τ : Fin 1536, arg17.view.read (Elt Ideal) f17 (ix2 ⟨256 * k.val + p.val, by have := trip_lt k; omega⟩ τ)
          * arg18.view.read (Elt Ideal) f18 (ix3 ⟨(i 0).val % 2, by omega⟩ τ q) := by
  have h1 : ∀ τ : Fin 1536, (arg17.view.readAt (Elt Ideal) (Rect.unit (s := S3584x1536) (k0_off26 k) S256x1536.size (bnd26 k)).toLoadRect f17) (ix2 p τ)
      = arg17.view.read (Elt Ideal) f17 (ix2 ⟨256 * k.val + p.val, by have := trip_lt k; omega⟩ τ) := fun τ => by
    rw [View.readAt_apply]; congr 1
    funext c; apply Fin.ext
    have h26 := off26_eq k
    match c with
    | ⟨0, _⟩ => show k0_off26 k 0 + 1 * p.val = 256 * k.val + p.val; rw [h26]; show 256 * k.val + 1 * p.val = _; omega
    | ⟨1, _⟩ => show k0_off26 k 1 + 1 * τ.val = τ.val; rw [h26]; show 0 + 1 * τ.val = _; omega
  have h2 : ∀ τ : Fin 1536, (arg18.view.readAt (Elt Ideal) (Rect.unit (s := S2x1536x256) (k0_off27 i) S1x1536x256.size (bnd27 i)).toLoadRect f18) (ix3 0 τ q)
      = arg18.view.read (Elt Ideal) f18 (ix3 ⟨(i 0).val % 2, by omega⟩ τ q) := fun τ => by
    rw [View.readAt_apply]; congr 1
    funext c; apply Fin.ext
    have h27 := off27_eq i
    match c with
    | ⟨0, _⟩ => show k0_off27 i 0 + 1 * 0 = (i 0).val % 2; rw [h27]; rfl
    | ⟨1, _⟩ => show k0_off27 i 1 + 1 * τ.val = τ.val; rw [h27]; show 0 + 1 * τ.val = _; omega
    | ⟨2, _⟩ => show k0_off27 i 2 + 1 * q.val = q.val; rw [h27]; show 0 + 1 * q.val = _; omega
  simp only [← h1, ← h2]
  unfold cellG
  generalize (arg17.view.readAt (Elt Ideal) _ f17) = A
  generalize (arg18.view.readAt (Elt Ideal) _ f18) = B
  pointwise [k0_pay27]

end

/-- A list of stores that all agree with one array and cover its first `256 * n` rows. -/
def Full {e : EltTy} (G : S3584x256.Idx → Elt F e) (n : ℕ) (L : List (View.Piece (Elt F) S3584x256 e)) : Prop :=
  (∀ p ∈ L, ∀ x, p.2 x = G (p.1.emb x)) ∧ ∀ (R : Fin 3584) (C : Fin 256), R.val < 256 * n → ∃ p ∈ L, ix2 R C ∈ p.1.set

theorem full_nil {e : EltTy} (G : S3584x256.Idx → Elt F e) : Full G 0 [] :=
  ⟨fun p hp => absurd hp List.not_mem_nil, fun R C h => absurd h (by omega)⟩

theorem full_step {e : EltTy} (G : S3584x256.Idx → Elt F e) (k : Fin k0_t2_loop.trips) (L : List (View.Piece (Elt F) S3584x256 e)) (h : Full G k.val L)
    (lo hi : Fin 8 → Vec F S32x128 e) (hlo : ∀ r p l, lo r (ix2 p l) = G (ix2 (row k r p) (col 0 l)))
    (hhi : ∀ r p l, hi r (ix2 p l) = G (ix2 (row k r p) (col 1 l))) : Full G (k.val + 1) (both k lo hi ++ L) := by
  have hk := trip_lt k
  have elo : ∀ r p l, (pLo k r (lo r)).1.emb (ix2 p l) = ix2 (row k r p) (col 0 l) := fun r p l =>
    (emb_at (off28_eq k r) (bnd28 k r) p l (by omega) (by omega)).trans (by congr 1)
  have ehi : ∀ r p l, (pHi k r (hi r)).1.emb (ix2 p l) = ix2 (row k r p) (col 1 l) := fun r p l =>
    (emb_at (off30_eq k r) (bnd30 k r) p l (by omega) (by omega)).trans (by rfl)
  have alo : ∀ r, ∀ x, (pLo k r (lo r)).2 x = G ((pLo k r (lo r)).1.emb x) := fun r x => by
    obtain ⟨p, l, rfl⟩ : ∃ (p : Fin 32) (l : Fin 128), x = ix2 p l := ⟨x 0, x 1, eq_ix2 x⟩
    rw [elo]; exact hlo r p l
  have ahi : ∀ r, ∀ x, (pHi k r (hi r)).2 x = G ((pHi k r (hi r)).1.emb x) := fun r x => by
    obtain ⟨p, l, rfl⟩ : ∃ (p : Fin 32) (l : Fin 128), x = ix2 p l := ⟨x 0, x 1, eq_ix2 x⟩
    rw [ehi]; exact hhi r p l
  have mlo : ∀ r, pLo k r (lo r) ∈ both k lo hi := fun r => by unfold both; fin_cases r <;> simp
  have mhi : ∀ r, pHi k r (hi r) ∈ both k lo hi := fun r => by unfold both; fin_cases r <;> simp
  refine ⟨fun p hp => ?_, fun R C hR => ?_⟩
  · rcases List.mem_append.1 hp with hp | hp
    · unfold both at hp
      simp only [List.mem_cons, List.not_mem_nil] at hp
      rcases hp with rfl | rfl | rfl | rfl | rfl | rfl | rfl | rfl | rfl | rfl | rfl | rfl | rfl | rfl | rfl | rfl | hp
      all_goals first | exact alo _ | exact ahi _ | exact hp.elim
    · exact h.1 p hp
  · by_cases hlt : R.val < 256 * k.val
    · obtain ⟨p, hp, hm⟩ := h.2 R C hlt
      exact ⟨p, List.mem_append_right _ hp, hm⟩
    · obtain ⟨r, p, rfl⟩ : ∃ r p, R = row k r p := ⟨⟨(R.val - 256 * k.val) / 32, by omega⟩, ⟨(R.val - 256 * k.val) % 32, by omega⟩, by
        apply Fin.ext; show R.val = 256 * k.val + 32 * ((R.val - 256 * k.val) / 32) + (R.val - 256 * k.val) % 32; omega⟩
      by_cases hc : C.val < 128
      · obtain ⟨l, rfl⟩ : ∃ l, C = col 0 l := ⟨⟨C.val, hc⟩, by apply Fin.ext; show C.val = 128 * 0 + C.val; omega⟩
        exact ⟨_, List.mem_append_left _ (mlo r), by rw [← elo]; exact LoadRect.idx_mem _ _⟩
      · obtain ⟨l, rfl⟩ : ∃ l, C = col 1 l := ⟨⟨C.val - 128, by omega⟩, by apply Fin.ext; show C.val = 128 * 1 + (C.val - 128); omega⟩
        exact ⟨_, List.mem_append_left _ (mhi r), by rw [← ehi]; exact LoadRect.idx_mem _ _⟩

theorem full_read {e : EltTy} (a : Memref sig .tc .vmem S3584x256 e) (f : BufTy.Contents (Elt F) a.view.ty) (G : S3584x256.Idx → Elt F e) (L : List (View.Piece (Elt F) S3584x256 e))
    (h : Full G 14 L) (R : Fin 3584) (C : Fin 256) : a.view.read (Elt F) (a.view.writes (Elt F) f L) (ix2 R C) = G (ix2 R C) :=
  View.read_writes_apply_of_pieces _ _ G L h.1 (ix2 R C) (h.2 R C R.isLt)

end Cert.Proof.KernelIdeal
-- ==== Proof.KernelIdeal.Puts.lean ====
/-
  The masked stores into the arrays of scales: two columns of one array.
-/
module

public import proofs.«01_k».proof.Proof.KernelIdeal.Lists

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Cert.Proof.Scal

section
variable (a : Memref sig .tc .vmem S3584x256 .f32) (i : grid0.Coords)

theorem put_emb (k : Fin k0_t2_loop.trips) (r : Fin 8) (p : Fin 32) (l : Fin 128) :
    (Rect.unit (s := S3584x256) (k0_off29 i k (BitVec.ofNat 32 (32 * r.val))) S32x128.size (bnd29 i k r)).emb (ix2 p l)
      = ix2 (row k r p) ⟨128 * ((i 0).val / 64) + l.val, by have : (i 0).val < 74 := (i 0).isLt; omega⟩ := by
  have := trip_lt k; have hi : (i 0).val < 74 := (i 0).isLt
  exact emb_at (off29_eq i k r) _ p l (by omega) (by omega)

theorem scol_eq (j : Fin 2) : scol i j = ⟨128 * ((i 0).val / 64) + (slane i j).val, by have : (i 0).val < 74 := (i 0).isLt; unfold slane; simp only; omega⟩ := by
  apply Fin.ext
  show 2 * (i 0).val + j.val = 128 * ((i 0).val / 64) + (2 * (i 0).val % 128 + j.val)
  omega

theorem put_hit (k : Fin k0_t2_loop.trips) (r : Fin 8) (j : Fin 2) (v : Vec F S32x128 .f32) (mask : IVec S32x128 1) (f : BufTy.Contents (Elt F) a.view.ty) (p : Fin 32)
    (hm : mask (ix2 p (slane i j)) = 1#1) :
    a.view.read (Elt F) (put a i k r v mask f) (ix2 (row k r p) (scol i j)) = v (ix2 p (slane i j)) := by
  rw [scol_eq, ← put_emb]
  exact View.read_slice_write_emb _ _ _ (by simpa [IVec.on] using hm)

theorem put_miss (k : Fin k0_t2_loop.trips) (r : Fin 8) (v : Vec F S32x128 .f32) (mask : IVec S32x128 1) (f : BufTy.Contents (Elt F) a.view.ty) (y : S3584x256.Idx)
    (hm : ∀ p l, mask (ix2 p l) = 1#1 → ix2 (row k r p) (⟨128 * ((i 0).val / 64) + l.val, by have : (i 0).val < 74 := (i 0).isLt; omega⟩ : Fin 256) ≠ y) :
    a.view.read (Elt F) (put a i k r v mask f) y = a.view.read (Elt F) f y := by
  refine View.read_slice_write_of_not_mem _ _ _ _ fun hy => ?_
  obtain ⟨x, hx, hxy⟩ := Finset.mem_map.1 hy
  obtain ⟨p, l, rfl⟩ : ∃ (p : Fin 32) (l : Fin 128), x = ix2 p l := ⟨x 0, x 1, eq_ix2 x⟩
  refine hm p l (by simpa [IVec.on] using hx) ?_
  rw [← put_emb]; exact hxy

/-- The first `t` tiles have their entries in their columns, the rest is as it was. -/
def Part (G : Fin 3584 → Fin 2 → Elt F .f32) (t : ℕ) (f f' : BufTy.Contents (Elt F) a.view.ty) : Prop :=
  (∀ (R : Fin 3584) (j : Fin 2), 2 * (R.val / 32) + j.val < t → a.view.read (Elt F) f' (ix2 R (scol i j)) = G R j)
  ∧ ∀ (R : Fin 3584) (q : Fin 256), (∀ j, q = scol i j → t ≤ 2 * (R.val / 32) + j.val) → a.view.read (Elt F) f' (ix2 R q) = a.view.read (Elt F) f (ix2 R q)

variable (G : Fin 3584 → Fin 2 → Elt F .f32) (f : BufTy.Contents (Elt F) a.view.ty)

theorem part_zero : Part a i G 0 f f := ⟨fun R j h => absurd h (by omega), fun _ _ _ => rfl⟩

theorem part_step (k : Fin k0_t2_loop.trips) (r : Fin 8) (j : Fin 2) (v : Vec F S32x128 .f32) (mask : IVec S32x128 1) (f' : BufTy.Contents (Elt F) a.view.ty) (t : ℕ)
    (ht : t = 16 * k.val + 2 * r.val + j.val) (hmask : ∀ p l, mask (ix2 p l) = if l = slane i j then 1#1 else 0#1)
    (hv : ∀ p, v (ix2 p (slane i j)) = G (row k r p) j) (h : Part a i G t f f') : Part a i G (t + 1) f (put a i k r v mask f') := by
  have hi : (i 0).val < 74 := (i 0).isLt
  have hl : ∀ p l, mask (ix2 p l) = 1#1 → l = slane i j := fun p l hm => by
    rw [hmask] at hm; by_contra hne; rw [if_neg hne] at hm; exact absurd hm (by decide)
  refine ⟨fun R j' hR => ?_, fun R q hq => ?_⟩
  · by_cases hnew : 2 * (R.val / 32) + j'.val < t
    · rw [put_miss]
      · exact h.1 R j' hnew
      · intro p l hm he
        rw [hl p l hm, ← scol_eq] at he
        have h0 := congrArg (fun z : S3584x256.Idx => (z 0).val) he
        have h1 := congrArg (fun z : S3584x256.Idx => (z 1).val) he
        change 256 * k.val + 32 * r.val + p.val = R.val at h0
        change 2 * (i 0).val + j.val = 2 * (i 0).val + j'.val at h1
        omega
    · obtain rfl : j' = j := by apply Fin.ext; omega
      obtain ⟨p, rfl⟩ : ∃ p, R = row k r p := ⟨⟨R.val % 32, by omega⟩, by apply Fin.ext; show R.val = 256 * k.val + 32 * r.val + R.val % 32; omega⟩
      rw [put_hit a i k r j' v mask f' p (by rw [hmask, if_pos rfl]), hv]
  · rw [put_miss]
    · exact h.2 R q fun j' hj => by have := hq j' hj; omega
    · intro p l hm he
      rw [hl p l hm, ← scol_eq] at he
      have h0 := congrArg (fun z : S3584x256.Idx => (z 0).val) he
      have h1 : scol i j = q := congrArg (fun z : S3584x256.Idx => z 1) he
      change 256 * k.val + 32 * r.val + p.val = R.val at h0
      have := hq j h1.symm
      omega

theorem puts_part (k : Fin k0_t2_loop.trips) (m0 m1 : IVec S32x128 1) (lo hi : Fin 8 → Vec F S32x128 .f32) (f' : BufTy.Contents (Elt F) a.view.ty)
    (h0 : ∀ p l, m0 (ix2 p l) = if l = slane i 0 then 1#1 else 0#1) (h1 : ∀ p l, m1 (ix2 p l) = if l = slane i 1 then 1#1 else 0#1)
    (hlo : ∀ r p, lo r (ix2 p (slane i 0)) = G (row k r p) 0) (hhi : ∀ r p, hi r (ix2 p (slane i 1)) = G (row k r p) 1)
    (h : Part a i G (16 * k.val) f f') : Part a i G (16 * (k.val + 1)) f (puts a i k m0 m1 lo hi f') := by
  have s0 : ∀ (r : Fin 8) (t : ℕ) (g : BufTy.Contents (Elt F) a.view.ty), t = 16 * k.val + 2 * r.val → Part a i G t f g → Part a i G (t + 1) f (put a i k r (lo r) m0 g) :=
    fun r t g ht hg => part_step a i G f k r 0 _ _ g t ht h0 (hlo r) hg
  have s1 : ∀ (r : Fin 8) (t : ℕ) (g : BufTy.Contents (Elt F) a.view.ty), t = 16 * k.val + 2 * r.val + 1 → Part a i G t f g → Part a i G (t + 1) f (put a i k r (hi r) m1 g) :=
    fun r t g ht hg => part_step a i G f k r 1 _ _ g t ht h1 (hhi r) hg
  exact s1 7 _ _ rfl <| s0 7 _ _ rfl <| s1 6 _ _ rfl <| s0 6 _ _ rfl <| s1 5 _ _ rfl <| s0 5 _ _ rfl <| s1 4 _ _ rfl <| s0 4 _ _ rfl <|
    s1 3 _ _ rfl <| s0 3 _ _ rfl <| s1 2 _ _ rfl <| s0 2 _ _ rfl <| s1 1 _ _ rfl <| s0 1 _ _ rfl <| s1 0 _ _ rfl <| s0 0 _ _ rfl h

end

end Cert.Proof.KernelIdeal
-- ==== Proof.KernelIdeal.ShapeP11.lean ====
/-
  The stores of one trip, as the tile functions of the arrays the trip reads.
-/
module

public import proofs.«01_k».proof.Proof.KernelIdeal.Trip
public import proofs.«01_k».proof.Proof.KernelIdeal.TripShape

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section
variable (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (k : Fin k0_t2_loop.trips)

theorem trip_p11 : (tripO (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).p11 = both k
      (fun r => tWn v33 v38 (k0_pay1 arg0 v39 c2_i32_11) (tileG i arg17 arg18 arg19 f17 f18 k r 0) (ldLo arg7 f7 k r) (ldSc arg21 f21 i k r) (ldLo arg9 f9 k r) (ldSc arg22 f22 i k r) (ldLo arg6 f6 k r))
      (fun r => tWn v33 v38 (k0_pay2 arg0 v39 c2_i32_11) (tileG i arg17 arg18 arg19 f17 f18 k r 1) (ldHi arg7 f7 k r) (ldSc arg21 f21 i k r) (ldHi arg9 f9 k r) (ldSc arg22 f22 i k r) (ldHi arg6 f6 k r)) := by
  unfold tripO trip
  dsimp only
  unfold both
  repeat' refine congrArg₂ List.cons (congrArg (Sigma.mk _) ?_) ?_
  all_goals rfl

end

end Cert.Proof.KernelIdeal
-- ==== Proof.KernelIdeal.ShapeP12.lean ====
/-
  The stores of one trip, as the tile functions of the arrays the trip reads.
-/
module

public import proofs.«01_k».proof.Proof.KernelIdeal.Trip
public import proofs.«01_k».proof.Proof.KernelIdeal.TripShape

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section
variable (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (k : Fin k0_t2_loop.trips)

theorem trip_p12 : (tripO (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).p12 = both k
      (fun r => tUpd v33 v38 (k0_pay1 arg0 v39 c2_i32_11) (tileG i arg17 arg18 arg19 f17 f18 k r 0) (ldLo arg7 f7 k r) (ldSc arg21 f21 i k r) (ldLo arg9 f9 k r) (ldSc arg22 f22 i k r))
      (fun r => tUpd v33 v38 (k0_pay2 arg0 v39 c2_i32_11) (tileG i arg17 arg18 arg19 f17 f18 k r 1) (ldHi arg7 f7 k r) (ldSc arg21 f21 i k r) (ldHi arg9 f9 k r) (ldSc arg22 f22 i k r)) := by
  unfold tripO trip
  dsimp only
  unfold both
  repeat' refine congrArg₂ List.cons (congrArg (Sigma.mk _) ?_) ?_
  all_goals rfl

end

end Cert.Proof.KernelIdeal
-- ==== Proof.KernelIdeal.ShapeP13.lean ====
/-
  The stores of one trip, as the tile functions of the arrays the trip reads.
-/
module

public import proofs.«01_k».proof.Proof.KernelIdeal.Trip
public import proofs.«01_k».proof.Proof.KernelIdeal.TripShape

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section
variable (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (k : Fin k0_t2_loop.trips)

theorem trip_p13 : (tripO (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).p13 = both k
      (fun r => tMn (k0_pay1 arg0 v39 c2_i32_11) (tileG i arg17 arg18 arg19 f17 f18 k r 0) (ldLo arg7 f7 k r) (ldSc arg21 f21 i k r))
      (fun r => tMn (k0_pay2 arg0 v39 c2_i32_11) (tileG i arg17 arg18 arg19 f17 f18 k r 1) (ldHi arg7 f7 k r) (ldSc arg21 f21 i k r)) := by
  unfold tripO trip
  dsimp only
  unfold both
  repeat' refine congrArg₂ List.cons (congrArg (Sigma.mk _) ?_) ?_
  all_goals rfl

end

end Cert.Proof.KernelIdeal
-- ==== Proof.KernelIdeal.ShapeP15.lean ====
/-
  The stores of one trip, as the tile functions of the arrays the trip reads.
-/
module

public import proofs.«01_k».proof.Proof.KernelIdeal.Trip
public import proofs.«01_k».proof.Proof.KernelIdeal.TripShape

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section
variable (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (k : Fin k0_t2_loop.trips)

theorem trip_p15 : (tripO (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).p15 = both k
      (fun r => tSn (k0_pay1 arg0 v39 c2_i32_11) (tileG i arg17 arg18 arg19 f17 f18 k r 0) (ldLo arg9 f9 k r) (ldSc arg22 f22 i k r))
      (fun r => tSn (k0_pay2 arg0 v39 c2_i32_11) (tileG i arg17 arg18 arg19 f17 f18 k r 1) (ldHi arg9 f9 k r) (ldSc arg22 f22 i k r)) := by
  unfold tripO trip
  dsimp only
  unfold both
  repeat' refine congrArg₂ List.cons (congrArg (Sigma.mk _) ?_) ?_
  all_goals rfl

end

end Cert.Proof.KernelIdeal
-- ==== Proof.KernelIdeal.ShapeG14.lean ====
/-
  The stores of one trip, as the tile functions of the arrays the trip reads.
-/
module

public import proofs.«01_k».proof.Proof.KernelIdeal.Trip
public import proofs.«01_k».proof.Proof.KernelIdeal.TripShape

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section
variable (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (k : Fin k0_t2_loop.trips)

theorem trip_g14 (f14 : BufTy.Contents (Elt F) arg14.view.ty) : (tripO (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).g14 f14 = puts arg14 i k (k0_pay37 (k0_pay1 arg0 v39 c2_i32_11)) (k0_pay37 (k0_pay2 arg0 v39 c2_i32_11))
      (fun r => k0_pay36 (tMm (k0_pay1 arg0 v39 c2_i32_11) (tileG i arg17 arg18 arg19 f17 f18 k r 0) (ldLo arg7 f7 k r) (ldSc arg21 f21 i k r)))
      (fun r => k0_pay36 (tMm (k0_pay2 arg0 v39 c2_i32_11) (tileG i arg17 arg18 arg19 f17 f18 k r 1) (ldHi arg7 f7 k r) (ldSc arg21 f21 i k r))) f14 := by
  unfold tripO trip
  dsimp only
  unfold puts put
  rfl

end

end Cert.Proof.KernelIdeal
-- ==== Proof.KernelIdeal.ShapeG16.lean ====
/-
  The stores of one trip, as the tile functions of the arrays the trip reads.
-/
module

public import proofs.«01_k».proof.Proof.KernelIdeal.Trip
public import proofs.«01_k».proof.Proof.KernelIdeal.TripShape

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section
variable (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (arg0 : BitVec 32) (v0 : BitVec 32) (v33 : FVec F S32x128 .f32) (v38 : FVec F S32x128 .f32) (v39 : IVec S32x128 32) (c2_i32_11 : BitVec 32) (v59 : BitVec 32) (f6 : BufTy.Contents (Elt F) arg6.view.ty) (f7 : BufTy.Contents (Elt F) arg7.view.ty) (f9 : BufTy.Contents (Elt F) arg9.view.ty) (f17 : BufTy.Contents (Elt F) arg17.view.ty) (f18 : BufTy.Contents (Elt F) arg18.view.ty) (f21 : BufTy.Contents (Elt F) arg21.view.ty) (f22 : BufTy.Contents (Elt F) arg22.view.ty) (k : Fin k0_t2_loop.trips)

theorem trip_g16 (f16 : BufTy.Contents (Elt F) arg16.view.ty) : (tripO (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v0 v33 v38 v39 c2_i32_11 v59 f6 f7 f9 f17 f18 f21 f22 k).g16 f16 = puts arg16 i k (k0_pay37 (k0_pay1 arg0 v39 c2_i32_11)) (k0_pay37 (k0_pay2 arg0 v39 c2_i32_11))
      (fun r => shapeCast S32x128 (tTs (k0_pay1 arg0 v39 c2_i32_11) (tileG i arg17 arg18 arg19 f17 f18 k r 0) (ldLo arg9 f9 k r) (ldSc arg22 f22 i k r)) shapeCasts_S32x128_S32x128)
      (fun r => shapeCast S32x128 (tTs (k0_pay2 arg0 v39 c2_i32_11) (tileG i arg17 arg18 arg19 f17 f18 k r 1) (ldHi arg9 f9 k r) (ldSc arg22 f22 i k r)) shapeCasts_S32x128_S32x128) f16 := by
  unfold tripO trip
  dsimp only
  unfold puts put
  rfl

end

end Cert.Proof.KernelIdeal
-- ==== Proof.KernelIdeal.Block.lean ====
/-
  What the trips of one step leave, entry by entry, over the extended reals.
-/
module

public import proofs.«01_k».proof.Proof.KernelIdeal.Puts
public import proofs.«01_k».proof.Proof.KernelIdeal.ShapeP11
public import proofs.«01_k».proof.Proof.KernelIdeal.ShapeP12
public import proofs.«01_k».proof.Proof.KernelIdeal.ShapeP13
public import proofs.«01_k».proof.Proof.KernelIdeal.ShapeP15
public import proofs.«01_k».proof.Proof.KernelIdeal.ShapeG14
public import proofs.«01_k».proof.Proof.KernelIdeal.ShapeG16

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Cert.Proof.Scal

/-- The numbers one step works from. -/
structure Blk where
  X : Fin 3584 → Fin 1536 → EReal
  D : Fin 1536 → Fin 256 → EReal
  W : Fin 3584 → Fin 256 → EReal
  M : Fin 3584 → Fin 256 → EReal
  S : Fin 3584 → Fin 256 → EReal
  MU : Fin 3584 → Fin 2 → EReal
  SU : Fin 3584 → Fin 2 → EReal
  gain : EReal
  guard : EReal

def halfOf (C : Fin 256) : Fin 2 := ⟨C.val / 128, by omega⟩
theorem halfOf_col (j : Fin 2) (l : Fin 128) : halfOf (col j l) = j := by apply Fin.ext; show (128 * j.val + l.val) / 128 = j.val; omega

namespace Blk
variable (B : Blk)
def g (R : Fin 3584) (C : Fin 256) : EReal := ∑ τ, B.X R τ * B.D τ C
def mm (R : Fin 3584) (C : Fin 256) : EReal := mmE (B.M R C) (B.MU R (halfOf C)) (B.g R C)
def ss (R : Fin 3584) (C : Fin 256) : EReal := ssE (vvE (B.S R C * B.SU R (halfOf C)) (B.g R C))
def upd (R : Fin 3584) (C : Fin 256) : EReal := Ideal.div (B.mm R C * B.gain) (B.ss R C + B.guard)
def wn (R : Fin 3584) (C : Fin 256) : EReal := B.W R C + B.upd R C
def tm (R : Fin 3584) (j : Fin 2) : EReal := top (fun l => mag (B.mm R (col j l))) * ((1 / 4480 : ℝ) : EReal)
def ts (R : Fin 3584) (j : Fin 2) : EReal := top (fun l => B.ss R (col j l)) * (((Real.sqrt (1 / 1000)) * (1 / 448) : ℝ) : EReal)
def mn (R : Fin 3584) (C : Fin 256) : EReal := clip (B.mm R C * (((1 / 10 : ℝ) : EReal) * Ideal.exp2 (((-1 : ℝ) : EReal) - expo (B.tm R (halfOf C)))))
def sn (R : Fin 3584) (C : Fin 256) : EReal := clip (B.ss R C * (((Real.sqrt (1 / 1000) : ℝ) : EReal) * Ideal.exp2 (((-1 : ℝ) : EReal) - expo (B.ts R (halfOf C)))))
end Blk

/-- One tile read: row `p` of the tile is row `R` of the block, its lanes half `j`. -/
structure TileAt (B : Blk) (R : Fin 3584) (j : Fin 2) (p : Fin 32) (L : Fin 128) (mask : IVec S32x128 1) (g : Vec Ideal S32x128 .f32) (m : Vec Ideal S32x128 .fp8e4m3)
    (mu : Vec Ideal S32x128 .bf16) (s : Vec Ideal S32x128 .fp8e4m3) (su : Vec Ideal S32x128 .bf16) (w : Vec Ideal S32x128 .bf16) : Prop where
  hmask : ∀ r l, mask (ix2 r l) = if l = L then 1#1 else 0#1
  hg : ∀ l, g (ix2 p l) = B.g R (col j l)
  hm : ∀ l, m (ix2 p l) = B.M R (col j l)
  hs : ∀ l, s (ix2 p l) = B.S R (col j l)
  hw : ∀ l, w (ix2 p l) = B.W R (col j l)
  hmu : mu (ix2 p L) = B.MU R j
  hsu : su (ix2 p L) = B.SU R j
  mu0 : 0 ≤ B.MU R j
  su0 : 0 ≤ B.SU R j

namespace TileAt
variable {B : Blk} {R : Fin 3584} {j : Fin 2} {p : Fin 32} {L : Fin 128} {mask : IVec S32x128 1} {g : Vec Ideal S32x128 .f32} {m : Vec Ideal S32x128 .fp8e4m3}
    {mu : Vec Ideal S32x128 .bf16} {s : Vec Ideal S32x128 .fp8e4m3} {su : Vec Ideal S32x128 .bf16} {w : Vec Ideal S32x128 .bf16}
  (h : TileAt B R j p L mask g m mu s su w) (v33 v38 : FVec Ideal S32x128 .f32)
include h

theorem mm (l : Fin 128) : tMm mask g m mu (ix2 p l) = B.mm R (col j l) := by
  rw [tMm_at mask L h.hmask g m mu p l (by rw [h.hmu]; exact h.mu0), h.hm, h.hmu, h.hg]
  unfold Blk.mm; rw [halfOf_col]

theorem ss (l : Fin 128) : tSs mask g s su (ix2 p l) = B.ss R (col j l) := by
  rw [tSs_at mask L h.hmask g s su p l (by rw [h.hsu]; exact h.su0), h.hs, h.hsu, h.hg]
  unfold Blk.ss; rw [halfOf_col]

theorem upd (h33 : ∀ p l, v33 (ix2 p l) = B.gain) (h38 : ∀ p l, v38 (ix2 p l) = B.guard) (l : Fin 128) :
    tUpd v33 v38 mask g m mu s su (ix2 p l) = B.upd R (col j l) := by
  rw [tUpd_at, h.mm, h.ss, h33, h38]; rfl

theorem wn (h33 : ∀ p l, v33 (ix2 p l) = B.gain) (h38 : ∀ p l, v38 (ix2 p l) = B.guard) (l : Fin 128) :
    tWn v33 v38 mask g m mu s su w (ix2 p l) = B.wn R (col j l) := by
  rw [tWn_at, h.hw, h.upd v33 v38 h33 h38]; rfl

theorem tm (l : Fin 128) : tTm mask g m mu (ix2 p l) = B.tm R j := by
  rw [tTm_at]; simp only [h.mm]; rfl

theorem ts (l : Fin 128) : tTs mask g s su (ix2 p l) = B.ts R j := by
  rw [tTs_at]; simp only [h.ss]; rfl

theorem mn (l : Fin 128) : tMn mask g m mu (ix2 p l) = B.mn R (col j l) := by
  rw [tMn_at, h.mm, h.tm]; unfold Blk.mn; rw [halfOf_col]

theorem sn (l : Fin 128) : tSn mask g s su (ix2 p l) = B.sn R (col j l) := by
  rw [tSn_at, h.ss, h.ts]; unfold Blk.sn; rw [halfOf_col]

end TileAt

section
variable (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (v0 : BitVec 32) (v33 : FVec Ideal S32x128 .f32) (v38 : FVec Ideal S32x128 .f32) (v59 : BitVec 32) (f6 : BufTy.Contents (Elt Ideal) arg6.view.ty) (f7 : BufTy.Contents (Elt Ideal) arg7.view.ty) (f9 : BufTy.Contents (Elt Ideal) arg9.view.ty) (f17 : BufTy.Contents (Elt Ideal) arg17.view.ty) (f18 : BufTy.Contents (Elt Ideal) arg18.view.ty) (f21 : BufTy.Contents (Elt Ideal) arg21.view.ty) (f22 : BufTy.Contents (Elt Ideal) arg22.view.ty)

/-- The numbers a step works from, read off the arrays it reads. -/
def blkOf (i : grid0.Coords) (arg6 : Memref sig .tc .vmem S3584x256 .bf16) (arg7 : Memref sig .tc .vmem S3584x256 .fp8e4m3) (arg9 : Memref sig .tc .vmem S3584x256 .fp8e4m3)
    (arg17 : Memref sig .tc .vmem S3584x1536 .bf16) (arg18 : Memref sig .tc .vmem S2x1536x256 .fp8e5m2) (arg21 arg22 : Memref sig .tc .vmem S3584x256 .bf16)
    (f6 : BufTy.Contents (Elt Ideal) arg6.view.ty) (f7 : BufTy.Contents (Elt Ideal) arg7.view.ty) (f9 : BufTy.Contents (Elt Ideal) arg9.view.ty)
    (f17 : BufTy.Contents (Elt Ideal) arg17.view.ty) (f18 : BufTy.Contents (Elt Ideal) arg18.view.ty) (f21 : BufTy.Contents (Elt Ideal) arg21.view.ty)
    (f22 : BufTy.Contents (Elt Ideal) arg22.view.ty) (gain guard : EReal) : Blk where
  X R τ := arg17.view.read (Elt Ideal) f17 (ix2 R τ)
  D τ C := arg18.view.read (Elt Ideal) f18 (ix3 ⟨(i 0).val % 2, by omega⟩ τ C)
  W R C := arg6.view.read (Elt Ideal) f6 (ix2 R C)
  M R C := arg7.view.read (Elt Ideal) f7 (ix2 R C)
  S R C := arg9.view.read (Elt Ideal) f9 (ix2 R C)
  MU R j := arg21.view.read (Elt Ideal) f21 (ix2 R (scol i j))
  SU R j := arg22.view.read (Elt Ideal) f22 (ix2 R (scol i j))
  gain := gain
  guard := guard

variable (gain guard : EReal) (h33 : ∀ p l, v33 (ix2 p l) = gain) (h38 : ∀ p l, v38 (ix2 p l) = guard)

variable (hMU : ∀ R j, 0 ≤ (blkOf i arg6 arg7 arg9 arg17 arg18 arg21 arg22 f6 f7 f9 f17 f18 f21 f22 gain guard).MU R j) (hSU : ∀ R j, 0 ≤ (blkOf i arg6 arg7 arg9 arg17 arg18 arg21 arg22 f6 f7 f9 f17 f18 f21 f22 gain guard).SU R j)

include hMU hSU in
theorem tileLo (k : Fin k0_t2_loop.trips) (r : Fin 8) (p : Fin 32) :
    TileAt (blkOf i arg6 arg7 arg9 arg17 arg18 arg21 arg22 f6 f7 f9 f17 f18 f21 f22 gain guard) (row k r p) 0 p (slane i 0) (k0_pay1 (BitVec.ofNat 32 (i 0).val) (iota .tc S32x128 32 [1] iota_S32x128_d1_w32) 2#32)
      (tileG i arg17 arg18 arg19 f17 f18 k r 0) (ldLo arg7 f7 k r) (ldSc arg21 f21 i k r) (ldLo arg9 f9 k r) (ldSc arg22 f22 i k r) (ldLo arg6 f6 k r) where
  hmask := mask0_at i
  hg l := by
    rw [tileG_at, cellG_at]
    unfold Blk.g blkOf row
    simp only [Nat.add_assoc]
  hm l := ldLo_at _ _ _ _ _ _
  hs l := ldLo_at _ _ _ _ _ _
  hw l := ldLo_at _ _ _ _ _ _
  hmu := ldSc_at _ _ _ _ _ _ _
  hsu := ldSc_at _ _ _ _ _ _ _
  mu0 := hMU _ _
  su0 := hSU _ _

include hMU hSU in
theorem tileHi (k : Fin k0_t2_loop.trips) (r : Fin 8) (p : Fin 32) :
    TileAt (blkOf i arg6 arg7 arg9 arg17 arg18 arg21 arg22 f6 f7 f9 f17 f18 f21 f22 gain guard) (row k r p) 1 p (slane i 1) (k0_pay2 (BitVec.ofNat 32 (i 0).val) (iota .tc S32x128 32 [1] iota_S32x128_d1_w32) 2#32)
      (tileG i arg17 arg18 arg19 f17 f18 k r 1) (ldHi arg7 f7 k r) (ldSc arg21 f21 i k r) (ldHi arg9 f9 k r) (ldSc arg22 f22 i k r) (ldHi arg6 f6 k r) where
  hmask := mask1_at i
  hg l := by
    rw [tileG_at, cellG_at]
    unfold Blk.g blkOf row
    simp only [Nat.add_assoc]
  hm l := ldHi_at _ _ _ _ _ _
  hs l := ldHi_at _ _ _ _ _ _
  hw l := ldHi_at _ _ _ _ _ _
  hmu := ldSc_at _ _ _ _ _ _ _
  hsu := ldSc_at _ _ _ _ _ _ _
  mu0 := hMU _ _
  su0 := hSU _ _

/-- An array given by its entries. -/
def arr (u : Fin 3584 → Fin 256 → EReal) : S3584x256.Idx → EReal := fun y => u (y 0) (y 1)

include h33 h38 hMU hSU in
/-- What the first `n` trips leave. -/
theorem trips_value (f14 : BufTy.Contents (Elt Ideal) arg14.view.ty) (f16 : BufTy.Contents (Elt Ideal) arg16.view.ty) (n : ℕ) (hn : n ≤ k0_t2_loop.trips) :
    let o := trips (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) v0 v33 v38 (iota .tc S32x128 32 [1] iota_S32x128_d1_w32) 2#32 v59 f6 f7 f9 f17 f18 f21 f22 n
    Full (F := Ideal) (e := .bf16) (arr (blkOf i arg6 arg7 arg9 arg17 arg18 arg21 arg22 f6 f7 f9 f17 f18 f21 f22 gain guard).wn) n o.p11 ∧ Full (F := Ideal) (e := .f32) (arr (blkOf i arg6 arg7 arg9 arg17 arg18 arg21 arg22 f6 f7 f9 f17 f18 f21 f22 gain guard).upd) n o.p12 ∧ Full (F := Ideal) (e := .fp8e4m3) (arr (blkOf i arg6 arg7 arg9 arg17 arg18 arg21 arg22 f6 f7 f9 f17 f18 f21 f22 gain guard).mn) n o.p13
      ∧ Full (F := Ideal) (e := .fp8e4m3) (arr (blkOf i arg6 arg7 arg9 arg17 arg18 arg21 arg22 f6 f7 f9 f17 f18 f21 f22 gain guard).sn) n o.p15
      ∧ Part (F := Ideal) arg14 i (blkOf i arg6 arg7 arg9 arg17 arg18 arg21 arg22 f6 f7 f9 f17 f18 f21 f22 gain guard).tm (16 * n) f14 (o.g14 f14) ∧ Part (F := Ideal) arg16 i (blkOf i arg6 arg7 arg9 arg17 arg18 arg21 arg22 f6 f7 f9 f17 f18 f21 f22 gain guard).ts (16 * n) f16 (o.g16 f16) := by
  induction n with
  | zero => exact ⟨full_nil _, full_nil _, full_nil _, full_nil _, part_zero _ _ _ _, part_zero _ _ _ _⟩
  | succ n ih =>
    have hk : n < k0_t2_loop.trips := hn
    obtain ⟨i1, i2, i3, i4, i5, i6⟩ := ih hk.le
    have lo := tileLo i arg6 arg7 arg9 arg17 arg18 arg19 arg21 arg22 f6 f7 f9 f17 f18 f21 f22 gain guard hMU hSU ⟨n, hk⟩
    have hi := tileHi i arg6 arg7 arg9 arg17 arg18 arg19 arg21 arg22 f6 f7 f9 f17 f18 f21 f22 gain guard hMU hSU ⟨n, hk⟩
    have hs := trips_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 0).val) v0 v33 v38 (iota .tc S32x128 32 [1] iota_S32x128_d1_w32) 2#32 v59 f6 f7 f9 f17 f18 f21 f22 ⟨n, hk⟩
    dsimp only at hs ⊢
    rw [hs]
    refine ⟨?_, ?_, ?_, ?_, ?_, ?_⟩
    · rw [trip_p11]
      exact full_step _ ⟨n, hk⟩ _ i1 _ _ (fun r p l => (lo r p).wn v33 v38 h33 h38 l) (fun r p l => (hi r p).wn v33 v38 h33 h38 l)
    · rw [trip_p12]
      exact full_step _ ⟨n, hk⟩ _ i2 _ _ (fun r p l => (lo r p).upd v33 v38 h33 h38 l) (fun r p l => (hi r p).upd v33 v38 h33 h38 l)
    · rw [trip_p13]
      exact full_step _ ⟨n, hk⟩ _ i3 _ _ (fun r p l => (lo r p).mn l) (fun r p l => (hi r p).mn l)
    · rw [trip_p15]
      exact full_step _ ⟨n, hk⟩ _ i4 _ _ (fun r p l => (lo r p).sn l) (fun r p l => (hi r p).sn l)
    · rw [trip_g14]
      refine puts_part arg14 i _ f14 ⟨n, hk⟩ _ _ _ _ _ (fun p l => ?_) (fun p l => ?_) (fun r p => ?_) (fun r p => ?_) i5
      · unfold k0_pay37; rw [shapeCast_self]; exact mask0_at i p l
      · unfold k0_pay37; rw [shapeCast_self]; exact mask1_at i p l
      · unfold k0_pay36; rw [shapeCast_self]; exact (lo r p).tm _
      · unfold k0_pay36; rw [shapeCast_self]; exact (hi r p).tm _
    · rw [trip_g16]
      refine puts_part arg16 i _ f16 ⟨n, hk⟩ _ _ _ _ _ (fun p l => ?_) (fun p l => ?_) (fun r p => ?_) (fun r p => ?_) i6
      · unfold k0_pay37; rw [shapeCast_self]; exact mask0_at i p l
      · unfold k0_pay37; rw [shapeCast_self]; exact mask1_at i p l
      · rw [shapeCast_self]; exact (lo r p).ts _
      · rw [shapeCast_self]; exact (hi r p).ts _

end

end Cert.Proof.KernelIdeal
-- ==== Proof.KernelIdeal.Prologue.lean ====
/-
  The transposed operand the first point builds, entry by entry.
-/
module

public import proofs.«01_k».proof.Proof.KernelIdeal.Puts
public import proofs.«01_k».proof.Proof.KernelIdeal.RunAt

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Cert.Proof.Scal

theorem xtrip_lt (k : Fin k0_t1_loop.trips) : k.val < 28 := Nat.lt_of_lt_of_le k.isLt k0_t1_abs.2.1

/-- Where the `b`-th store of a trip goes, and where its load comes from. -/
def offS : Fin 12 → Fin k0_t1_loop.trips → Fin 2 → ℕ := ![k0_off2, k0_off4, k0_off6, k0_off8, k0_off10, k0_off12, k0_off14, k0_off16, k0_off18, k0_off20, k0_off22, k0_off24]
def offL : Fin 12 → Fin k0_t1_loop.trips → Fin 2 → ℕ := ![k0_off1, k0_off3, k0_off5, k0_off7, k0_off9, k0_off11, k0_off13, k0_off15, k0_off17, k0_off19, k0_off21, k0_off23]
theorem offS_eq : ∀ b k, offS b k = ![128 * k.val, 128 * b.val] := by decide +kernel
theorem offL_eq : ∀ b k, offL b k = ![128 * b.val, 128 * k.val] := by decide +kernel
theorem bndS (b : Fin 12) (k : Fin k0_t1_loop.trips) (c : Fin 2) : offS b k c + S128x128.size c ≤ S3584x1536.size c := by
  have := xtrip_lt k
  rw [offS_eq]
  match c with
  | 0 => show 128 * k.val + 128 ≤ 3584; omega
  | 1 => show 128 * b.val + 128 ≤ 1536; omega
theorem bndL (b : Fin 12) (k : Fin k0_t1_loop.trips) (c : Fin 2) : offL b k c + S128x128.size c ≤ S1536x3584.size c := by
  have := xtrip_lt k
  rw [offL_eq]
  match c with
  | 0 => show 128 * b.val + 128 ≤ 1536; omega
  | 1 => show 128 * k.val + 128 ≤ 3584; omega

/-- What the `b`-th store of a trip writes, from the two rows of scales and the tile it loads. -/
noncomputable def payX (b' : Fin 12) (a b : Vec F S6x256 .f32) (x : Vec F S128x128 .fp8e4m3) : Vec F S128x128 .bf16 :=
  match b' with
  | 0 => k0_pay6 (k0_pay17 a b) x
  | 1 => k0_pay7 (k0_pay18 a b) x
  | 2 => k0_pay8 (k0_pay19 a b) x
  | 3 => k0_pay9 (k0_pay20 a b) x
  | 4 => k0_pay11 (k0_pay21 a b) (k0_pay10 x)
  | 5 => k0_pay12 (k0_pay22 a b) x
  | 6 => k0_pay13 (k0_pay23 a b) x
  | 7 => k0_pay14 (k0_pay24 a b) x
  | 8 => k0_pay15 (k0_pay25 a b) x
  | 9 => k0_pay255 (k0_pay26 a b) x
  | 10 => k0_pay256 (k0_pay16 a b) x
  | 11 => k0_pay257 (k0_pay16 a b) x

noncomputable def pieceX (a b : Vec F S6x256 .f32) (arg2 : Memref sig .tc .vmem S1536x3584 .fp8e4m3) (f2 : BufTy.Contents (Elt F) arg2.view.ty) (k : Fin k0_t1_loop.trips) (n : Fin 12) : View.Piece (Elt F) S3584x1536 .bf16 :=
  ⟨Rect.unit (s := S3584x1536) (offS n k) S128x128.size (bndS n k),
    payX n a b (arg2.view.readAt (Elt F) (Rect.unit (s := S1536x3584) (offL n k) S128x128.size (bndL n k)).toLoadRect f2)⟩

section
variable (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (h1 : k0_cond1 i = 1#1) (a b : Vec F S6x256 .f32) (f2 : BufTy.Contents (Elt F) arg2.view.ty)

/-- The stores of the first `n` trips. -/
abbrev storesX (n : ℕ) : List (View.Piece (Elt F) S3584x1536 .bf16) := pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 (k0_pay16 a b) (k0_pay17 a b) (k0_pay18 a b) (k0_pay19 a b) (k0_pay20 a b) (k0_pay21 a b) (k0_pay22 a b) (k0_pay23 a b) (k0_pay24 a b) (k0_pay25 a b) (k0_pay26 a b) f2 n

theorem storesX_succ (k : Fin k0_t1_loop.trips) : storesX 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 a b f2 (k.val + 1) = [pieceX a b arg2 f2 k 11, pieceX a b arg2 f2 k 10, pieceX a b arg2 f2 k 9, pieceX a b arg2 f2 k 8, pieceX a b arg2 f2 k 7, pieceX a b arg2 f2 k 6, pieceX a b arg2 f2 k 5, pieceX a b arg2 f2 k 4, pieceX a b arg2 f2 k 3, pieceX a b arg2 f2 k 2, pieceX a b arg2 f2 k 1, pieceX a b arg2 f2 k 0] ++ storesX 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 a b f2 k.val := by
  unfold storesX
  rw [pb_k0_t1_succ]
  congr 1
  unfold tripL_k0_t1 trip_k0_t1
  repeat' refine congrArg₂ List.cons (congrArg (Sigma.mk _) ?_) ?_
  all_goals rfl
end

theorem payX_at (n : Fin 12) (a b : Vec Ideal S6x256 .f32) (x : Vec Ideal S128x128 .fp8e4m3) (p l : Fin 128) :
    payX n a b x (ix2 p l) = x (ix2 l p) * (a (ix2 ⟨n.val / 2, by omega⟩ ⟨128 * (n.val % 2) + l.val, by omega⟩) * b (ix2 ⟨n.val / 2, by omega⟩ ⟨128 * (n.val % 2) + l.val, by omega⟩)) := by
  match n with
  | 0 => unfold payX; pointwise [k0_pay6, k0_pay17, k0_pay16]
  | 1 => unfold payX; pointwise [k0_pay7, k0_pay18, k0_pay16]
  | 2 => unfold payX; pointwise [k0_pay8, k0_pay19, k0_pay16]
  | 3 => unfold payX; pointwise [k0_pay9, k0_pay20, k0_pay16]
  | 4 => unfold payX; pointwise [k0_pay11, k0_pay21, k0_pay10, k0_pay16]
  | 5 => unfold payX; pointwise [k0_pay12, k0_pay22, k0_pay16]
  | 6 => unfold payX; pointwise [k0_pay13, k0_pay23, k0_pay16]
  | 7 => unfold payX; pointwise [k0_pay14, k0_pay24, k0_pay16]
  | 8 => unfold payX; pointwise [k0_pay15, k0_pay25, k0_pay16]
  | 9 => unfold payX; pointwise [k0_pay255, k0_pay26, k0_pay16]
  | 10 => unfold payX; pointwise [k0_pay256, k0_pay16]
  | 11 => unfold payX; pointwise [k0_pay257, k0_pay16]

/-- A list of stores into the transposed operand that agree with one array and cover its first `128 * n` rows. -/
def FullX (G : S3584x1536.Idx → Elt F .bf16) (n : ℕ) (L : List (View.Piece (Elt F) S3584x1536 .bf16)) : Prop :=
  (∀ p ∈ L, ∀ x, p.2 x = G (p.1.emb x)) ∧ ∀ (R : Fin 3584) (C : Fin 1536), R.val < 128 * n → ∃ p ∈ L, ix2 R C ∈ p.1.set

/-- The scaled transposed operand. -/
def xtOf (a b : Vec Ideal S6x256 .f32) (X : Vec Ideal S1536x3584 .fp8e4m3) : S3584x1536.Idx → EReal := fun y =>
  X (ix2 (y 1) (y 0)) * (a (ix2 ⟨(y 1).val / 256, by have : (y 1).val < 1536 := (y 1).isLt; omega⟩ ⟨(y 1).val % 256, by omega⟩)
    * b (ix2 ⟨(y 1).val / 256, by have : (y 1).val < 1536 := (y 1).isLt; omega⟩ ⟨(y 1).val % 256, by omega⟩))

section
variable (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (h1 : k0_cond1 i = 1#1) (a b : Vec Ideal S6x256 .f32) (f2 : BufTy.Contents (Elt Ideal) arg2.view.ty)

theorem pieceX_emb (k : Fin k0_t1_loop.trips) (n : Fin 12) (p l : Fin 128) :
    (pieceX a b arg2 f2 k n).1.emb (ix2 p l) = ix2 ⟨128 * k.val + p.val, by have := xtrip_lt k; omega⟩ ⟨128 * n.val + l.val, by omega⟩ := by
  have h := offS_eq n k
  funext c; apply Fin.ext
  match c with
  | ⟨0, _⟩ => show offS n k 0 + 1 * p.val = 128 * k.val + p.val; rw [h]; show 128 * k.val + 1 * p.val = _; omega
  | ⟨1, _⟩ => show offS n k 1 + 1 * l.val = 128 * n.val + l.val; rw [h]; show 128 * n.val + 1 * l.val = _; omega

theorem pieceX_val (k : Fin k0_t1_loop.trips) (n : Fin 12) (x : S128x128.Idx) :
    (pieceX a b arg2 f2 k n).2 x = xtOf a b (arg2.view.read (Elt Ideal) f2) ((pieceX a b arg2 f2 k n).1.emb x) := by
  obtain ⟨p, l, rfl⟩ : ∃ (p l : Fin 128), x = ix2 p l := ⟨x 0, x 1, eq_ix2 x⟩
  rw [pieceX_emb]
  refine (payX_at n a b _ p l).trans ?_
  rw [View.readAt_apply]
  have h := offL_eq n k
  have e : (Rect.unit (s := S1536x3584) (offL n k) S128x128.size (bndL n k)).emb (ix2 l p)
      = ix2 ⟨128 * n.val + l.val, by omega⟩ ⟨128 * k.val + p.val, by have := xtrip_lt k; omega⟩ := by
    funext c; apply Fin.ext
    match c with
    | ⟨0, _⟩ => show offL n k 0 + 1 * l.val = 128 * n.val + l.val; rw [h]; show 128 * n.val + 1 * l.val = _; omega
    | ⟨1, _⟩ => show offL n k 1 + 1 * p.val = 128 * k.val + p.val; rw [h]; show 128 * k.val + 1 * p.val = _; omega
  have q1 : (⟨(128 * n.val + l.val) / 256, by omega⟩ : Fin 6) = ⟨n.val / 2, by omega⟩ := by apply Fin.ext; show (128 * n.val + l.val) / 256 = n.val / 2; omega
  have q2 : (⟨(128 * n.val + l.val) % 256, by omega⟩ : Fin 256) = ⟨128 * (n.val % 2) + l.val, by omega⟩ := by apply Fin.ext; show (128 * n.val + l.val) % 256 = 128 * (n.val % 2) + l.val; omega
  refine (congrArg (fun z => arg2.view.read (Elt Ideal) f2 z * _) e).trans ?_
  unfold xtOf
  show _ = _ * (a (ix2 (⟨(128 * n.val + l.val) / 256, by omega⟩ : Fin 6) (⟨(128 * n.val + l.val) % 256, by omega⟩ : Fin 256)) * b (ix2 (⟨(128 * n.val + l.val) / 256, by omega⟩ : Fin 6) (⟨(128 * n.val + l.val) % 256, by omega⟩ : Fin 256)))
  rw [q1, q2]
  rfl

theorem storesX_full (n : ℕ) (hn : n ≤ k0_t1_loop.trips) : FullX (xtOf a b (arg2.view.read (Elt Ideal) f2)) n (storesX 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 a b f2 n) := by
  induction n with
  | zero => exact ⟨fun p hp => absurd hp List.not_mem_nil, fun R C h => absurd h (by omega)⟩
  | succ n ih =>
    have hk : n < k0_t1_loop.trips := hn
    have ih := ih hk.le
    have hs := storesX_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 a b f2 ⟨n, hk⟩
    dsimp only at hs
    rw [hs]
    refine ⟨fun p hp => ?_, fun R C hR => ?_⟩
    · rcases List.mem_append.1 hp with hp | hp
      · simp only [List.mem_cons, List.not_mem_nil] at hp
        rcases hp with rfl | rfl | rfl | rfl | rfl | rfl | rfl | rfl | rfl | rfl | rfl | rfl | hp
        all_goals first | exact pieceX_val arg2 a b f2 _ _ | exact hp.elim
      · exact ih.1 p hp
    · by_cases hlt : R.val < 128 * n
      · obtain ⟨p, hp, hm⟩ := ih.2 R C hlt
        exact ⟨p, List.mem_append_right _ hp, hm⟩
      · have hm : ∀ j : Fin 12, pieceX a b arg2 f2 ⟨n, hk⟩ j ∈ [pieceX a b arg2 f2 ⟨n, hk⟩ 11, pieceX a b arg2 f2 ⟨n, hk⟩ 10, pieceX a b arg2 f2 ⟨n, hk⟩ 9, pieceX a b arg2 f2 ⟨n, hk⟩ 8, pieceX a b arg2 f2 ⟨n, hk⟩ 7, pieceX a b arg2 f2 ⟨n, hk⟩ 6, pieceX a b arg2 f2 ⟨n, hk⟩ 5, pieceX a b arg2 f2 ⟨n, hk⟩ 4, pieceX a b arg2 f2 ⟨n, hk⟩ 3, pieceX a b arg2 f2 ⟨n, hk⟩ 2, pieceX a b arg2 f2 ⟨n, hk⟩ 1, pieceX a b arg2 f2 ⟨n, hk⟩ 0] := fun j => by fin_cases j <;> simp
        refine ⟨pieceX a b arg2 f2 ⟨n, hk⟩ ⟨C.val / 128, by omega⟩, List.mem_append_left _ (hm _), ?_⟩
        have e := pieceX_emb arg2 a b f2 ⟨n, hk⟩ ⟨C.val / 128, by omega⟩ ⟨R.val - 128 * n, by omega⟩ ⟨C.val % 128, by omega⟩
        have e' : ix2 R C = (pieceX a b arg2 f2 ⟨n, hk⟩ ⟨C.val / 128, by omega⟩).1.emb (ix2 ⟨R.val - 128 * n, by omega⟩ ⟨C.val % 128, by omega⟩) := by
          rw [e]
          congr 1
          · apply Fin.ext; show R.val = 128 * n + (R.val - 128 * n); omega
          · apply Fin.ext; show C.val = 128 * (C.val / 128) + C.val % 128; omega
        rw [e']; exact LoadRect.idx_mem _ _

theorem storesX_read (f17 : BufTy.Contents (Elt Ideal) arg17.view.ty) (R : Fin 3584) (τ : Fin 1536) :
    arg17.view.read (Elt Ideal) (arg17.view.writes (Elt Ideal) f17 (storesX 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 a b f2 (Scf.trips k0_t1_loop.lb k0_t1_loop.ub k0_t1_loop.st))) (ix2 R τ)
      = xtOf a b (arg2.view.read (Elt Ideal) f2) (ix2 R τ) := by
  have h := storesX_full 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 a b f2 _ (le_refl k0_t1_loop.trips)
  have h28 : 28 ≤ k0_t1_loop.trips := by decide +kernel
  exact View.read_writes_apply_of_pieces _ _ _ _ h.1 (ix2 R τ) (h.2 R τ (by omega))
end

end Cert.Proof.KernelIdeal
-- ==== Proof.KernelIdeal.Begin.lean ====
/-
  What a point of the launch begins with, entry by entry.
-/
module

public import proofs.«01_k».proof.Proof.KernelIdeal.Prologue

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Cert.Proof.Scal

/-- A whole two-axis array loaded is the array read. -/
theorem load_whole {s : Shape} (hs : s.rank = 2) {e : EltTy} {mem : Space} (a : Memref sig .tc mem s e) (f : BufTy.Contents (Elt F) a.view.ty) (r : Rect s) (hr : ∀ c, r.off c = 0) (hst : ∀ c, r.stride c = 1)
    (x : r.shape.Idx) (y : s.Idx) (h : ∀ c, (x c).val = (y c).val) : a.view.readAt (Elt F) r.toLoadRect f x = a.view.read (Elt F) f y := by
  rw [View.readAt_apply]; congr 1
  funext c; apply Fin.ext
  show r.off c + r.stride c * (x c).val = (y c).val
  rw [hr, hst, h]; omega

section
variable (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f17 : BufTy.Contents (Elt F) arg17.view.ty) (f18 : BufTy.Contents (Elt F) arg18.view.ty) (f21 : BufTy.Contents (Elt F) arg21.view.ty) (f22 : BufTy.Contents (Elt F) arg22.view.ty)

theorem first_stp (h0 : (i 0).val = 0) : (runAt (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22).stp = arg1.view.readAt (Elt F) (Rect.unit (s := S1) ![0] S1.size inb_S1_S1_0).toLoadRect f1 (Shape.Idx.first (numel1_S1.symm ▸ Nat.one_pos)) := by
  unfold runAt; rw [dif_pos h0]; unfold runA; rfl
theorem first_c17 (h0 : (i 0).val = 0) : (runAt (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22).c17 = arg17.view.writes (Elt F) f17 (storesX 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (cond1_of h0) (arg3.view.readAt (Elt F) (Rect.unit (s := S6x256) ![0, 0] ![6, 256] inb_S6x256_S6x256_0_0).toLoadRect f3) (arg4.view.readAt (Elt F) (Rect.unit (s := S6x256) ![0, 0] ![6, 256] inb_S6x256_S6x256_0_0).toLoadRect f4) f2 (Scf.trips k0_t1_loop.lb k0_t1_loop.ub k0_t1_loop.st)) := by
  unfold runAt; rw [dif_pos h0]; unfold runA; rfl
theorem first_c21 (h0 : (i 0).val = 0) : (runAt (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22).c21 = arg21.view.writes (Elt F) f21 [⟨Rect.unit (s := S3584x256) ![0, 0] ![3584, 148] inb_S3584x256_S3584x148_0_0, k0_pay258 (arg8.view.readAt (Elt F) (Rect.unit (s := S3584x148) ![0, 0] ![3584, 148] inb_S3584x148_S3584x148_0_0).toLoadRect f8)⟩] := by
  unfold runAt; rw [dif_pos h0]; unfold runA; dsimp only
theorem first_c22 (h0 : (i 0).val = 0) : (runAt (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22).c22 = arg22.view.writes (Elt F) f22 [⟨Rect.unit (s := S3584x256) ![0, 0] ![3584, 148] inb_S3584x256_S3584x148_0_0, k0_pay259 (arg10.view.readAt (Elt F) (Rect.unit (s := S3584x148) ![0, 0] ![3584, 148] inb_S3584x148_S3584x148_0_0).toLoadRect f10)⟩] := by
  unfold runAt; rw [dif_pos h0]; unfold runA; dsimp only
theorem first_c18 (h0 : (i 0).val = 0) : (runAt (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22).c18 = arg18.view.writes (Elt F) arg18.view.junk [⟨Rect.unit (s := S2x1536x256) ![0, 0, 0] ![1, 1536, 256] inb_S2x1536x256_S1x1536x256_0_0_0, k0_pay261 (arg5.view.readAt (Elt F) (Rect.unit (s := S1536x256) ![0, 0] ![1536, 256] inb_S1536x256_S1536x256_0_0).toLoadRect f5)⟩, ⟨Rect.unit (s := S2x1536x256) ![1, 0, 0] ![1, 1536, 256] inb_S2x1536x256_S1x1536x256_1_0_0, k0_pay260⟩] := by
  unfold runAt; rw [dif_pos h0]; unfold runA; dsimp only [runA.sl.H18_2]

theorem later_out (h0 : (i 0).val ≠ 0) : let o := runAt (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22
    o.stp = arg1.view.readAt (Elt F) (Rect.unit (s := S1) ![0] S1.size inb_S1_S1_0).toLoadRect f1 (Shape.Idx.first (numel1_S1.symm ▸ Nat.one_pos))
      ∧ o.c17 = f17 ∧ o.c21 = f21 ∧ o.c22 = f22 ∧ o.c18 = arg18.view.writes (Elt F) f18 [⟨Rect.unit (s := S2x1536x256) (k0_off25 i) ![1, 1536, 256] (k0_off25_inb i (cond3_of h0)), k0_pay262 (arg5.view.readAt (Elt F) (Rect.unit (s := S1536x256) ![0, 0] ![1536, 256] inb_S1536x256_S1536x256_0_0).toLoadRect f5)⟩] := by
  dsimp only
  unfold runAt; rw [dif_neg h0]
  by_cases h1 : (i 0).val = 73
  · rw [dif_pos h1]; unfold runC; exact ⟨rfl, rfl, rfl, rfl, by unfold k0_off25; dsimp only⟩
  · rw [dif_neg h1]; unfold runB; exact ⟨rfl, rfl, rfl, rfl, by dsimp only⟩

end

theorem off25_eq : ∀ i : grid0.Coords, k0_off25 i = ![(i 0).val % 2, 0, 0] := by decide +kernel

section
variable (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f17 : BufTy.Contents (Elt Ideal) arg17.view.ty) (f18 : BufTy.Contents (Elt Ideal) arg18.view.ty) (f21 : BufTy.Contents (Elt Ideal) arg21.view.ty) (f22 : BufTy.Contents (Elt Ideal) arg22.view.ty)

/-- What a point begins with. -/
theorem begin_at : let o := runAt (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22
    o.stp = arg1.view.read (Elt Ideal) f1 (ix1 (0 : Fin 1))
      ∧ (∀ (τ : Fin 1536) (q : Fin 256), arg18.view.read (Elt Ideal) o.c18 (ix3 ⟨(i 0).val % 2, by omega⟩ τ q) = arg5.view.read (Elt Ideal) f5 (ix2 τ q))
      ∧ ((i 0).val = 0 → (∀ (R : Fin 3584) (τ : Fin 1536), arg17.view.read (Elt Ideal) o.c17 (ix2 R τ) = xtOf (arg3.view.read (Elt Ideal) f3) (arg4.view.read (Elt Ideal) f4) (arg2.view.read (Elt Ideal) f2) (ix2 R τ))
        ∧ (∀ (R : Fin 3584) (q : Fin 148), arg21.view.read (Elt Ideal) o.c21 (ix2 R ⟨q.val, by omega⟩) = arg8.view.read (Elt Ideal) f8 (ix2 R q) * ((9 : ℝ) : EReal))
        ∧ (∀ (R : Fin 3584) (q : Fin 148), arg22.view.read (Elt Ideal) o.c22 (ix2 R ⟨q.val, by omega⟩) = arg10.view.read (Elt Ideal) f10 (ix2 R q)))
      ∧ ((i 0).val ≠ 0 → o.c17 = f17 ∧ o.c21 = f21 ∧ o.c22 = f22) := by
  have hv : ∀ x y, arg1.view.readAt (Elt Ideal) (Rect.unit (s := S1) ![0] S1.size inb_S1_S1_0).toLoadRect f1 x = arg1.view.read (Elt Ideal) f1 y := fun x y => by
    rw [View.readAt_apply]; congr 1
    funext c; apply Fin.ext
    match c with
    | ⟨0, _⟩ =>
      have h1 := ((Rect.unit (s := S1) ![0] S1.size inb_S1_S1_0).toLoadRect.idx x ⟨0, by decide⟩).isLt
      have h2 := (y ⟨0, by decide⟩).isLt
      have h3 : S1.size ⟨0, by decide⟩ = 1 := rfl
      omega
  have e3 : (arg3.view.readAt (Elt Ideal) (Rect.unit (s := S6x256) ![0, 0] ![6, 256] inb_S6x256_S6x256_0_0).toLoadRect f3) = arg3.view.read (Elt Ideal) f3 := by
    funext y; exact load_whole rfl arg3 f3 _ (by decide) (by decide) y y (fun _ => rfl)
  have e4 : (arg4.view.readAt (Elt Ideal) (Rect.unit (s := S6x256) ![0, 0] ![6, 256] inb_S6x256_S6x256_0_0).toLoadRect f4) = arg4.view.read (Elt Ideal) f4 := by
    funext y; exact load_whole rfl arg4 f4 _ (by decide) (by decide) y y (fun _ => rfl)
  have e5 : (arg5.view.readAt (Elt Ideal) (Rect.unit (s := S1536x256) ![0, 0] ![1536, 256] inb_S1536x256_S1536x256_0_0).toLoadRect f5) = arg5.view.read (Elt Ideal) f5 := by
    funext y; exact load_whole rfl arg5 f5 _ (by decide) (by decide) y y (fun _ => rfl)
  have e8 : (arg8.view.readAt (Elt Ideal) (Rect.unit (s := S3584x148) ![0, 0] ![3584, 148] inb_S3584x148_S3584x148_0_0).toLoadRect f8) = arg8.view.read (Elt Ideal) f8 := by
    funext y; exact load_whole rfl arg8 f8 _ (by decide) (by decide) y y (fun _ => rfl)
  have e10 : (arg10.view.readAt (Elt Ideal) (Rect.unit (s := S3584x148) ![0, 0] ![3584, 148] inb_S3584x148_S3584x148_0_0).toLoadRect f10) = arg10.view.read (Elt Ideal) f10 := by
    funext y; exact load_whole rfl arg10 f10 _ (by decide) (by decide) y y (fun _ => rfl)
  dsimp only
  by_cases h0 : (i 0).val = 0
  · refine ⟨(first_stp 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22 h0).trans (hv _ _), fun τ q => ?_, fun _ => ⟨fun R τ => ?_, fun R q => ?_, fun R q => ?_⟩, fun h => absurd h0 h⟩
    · rw [first_c18 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22 h0, e5]
      refine (View.read_writes_cons_hit _ _ _ _ _ (ix3 0 τ q) _ ?_).trans ?_
      · funext c; apply Fin.ext
        match c with
        | ⟨0, _⟩ => show 0 + 1 * 0 = (i 0).val % 2; rw [h0]
        | ⟨1, _⟩ => show 0 + 1 * τ.val = τ.val; omega
        | ⟨2, _⟩ => show 0 + 1 * q.val = q.val; omega
      · pointwise [k0_pay261]
    · rw [first_c17 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22 h0, storesX_read, e3, e4]
    · rw [first_c21 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22 h0, e8]
      refine (View.read_writes_cons_hit _ _ _ _ _ (ix2 R q) _ ?_).trans ?_
      · funext c; apply Fin.ext
        match c with
        | ⟨0, _⟩ => show 0 + 1 * R.val = R.val; omega
        | ⟨1, _⟩ => show 0 + 1 * q.val = q.val; omega
      · rw [← lit9]; pointwise [k0_pay258]
    · rw [first_c22 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22 h0, e10]
      refine (View.read_writes_cons_hit _ _ _ _ _ (ix2 R q) _ ?_).trans ?_
      · funext c; apply Fin.ext
        match c with
        | ⟨0, _⟩ => show 0 + 1 * R.val = R.val; omega
        | ⟨1, _⟩ => show 0 + 1 * q.val = q.val; omega
      · pointwise [k0_pay259]
  · obtain ⟨s1, s2, s3, s4, s5⟩ := later_out 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22 h0
    refine ⟨s1.trans (hv _ _), fun τ q => ?_, fun h => absurd h h0, fun _ => ⟨s2, s3, s4⟩⟩
    rw [s5, e5]
    have h25 := off25_eq i
    refine (View.read_writes_cons_hit _ _ _ _ _ (ix3 0 τ q) _ ?_).trans ?_
    · funext c; apply Fin.ext
      match c with
      | ⟨0, _⟩ => show k0_off25 i 0 + 1 * 0 = (i 0).val % 2; rw [h25]; rfl
      | ⟨1, _⟩ => show k0_off25 i 1 + 1 * τ.val = τ.val; rw [h25]; show 0 + 1 * τ.val = _; omega
      | ⟨2, _⟩ => show k0_off25 i 2 + 1 * q.val = q.val; rw [h25]; show 0 + 1 * q.val = _; omega
    · pointwise [k0_pay262]
end

end Cert.Proof.KernelIdeal
-- ==== Proof.KernelIdeal.Values.lean ====
/-
  What one step leaves in its windows, from what it begins with.
-/
module

public import proofs.«01_k».proof.Proof.KernelIdeal.Block
public import proofs.«01_k».proof.Proof.KernelIdeal.Begin

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Scal

section
variable (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole)
variable (o : RunOut Ideal arg17 arg18 arg21 arg22)
variable (f6 : BufTy.Contents (Elt Ideal) arg6.view.ty) (f7 : BufTy.Contents (Elt Ideal) arg7.view.ty) (f9 : BufTy.Contents (Elt Ideal) arg9.view.ty)

/-- What one step leaves in its windows, from what it begins with. -/
theorem step_leaves (B : Blk)
    (hX : ∀ R τ, arg17.view.read (Elt Ideal) o.c17 (ix2 R τ) = B.X R τ)
    (hD : ∀ τ q, arg18.view.read (Elt Ideal) o.c18 (ix3 ⟨(i 0).val % 2, by omega⟩ τ q) = B.D τ q)
    (hW : ∀ R C, arg6.view.read (Elt Ideal) f6 (ix2 R C) = B.W R C)
    (hM : ∀ R C, arg7.view.read (Elt Ideal) f7 (ix2 R C) = B.M R C)
    (hS : ∀ R C, arg9.view.read (Elt Ideal) f9 (ix2 R C) = B.S R C)
    (hMU : ∀ R j, arg21.view.read (Elt Ideal) o.c21 (ix2 R (scol i j)) = B.MU R j)
    (hSU : ∀ R j, arg22.view.read (Elt Ideal) o.c22 (ix2 R (scol i j)) = B.SU R j)
    (hg : ∀ r l, k0_pay265 (F := Ideal) o.stp (ix2 r l) = B.gain)
    (hd : ∀ r l, k0_pay266 (F := Ideal) o.stp (ix2 r l) = B.guard)
    (hm0 : ∀ R j, 0 ≤ B.MU R j) (hs0 : ∀ R j, 0 ≤ B.SU R j) :
    let r := mainOut (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o
    (∀ f11 R C, arg11.view.read (Elt Ideal) (arg11.view.writes (Elt Ideal) f11 r.p11) (ix2 R C) = B.wn R C)
      ∧ (∀ f12 R C, arg12.view.read (Elt Ideal) (arg12.view.writes (Elt Ideal) f12 r.p12) (ix2 R C) = B.upd R C)
      ∧ (∀ f13 R C, arg13.view.read (Elt Ideal) (arg13.view.writes (Elt Ideal) f13 r.p13) (ix2 R C) = B.mn R C)
      ∧ (∀ f15 R C, arg15.view.read (Elt Ideal) (arg15.view.writes (Elt Ideal) f15 r.p15) (ix2 R C) = B.sn R C)
      ∧ (∀ f14, Part (F := Ideal) arg14 i B.tm (16 * 14) f14 (r.g14 f14))
      ∧ (∀ f16, Part (F := Ideal) arg16 i B.ts (16 * 14) f16 (r.g16 f16)) := by
  have hB : blkOf i arg6 arg7 arg9 arg17 arg18 arg21 arg22 f6 f7 f9 o.c17 o.c18 o.c21 o.c22 B.gain B.guard = B := by
    obtain ⟨X, D, W, M, S, MU, SU, gain, guard⟩ := B
    unfold blkOf
    congr 1
    · funext R τ; exact hX R τ
    · funext R τ; exact hD R τ
    · funext R τ; exact hW R τ
    · funext R τ; exact hM R τ
    · funext R τ; exact hS R τ
    · funext R τ; exact hMU R τ
    · funext R τ; exact hSU R τ
  have hk : k0_t2_loop.trips = 14 := by decide
  have hn : Scf.trips k0_t2_loop.lb k0_t2_loop.ub k0_t2_loop.st = 14 := by decide
  have T := fun f14 f16 => trips_value (f6 := f6) (f7 := f7) (f9 := f9) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 o.v0 (k0_pay265 o.stp) (k0_pay266 o.stp) o.v59 (f17 := o.c17) (f18 := o.c18) (f21 := o.c21) (f22 := o.c22) B.gain B.guard hg hd (by rw [hB]; exact hm0) (by rw [hB]; exact hs0) f14 f16 14 (by rw [hk])
  rw [hB] at T
  dsimp only [mainOut]
  rw [hn]
  refine ⟨fun f R C => ?_, fun f R C => ?_, fun f R C => ?_, fun f R C => ?_, fun f => ?_, fun f => ?_⟩
  · exact full_read arg11 f _ _ (T arg14.view.junk arg16.view.junk).1 R C
  · exact full_read arg12 f _ _ (T arg14.view.junk arg16.view.junk).2.1 R C
  · exact full_read arg13 f _ _ (T arg14.view.junk arg16.view.junk).2.2.1 R C
  · exact full_read arg15 f _ _ (T arg14.view.junk arg16.view.junk).2.2.2.1 R C
  · exact (T f arg16.view.junk).2.2.2.2.1
  · exact (T arg14.view.junk f).2.2.2.2.2
end

end Cert.Proof.KernelIdeal
-- ==== Proof.KernelIdeal.StepOf.lean ====
/-
  One step, from the numbers its windows and scratch arrays hold.
-/
module

public import proofs.«01_k».proof.Proof.KernelIdeal.Values

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Scal

section
variable (𝒱 : Variants) (c : Dev nD) (bd : Option 𝒱.V) (i : grid0.Coords) (arg1 : Memref sig .tc .smem S1 .i32) (harg1 : arg1.IsWhole) (arg2 : Memref sig .tc .vmem S1536x3584 .fp8e4m3) (harg2 : arg2.IsWhole) (arg3 : Memref sig .tc .vmem S6x256 .f32) (harg3 : arg3.IsWhole) (arg4 : Memref sig .tc .vmem S6x256 .f32) (harg4 : arg4.IsWhole) (arg5 : Memref sig .tc .vmem S1536x256 .fp8e5m2) (harg5 : arg5.IsWhole) (arg6 : Memref sig .tc .vmem S3584x256 .bf16) (harg6 : arg6.IsWhole) (arg7 : Memref sig .tc .vmem S3584x256 .fp8e4m3) (harg7 : arg7.IsWhole) (arg8 : Memref sig .tc .vmem S3584x148 .f32) (harg8 : arg8.IsWhole) (arg9 : Memref sig .tc .vmem S3584x256 .fp8e4m3) (harg9 : arg9.IsWhole) (arg10 : Memref sig .tc .vmem S3584x148 .f32) (harg10 : arg10.IsWhole) (arg11 : Memref sig .tc .vmem S3584x256 .bf16) (harg11 : arg11.IsWhole) (arg12 : Memref sig .tc .vmem S3584x256 .f32) (harg12 : arg12.IsWhole) (arg13 : Memref sig .tc .vmem S3584x256 .fp8e4m3) (harg13 : arg13.IsWhole) (arg14 : Memref sig .tc .vmem S3584x256 .f32) (harg14 : arg14.IsWhole) (arg15 : Memref sig .tc .vmem S3584x256 .fp8e4m3) (harg15 : arg15.IsWhole) (arg16 : Memref sig .tc .vmem S3584x256 .f32) (harg16 : arg16.IsWhole) (arg17 : Memref sig .tc .vmem S3584x1536 .bf16) (harg17 : arg17.IsWhole) (arg18 : Memref sig .tc .vmem S2x1536x256 .fp8e5m2) (harg18 : arg18.IsWhole) (arg19 : Memref sig .tc .vmem S256x256 .f32) (harg19 : arg19.IsWhole) (arg20 : Memref sig .tc .vmem S256x256 .f32) (harg20 : arg20.IsWhole) (arg21 : Memref sig .tc .vmem S3584x256 .bf16) (harg21 : arg21.IsWhole) (arg22 : Memref sig .tc .vmem S3584x256 .bf16) (harg22 : arg22.IsWhole)
variable (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f17 : BufTy.Contents (Elt Ideal) arg17.view.ty) (f18 : BufTy.Contents (Elt Ideal) arg18.view.ty) (f21 : BufTy.Contents (Elt Ideal) arg21.view.ty) (f22 : BufTy.Contents (Elt Ideal) arg22.view.ty)

/-- One step, from the numbers its windows and scratch arrays hold. -/
theorem step_of (o : RunOut Ideal arg17 arg18 arg21 arg22) (ho : o = runAt (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22) (B : Blk) (MU SU : Fin 3584 → Fin 148 → EReal)
    (hg : ∀ r l, k0_pay265 (F := Ideal) (arg1.view.read (Elt Ideal) f1 (ix1 (0 : Fin 1))) (ix2 r l) = B.gain)
    (hd : ∀ r l, k0_pay266 (F := Ideal) (arg1.view.read (Elt Ideal) f1 (ix1 (0 : Fin 1))) (ix2 r l) = B.guard)
    (hX : ∀ R τ, xtOf (arg3.view.read (Elt Ideal) f3) (arg4.view.read (Elt Ideal) f4) (arg2.view.read (Elt Ideal) f2) (ix2 R τ) = B.X R τ)
    (hD : ∀ τ q, arg5.view.read (Elt Ideal) f5 (ix2 τ q) = B.D τ q)
    (hW : ∀ R C, arg6.view.read (Elt Ideal) f6 (ix2 R C) = B.W R C)
    (hM : ∀ R C, arg7.view.read (Elt Ideal) f7 (ix2 R C) = B.M R C)
    (hS : ∀ R C, arg9.view.read (Elt Ideal) f9 (ix2 R C) = B.S R C)
    (hU : ∀ R q, arg8.view.read (Elt Ideal) f8 (ix2 R q) = MU R q)
    (hV : ∀ R q, arg10.view.read (Elt Ideal) f10 (ix2 R q) = SU R q)
    (hBU : ∀ R (j : Fin 2) (h : 2 * (i 0).val + j.val < 148), B.MU R j = MU R ⟨2 * (i 0).val + j.val, h⟩ * ((9 : ℝ) : EReal))
    (hBV : ∀ R (j : Fin 2) (h : 2 * (i 0).val + j.val < 148), B.SU R j = SU R ⟨2 * (i 0).val + j.val, h⟩)
    (hp : (i 0).val ≠ 0 → (∀ R τ, arg17.view.read (Elt Ideal) f17 (ix2 R τ) = B.X R τ)
      ∧ (∀ R (q : Fin 148), arg21.view.read (Elt Ideal) f21 (ix2 R ⟨q.val, by omega⟩) = MU R q * ((9 : ℝ) : EReal))
      ∧ (∀ R (q : Fin 148), arg22.view.read (Elt Ideal) f22 (ix2 R ⟨q.val, by omega⟩) = SU R q))
    (hm0 : ∀ R q, 0 ≤ MU R q) (hs0 : ∀ R q, 0 ≤ SU R q) :
    ((∀ f11 R C, arg11.view.read (Elt Ideal) (arg11.view.writes (Elt Ideal) f11 (mainOut (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p11) (ix2 R C) = B.wn R C)
      ∧ (∀ f12 R C, arg12.view.read (Elt Ideal) (arg12.view.writes (Elt Ideal) f12 (mainOut (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p12) (ix2 R C) = B.upd R C)
      ∧ (∀ f13 R C, arg13.view.read (Elt Ideal) (arg13.view.writes (Elt Ideal) f13 (mainOut (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p13) (ix2 R C) = B.mn R C)
      ∧ (∀ f15 R C, arg15.view.read (Elt Ideal) (arg15.view.writes (Elt Ideal) f15 (mainOut (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f6 f7 f9 o).p15) (ix2 R C) = B.sn R C))
    ∧ (∀ R τ, arg17.view.read (Elt Ideal) o.c17 (ix2 R τ) = B.X R τ)
    ∧ (∀ R (q : Fin 148), arg21.view.read (Elt Ideal) o.c21 (ix2 R ⟨q.val, by omega⟩) = MU R q * ((9 : ℝ) : EReal))
    ∧ (∀ R (q : Fin 148), arg22.view.read (Elt Ideal) o.c22 (ix2 R ⟨q.val, by omega⟩) = SU R q) := by
  have b := begin_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f1 f2 f3 f4 f5 f6 f7 f8 f9 f10 f17 f18 f21 f22
  dsimp only at b
  rw [← ho] at b
  obtain ⟨b1, b2, b3, b4⟩ := b
  have k : (∀ R τ, arg17.view.read (Elt Ideal) o.c17 (ix2 R τ) = B.X R τ)
    ∧ (∀ R (q : Fin 148), arg21.view.read (Elt Ideal) o.c21 (ix2 R ⟨q.val, by omega⟩) = MU R q * ((9 : ℝ) : EReal))
    ∧ (∀ R (q : Fin 148), arg22.view.read (Elt Ideal) o.c22 (ix2 R ⟨q.val, by omega⟩) = SU R q) := by
    by_cases h0 : (i 0).val = 0
    · obtain ⟨k1, k2, k3⟩ := b3 h0
      exact ⟨fun R τ => (k1 R τ).trans (hX R τ), fun R q => (k2 R q).trans (by rw [hU]), fun R q => (k3 R q).trans (hV R q)⟩
    · obtain ⟨k1, k2, k3⟩ := b4 h0
      rw [k1, k2, k3]
      exact hp h0
  have hi : (i 0).val < 74 := (i 0).isLt
  have L := step_leaves 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 o f6 f7 f9 B k.1 (fun τ q => (b2 τ q).trans (hD τ q)) hW hM hS
    (fun R j => (k.2.1 R ⟨2 * (i 0).val + j.val, by omega⟩).trans (hBU R j _).symm)
    (fun R j => (k.2.2 R ⟨2 * (i 0).val + j.val, by omega⟩).trans (hBV R j _).symm)
    (fun r l => by rw [b1]; exact hg r l) (fun r l => by rw [b1]; exact hd r l)
    (fun R j => by rw [hBU R j (by omega)]; exact mul_nonneg (hm0 _ _) (by exact_mod_cast (by norm_num : (0 : ℝ) ≤ 9)))
    (fun R j => by rw [hBV R j (by omega)]; exact hs0 _ _)
  exact ⟨⟨L.1, L.2.1, L.2.2.1, L.2.2.2.1⟩, k⟩
end

end Cert.Proof.KernelIdeal
-- ==== Proof.KernelIdeal.Inputs.lean ====
/-
  What the read windows hold at a step: their block of the array.
-/
module

public import proofs.«01_k».proof.Proof.KernelIdeal.Launch
public import proofs.«01_k».proof.Proof.KernelIdeal.Block

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (m : (a : Loc nD τ sig) → Buf (Elt F) a)

theorem point_val : ∀ t : Fin cfg0.N, (grid0.coords t 0).val = t.val := (by decide +kernel : ∀ t : Fin grid0.N, (grid0.coords t 0).val = t.val)
theorem point_lt (t : Fin cfg0.N) : t.val < 74 := t.isLt

/-- Column `C` of step `t`'s block, as a column of the whole array. -/
def wide (t : Fin cfg0.N) (C : Fin 256) : Fin 18944 := ⟨256 * t.val + C.val, by have := point_lt t; have := C.isLt; omega⟩

/-- Column `2 t + j` of a scale array. -/
def pairCol (t : Fin cfg0.N) (j : Fin 2) : Fin 148 := ⟨2 * t.val + j.val, by have := point_lt t; have := j.isLt; omega⟩

/-- The one index of a one-element array. -/
theorem ix1_only (y : S1.Idx) : y = ix1 (0 : Fin 1) := by
  funext a; apply Fin.ext
  match a with
  | ⟨0, _⟩ => have h := (y ⟨0, by decide⟩).isLt; have h2 : S1.size ⟨0, by decide⟩ = 1 := rfl; show (y ⟨0, by decide⟩).val = 0; omega

theorem block_0 (c : Dev nD) (t : Fin cfg0.N) : iblk m c 0 t (ix1 (0 : Fin 1)) = V m c (Pipeline.arrRef spec0 0) (ix1 (0 : Fin 1)) := by
  show V m c (Pipeline.arrRef spec0 0) (((cfg0.win 0).blk t).view.emb (ix1 (0 : Fin 1))) = _
  exact congrArg _ (ix1_only _)

theorem index_1 : ∀ t : Fin cfg0.N, win0_1.index t 0 = 0 ∧ win0_1.index t 1 = 0 :=
  (by decide +kernel : ∀ t : Fin grid0.N, win0_1.index t 0 = 0 ∧ win0_1.index t 1 = 0)

theorem emb_1 (t : Fin cfg0.N) (R : Fin 1536) (C : Fin 3584) : ((cfg0.win 1).blk t).view.emb (ix2 R C) = ix2 R C := by
  have h := index_1 t
  have h0 := win0_1.rect_emb_val t (ix2 R C) 0
  have h1 := win0_1.rect_emb_val t (ix2 R C) 1
  rw [h.1] at h0
  rw [h.2] at h1
  funext a; apply Fin.ext
  match a with
  | ⟨0, _⟩ => exact h0.trans (by show 0 * 1536 + R.val = R.val; omega)
  | ⟨1, _⟩ => exact h1.trans (by show 0 * 3584 + C.val = C.val; omega)

theorem block_1 (c : Dev nD) (t : Fin cfg0.N) (R : Fin 1536) (C : Fin 3584) : iblk m c 1 t (ix2 R C) = V m c (Pipeline.arrRef spec0 1) (ix2 R C) := by
  show V m c (Pipeline.arrRef spec0 1) (((cfg0.win 1).blk t).view.emb (ix2 R C)) = _
  exact congrArg _ (emb_1 t R C)

theorem whole_1 (c : Dev nD) (t : Fin cfg0.N) : iblk m c 1 t = V m c (Pipeline.arrRef spec0 1) := by
  funext (y : Shape.Idx S1536x3584)
  rw [eq_ix2 y]; exact block_1 m c t (y 0) (y 1)

theorem index_2 : ∀ t : Fin cfg0.N, win0_2.index t 0 = 0 ∧ win0_2.index t 1 = 0 :=
  (by decide +kernel : ∀ t : Fin grid0.N, win0_2.index t 0 = 0 ∧ win0_2.index t 1 = 0)

theorem emb_2 (t : Fin cfg0.N) (R : Fin 6) (C : Fin 256) : ((cfg0.win 2).blk t).view.emb (ix2 R C) = ix2 R C := by
  have h := index_2 t
  have h0 := win0_2.rect_emb_val t (ix2 R C) 0
  have h1 := win0_2.rect_emb_val t (ix2 R C) 1
  rw [h.1] at h0
  rw [h.2] at h1
  funext a; apply Fin.ext
  match a with
  | ⟨0, _⟩ => exact h0.trans (by show 0 * 6 + R.val = R.val; omega)
  | ⟨1, _⟩ => exact h1.trans (by show 0 * 256 + C.val = C.val; omega)

theorem block_2 (c : Dev nD) (t : Fin cfg0.N) (R : Fin 6) (C : Fin 256) : iblk m c 2 t (ix2 R C) = V m c (Pipeline.arrRef spec0 2) (ix2 R C) := by
  show V m c (Pipeline.arrRef spec0 2) (((cfg0.win 2).blk t).view.emb (ix2 R C)) = _
  exact congrArg _ (emb_2 t R C)

theorem whole_2 (c : Dev nD) (t : Fin cfg0.N) : iblk m c 2 t = V m c (Pipeline.arrRef spec0 2) := by
  funext (y : Shape.Idx S6x256)
  rw [eq_ix2 y]; exact block_2 m c t (y 0) (y 1)

theorem index_3 : ∀ t : Fin cfg0.N, win0_3.index t 0 = 0 ∧ win0_3.index t 1 = 0 :=
  (by decide +kernel : ∀ t : Fin grid0.N, win0_3.index t 0 = 0 ∧ win0_3.index t 1 = 0)

theorem emb_3 (t : Fin cfg0.N) (R : Fin 6) (C : Fin 256) : ((cfg0.win 3).blk t).view.emb (ix2 R C) = ix2 R C := by
  have h := index_3 t
  have h0 := win0_3.rect_emb_val t (ix2 R C) 0
  have h1 := win0_3.rect_emb_val t (ix2 R C) 1
  rw [h.1] at h0
  rw [h.2] at h1
  funext a; apply Fin.ext
  match a with
  | ⟨0, _⟩ => exact h0.trans (by show 0 * 6 + R.val = R.val; omega)
  | ⟨1, _⟩ => exact h1.trans (by show 0 * 256 + C.val = C.val; omega)

theorem block_3 (c : Dev nD) (t : Fin cfg0.N) (R : Fin 6) (C : Fin 256) : iblk m c 3 t (ix2 R C) = V m c (Pipeline.arrRef spec0 3) (ix2 R C) := by
  show V m c (Pipeline.arrRef spec0 3) (((cfg0.win 3).blk t).view.emb (ix2 R C)) = _
  exact congrArg _ (emb_3 t R C)

theorem whole_3 (c : Dev nD) (t : Fin cfg0.N) : iblk m c 3 t = V m c (Pipeline.arrRef spec0 3) := by
  funext (y : Shape.Idx S6x256)
  rw [eq_ix2 y]; exact block_3 m c t (y 0) (y 1)

theorem index_7 : ∀ t : Fin cfg0.N, win0_7.index t 0 = 0 ∧ win0_7.index t 1 = 0 :=
  (by decide +kernel : ∀ t : Fin grid0.N, win0_7.index t 0 = 0 ∧ win0_7.index t 1 = 0)

theorem emb_7 (t : Fin cfg0.N) (R : Fin 3584) (C : Fin 148) : ((cfg0.win 7).blk t).view.emb (ix2 R C) = ix2 R C := by
  have h := index_7 t
  have h0 := win0_7.rect_emb_val t (ix2 R C) 0
  have h1 := win0_7.rect_emb_val t (ix2 R C) 1
  rw [h.1] at h0
  rw [h.2] at h1
  funext a; apply Fin.ext
  match a with
  | ⟨0, _⟩ => exact h0.trans (by show 0 * 3584 + R.val = R.val; omega)
  | ⟨1, _⟩ => exact h1.trans (by show 0 * 148 + C.val = C.val; omega)

theorem block_7 (c : Dev nD) (t : Fin cfg0.N) (R : Fin 3584) (C : Fin 148) : iblk m c 7 t (ix2 R C) = V m c (Pipeline.arrRef spec0 7) (ix2 R C) := by
  show V m c (Pipeline.arrRef spec0 7) (((cfg0.win 7).blk t).view.emb (ix2 R C)) = _
  exact congrArg _ (emb_7 t R C)

theorem index_9 : ∀ t : Fin cfg0.N, win0_9.index t 0 = 0 ∧ win0_9.index t 1 = 0 :=
  (by decide +kernel : ∀ t : Fin grid0.N, win0_9.index t 0 = 0 ∧ win0_9.index t 1 = 0)

theorem emb_9 (t : Fin cfg0.N) (R : Fin 3584) (C : Fin 148) : ((cfg0.win 9).blk t).view.emb (ix2 R C) = ix2 R C := by
  have h := index_9 t
  have h0 := win0_9.rect_emb_val t (ix2 R C) 0
  have h1 := win0_9.rect_emb_val t (ix2 R C) 1
  rw [h.1] at h0
  rw [h.2] at h1
  funext a; apply Fin.ext
  match a with
  | ⟨0, _⟩ => exact h0.trans (by show 0 * 3584 + R.val = R.val; omega)
  | ⟨1, _⟩ => exact h1.trans (by show 0 * 148 + C.val = C.val; omega)

theorem block_9 (c : Dev nD) (t : Fin cfg0.N) (R : Fin 3584) (C : Fin 148) : iblk m c 9 t (ix2 R C) = V m c (Pipeline.arrRef spec0 9) (ix2 R C) := by
  show V m c (Pipeline.arrRef spec0 9) (((cfg0.win 9).blk t).view.emb (ix2 R C)) = _
  exact congrArg _ (emb_9 t R C)

theorem index_4 : ∀ t : Fin cfg0.N, win0_4.index t 0 = 0 ∧ win0_4.index t 1 = t.val :=
  (by decide +kernel : ∀ t : Fin grid0.N, win0_4.index t 0 = 0 ∧ win0_4.index t 1 = t.val)

theorem emb_4 (t : Fin cfg0.N) (R : Fin 1536) (C : Fin 256) : ((cfg0.win 4).blk t).view.emb (ix2 R C) = ix2 R (wide t C) := by
  have h := index_4 t
  have h0 := win0_4.rect_emb_val t (ix2 R C) 0
  have h1 := win0_4.rect_emb_val t (ix2 R C) 1
  rw [h.1] at h0
  rw [h.2] at h1
  funext a; apply Fin.ext
  match a with
  | ⟨0, _⟩ => exact h0.trans (by show 0 * 1536 + R.val = R.val; omega)
  | ⟨1, _⟩ => exact h1.trans (by show t.val * 256 + C.val = 256 * t.val + C.val; omega)

theorem block_4 (c : Dev nD) (t : Fin cfg0.N) (R : Fin 1536) (C : Fin 256) : iblk m c 4 t (ix2 R C) = V m c (Pipeline.arrRef spec0 4) (ix2 R (wide t C)) := by
  show V m c (Pipeline.arrRef spec0 4) (((cfg0.win 4).blk t).view.emb (ix2 R C)) = _
  exact congrArg _ (emb_4 t R C)

theorem index_5 : ∀ t : Fin cfg0.N, win0_5.index t 0 = 0 ∧ win0_5.index t 1 = t.val :=
  (by decide +kernel : ∀ t : Fin grid0.N, win0_5.index t 0 = 0 ∧ win0_5.index t 1 = t.val)

theorem emb_5 (t : Fin cfg0.N) (R : Fin 3584) (C : Fin 256) : ((cfg0.win 5).blk t).view.emb (ix2 R C) = ix2 R (wide t C) := by
  have h := index_5 t
  have h0 := win0_5.rect_emb_val t (ix2 R C) 0
  have h1 := win0_5.rect_emb_val t (ix2 R C) 1
  rw [h.1] at h0
  rw [h.2] at h1
  funext a; apply Fin.ext
  match a with
  | ⟨0, _⟩ => exact h0.trans (by show 0 * 3584 + R.val = R.val; omega)
  | ⟨1, _⟩ => exact h1.trans (by show t.val * 256 + C.val = 256 * t.val + C.val; omega)

theorem block_5 (c : Dev nD) (t : Fin cfg0.N) (R : Fin 3584) (C : Fin 256) : iblk m c 5 t (ix2 R C) = V m c (Pipeline.arrRef spec0 5) (ix2 R (wide t C)) := by
  show V m c (Pipeline.arrRef spec0 5) (((cfg0.win 5).blk t).view.emb (ix2 R C)) = _
  exact congrArg _ (emb_5 t R C)

theorem index_6 : ∀ t : Fin cfg0.N, win0_6.index t 0 = 0 ∧ win0_6.index t 1 = t.val :=
  (by decide +kernel : ∀ t : Fin grid0.N, win0_6.index t 0 = 0 ∧ win0_6.index t 1 = t.val)

theorem emb_6 (t : Fin cfg0.N) (R : Fin 3584) (C : Fin 256) : ((cfg0.win 6).blk t).view.emb (ix2 R C) = ix2 R (wide t C) := by
  have h := index_6 t
  have h0 := win0_6.rect_emb_val t (ix2 R C) 0
  have h1 := win0_6.rect_emb_val t (ix2 R C) 1
  rw [h.1] at h0
  rw [h.2] at h1
  funext a; apply Fin.ext
  match a with
  | ⟨0, _⟩ => exact h0.trans (by show 0 * 3584 + R.val = R.val; omega)
  | ⟨1, _⟩ => exact h1.trans (by show t.val * 256 + C.val = 256 * t.val + C.val; omega)

theorem block_6 (c : Dev nD) (t : Fin cfg0.N) (R : Fin 3584) (C : Fin 256) : iblk m c 6 t (ix2 R C) = V m c (Pipeline.arrRef spec0 6) (ix2 R (wide t C)) := by
  show V m c (Pipeline.arrRef spec0 6) (((cfg0.win 6).blk t).view.emb (ix2 R C)) = _
  exact congrArg _ (emb_6 t R C)

theorem index_8 : ∀ t : Fin cfg0.N, win0_8.index t 0 = 0 ∧ win0_8.index t 1 = t.val :=
  (by decide +kernel : ∀ t : Fin grid0.N, win0_8.index t 0 = 0 ∧ win0_8.index t 1 = t.val)

theorem emb_8 (t : Fin cfg0.N) (R : Fin 3584) (C : Fin 256) : ((cfg0.win 8).blk t).view.emb (ix2 R C) = ix2 R (wide t C) := by
  have h := index_8 t
  have h0 := win0_8.rect_emb_val t (ix2 R C) 0
  have h1 := win0_8.rect_emb_val t (ix2 R C) 1
  rw [h.1] at h0
  rw [h.2] at h1
  funext a; apply Fin.ext
  match a with
  | ⟨0, _⟩ => exact h0.trans (by show 0 * 3584 + R.val = R.val; omega)
  | ⟨1, _⟩ => exact h1.trans (by show t.val * 256 + C.val = 256 * t.val + C.val; omega)

theorem block_8 (c : Dev nD) (t : Fin cfg0.N) (R : Fin 3584) (C : Fin 256) : iblk m c 8 t (ix2 R C) = V m c (Pipeline.arrRef spec0 8) (ix2 R (wide t C)) := by
  show V m c (Pipeline.arrRef spec0 8) (((cfg0.win 8).blk t).view.emb (ix2 R C)) = _
  exact congrArg _ (emb_8 t R C)

theorem index_10 : ∀ t : Fin cfg0.N, win0_10.index t 0 = 0 ∧ win0_10.index t 1 = t.val :=
  (by decide +kernel : ∀ t : Fin grid0.N, win0_10.index t 0 = 0 ∧ win0_10.index t 1 = t.val)

theorem emb_10 (t : Fin cfg0.N) (R : Fin 3584) (C : Fin 256) : ((cfg0.win 10).blk t).view.emb (ix2 R C) = ix2 R (wide t C) := by
  have h := index_10 t
  have h0 := win0_10.rect_emb_val t (ix2 R C) 0
  have h1 := win0_10.rect_emb_val t (ix2 R C) 1
  rw [h.1] at h0
  rw [h.2] at h1
  funext a; apply Fin.ext
  match a with
  | ⟨0, _⟩ => exact h0.trans (by show 0 * 3584 + R.val = R.val; omega)
  | ⟨1, _⟩ => exact h1.trans (by show t.val * 256 + C.val = 256 * t.val + C.val; omega)

theorem index_11 : ∀ t : Fin cfg0.N, win0_11.index t 0 = 0 ∧ win0_11.index t 1 = t.val :=
  (by decide +kernel : ∀ t : Fin grid0.N, win0_11.index t 0 = 0 ∧ win0_11.index t 1 = t.val)

theorem emb_11 (t : Fin cfg0.N) (R : Fin 3584) (C : Fin 256) : ((cfg0.win 11).blk t).view.emb (ix2 R C) = ix2 R (wide t C) := by
  have h := index_11 t
  have h0 := win0_11.rect_emb_val t (ix2 R C) 0
  have h1 := win0_11.rect_emb_val t (ix2 R C) 1
  rw [h.1] at h0
  rw [h.2] at h1
  funext a; apply Fin.ext
  match a with
  | ⟨0, _⟩ => exact h0.trans (by show 0 * 3584 + R.val = R.val; omega)
  | ⟨1, _⟩ => exact h1.trans (by show t.val * 256 + C.val = 256 * t.val + C.val; omega)

theorem index_12 : ∀ t : Fin cfg0.N, win0_12.index t 0 = 0 ∧ win0_12.index t 1 = t.val :=
  (by decide +kernel : ∀ t : Fin grid0.N, win0_12.index t 0 = 0 ∧ win0_12.index t 1 = t.val)

theorem emb_12 (t : Fin cfg0.N) (R : Fin 3584) (C : Fin 256) : ((cfg0.win 12).blk t).view.emb (ix2 R C) = ix2 R (wide t C) := by
  have h := index_12 t
  have h0 := win0_12.rect_emb_val t (ix2 R C) 0
  have h1 := win0_12.rect_emb_val t (ix2 R C) 1
  rw [h.1] at h0
  rw [h.2] at h1
  funext a; apply Fin.ext
  match a with
  | ⟨0, _⟩ => exact h0.trans (by show 0 * 3584 + R.val = R.val; omega)
  | ⟨1, _⟩ => exact h1.trans (by show t.val * 256 + C.val = 256 * t.val + C.val; omega)

theorem index_14 : ∀ t : Fin cfg0.N, win0_14.index t 0 = 0 ∧ win0_14.index t 1 = t.val :=
  (by decide +kernel : ∀ t : Fin grid0.N, win0_14.index t 0 = 0 ∧ win0_14.index t 1 = t.val)

theorem emb_14 (t : Fin cfg0.N) (R : Fin 3584) (C : Fin 256) : ((cfg0.win 14).blk t).view.emb (ix2 R C) = ix2 R (wide t C) := by
  have h := index_14 t
  have h0 := win0_14.rect_emb_val t (ix2 R C) 0
  have h1 := win0_14.rect_emb_val t (ix2 R C) 1
  rw [h.1] at h0
  rw [h.2] at h1
  funext a; apply Fin.ext
  match a with
  | ⟨0, _⟩ => exact h0.trans (by show 0 * 3584 + R.val = R.val; omega)
  | ⟨1, _⟩ => exact h1.trans (by show t.val * 256 + C.val = 256 * t.val + C.val; omega)

section
variable {m}
variable {I : Dev nD → Fin (cfg0.N + 1) → BufTy.Contents (Elt F) (Memref.whole cc0_scratch0 : Memref sig .tc .vmem S3584x1536 .bf16).view.ty → BufTy.Contents (Elt F) (Memref.whole cc0_scratch1 : Memref sig .tc .vmem S2x1536x256 .fp8e5m2).view.ty → BufTy.Contents (Elt F) (Memref.whole cc0_scratch4 : Memref sig .tc .vmem S3584x256 .bf16).view.ty → BufTy.Contents (Elt F) (Memref.whole cc0_scratch5 : Memref sig .tc .vmem S3584x256 .bf16).view.ty → Prop}
    {R10 : Dev nD → Fin cfg0.N → ((cfg0.win 10).block.Idx → Elt F (cfg0.win 10).elt) → ((cfg0.win 10).block.Idx → Elt F (cfg0.win 10).elt) → Prop}
    {R11 : Dev nD → Fin cfg0.N → ((cfg0.win 11).block.Idx → Elt F (cfg0.win 11).elt) → ((cfg0.win 11).block.Idx → Elt F (cfg0.win 11).elt) → Prop}
    {R12 : Dev nD → Fin cfg0.N → ((cfg0.win 12).block.Idx → Elt F (cfg0.win 12).elt) → ((cfg0.win 12).block.Idx → Elt F (cfg0.win 12).elt) → Prop}
    {R13 : Dev nD → Fin cfg0.N → ((cfg0.win 13).block.Idx → Elt F (cfg0.win 13).elt) → ((cfg0.win 13).block.Idx → Elt F (cfg0.win 13).elt) → Prop}
    {R14 : Dev nD → Fin cfg0.N → ((cfg0.win 14).block.Idx → Elt F (cfg0.win 14).elt) → ((cfg0.win 14).block.Idx → Elt F (cfg0.win 14).elt) → Prop}
    {R15 : Dev nD → Fin cfg0.N → ((cfg0.win 15).block.Idx → Elt F (cfg0.win 15).elt) → ((cfg0.win 15).block.Idx → Elt F (cfg0.win 15).elt) → Prop}
    {c : Dev nD} {t : Fin cfg0.N}

theorem found_0 {Y : (cfg0.win 0).block.Idx → Elt F (cfg0.win 0).elt} (h : (rdat m I R10 R11 R12 R13 R14 R15 c).Finds 0 t Y) : Y = iblk m c 0 t :=
  let ⟨_, hd⟩ := (rdat m I R10 R11 R12 R13 R14 R15 c).finds_in_eq_fetched 0 rfl (fun _ _ _ => rfl) (fun _ _ _ h => h) t Y h
  hd.trans (by unfold Pipeline.RDat.fetched Pipeline.RDat.blockOf iblk; rfl)

theorem found_1 {Y : (cfg0.win 1).block.Idx → Elt F (cfg0.win 1).elt} (h : (rdat m I R10 R11 R12 R13 R14 R15 c).Finds 1 t Y) : Y = iblk m c 1 t :=
  let ⟨_, hd⟩ := (rdat m I R10 R11 R12 R13 R14 R15 c).finds_in_eq_fetched 1 rfl (fun _ _ _ => rfl) (fun _ _ _ h => h) t Y h
  hd.trans (by unfold Pipeline.RDat.fetched Pipeline.RDat.blockOf iblk; rfl)

theorem found_2 {Y : (cfg0.win 2).block.Idx → Elt F (cfg0.win 2).elt} (h : (rdat m I R10 R11 R12 R13 R14 R15 c).Finds 2 t Y) : Y = iblk m c 2 t :=
  let ⟨_, hd⟩ := (rdat m I R10 R11 R12 R13 R14 R15 c).finds_in_eq_fetched 2 rfl (fun _ _ _ => rfl) (fun _ _ _ h => h) t Y h
  hd.trans (by unfold Pipeline.RDat.fetched Pipeline.RDat.blockOf iblk; rfl)

theorem found_3 {Y : (cfg0.win 3).block.Idx → Elt F (cfg0.win 3).elt} (h : (rdat m I R10 R11 R12 R13 R14 R15 c).Finds 3 t Y) : Y = iblk m c 3 t :=
  let ⟨_, hd⟩ := (rdat m I R10 R11 R12 R13 R14 R15 c).finds_in_eq_fetched 3 rfl (fun _ _ _ => rfl) (fun _ _ _ h => h) t Y h
  hd.trans (by unfold Pipeline.RDat.fetched Pipeline.RDat.blockOf iblk; rfl)

theorem found_4 {Y : (cfg0.win 4).block.Idx → Elt F (cfg0.win 4).elt} (h : (rdat m I R10 R11 R12 R13 R14 R15 c).Finds 4 t Y) : Y = iblk m c 4 t :=
  let ⟨_, hd⟩ := (rdat m I R10 R11 R12 R13 R14 R15 c).finds_in_eq_fetched 4 rfl (fun _ _ _ => rfl) (fun _ _ _ h => h) t Y h
  hd.trans (by unfold Pipeline.RDat.fetched Pipeline.RDat.blockOf iblk; rfl)

theorem found_5 {Y : (cfg0.win 5).block.Idx → Elt F (cfg0.win 5).elt} (h : (rdat m I R10 R11 R12 R13 R14 R15 c).Finds 5 t Y) : Y = iblk m c 5 t :=
  let ⟨_, hd⟩ := (rdat m I R10 R11 R12 R13 R14 R15 c).finds_in_eq_fetched 5 rfl (fun _ _ _ => rfl) (fun _ _ _ h => h) t Y h
  hd.trans (by unfold Pipeline.RDat.fetched Pipeline.RDat.blockOf iblk; rfl)

theorem found_6 {Y : (cfg0.win 6).block.Idx → Elt F (cfg0.win 6).elt} (h : (rdat m I R10 R11 R12 R13 R14 R15 c).Finds 6 t Y) : Y = iblk m c 6 t :=
  let ⟨_, hd⟩ := (rdat m I R10 R11 R12 R13 R14 R15 c).finds_in_eq_fetched 6 rfl (fun _ _ _ => rfl) (fun _ _ _ h => h) t Y h
  hd.trans (by unfold Pipeline.RDat.fetched Pipeline.RDat.blockOf iblk; rfl)

theorem found_7 {Y : (cfg0.win 7).block.Idx → Elt F (cfg0.win 7).elt} (h : (rdat m I R10 R11 R12 R13 R14 R15 c).Finds 7 t Y) : Y = iblk m c 7 t :=
  let ⟨_, hd⟩ := (rdat m I R10 R11 R12 R13 R14 R15 c).finds_in_eq_fetched 7 rfl (fun _ _ _ => rfl) (fun _ _ _ h => h) t Y h
  hd.trans (by unfold Pipeline.RDat.fetched Pipeline.RDat.blockOf iblk; rfl)

theorem found_8 {Y : (cfg0.win 8).block.Idx → Elt F (cfg0.win 8).elt} (h : (rdat m I R10 R11 R12 R13 R14 R15 c).Finds 8 t Y) : Y = iblk m c 8 t :=
  let ⟨_, hd⟩ := (rdat m I R10 R11 R12 R13 R14 R15 c).finds_in_eq_fetched 8 rfl (fun _ _ _ => rfl) (fun _ _ _ h => h) t Y h
  hd.trans (by unfold Pipeline.RDat.fetched Pipeline.RDat.blockOf iblk; rfl)

theorem found_9 {Y : (cfg0.win 9).block.Idx → Elt F (cfg0.win 9).elt} (h : (rdat m I R10 R11 R12 R13 R14 R15 c).Finds 9 t Y) : Y = iblk m c 9 t :=
  let ⟨_, hd⟩ := (rdat m I R10 R11 R12 R13 R14 R15 c).finds_in_eq_fetched 9 rfl (fun _ _ _ => rfl) (fun _ _ _ h => h) t Y h
  hd.trans (by unfold Pipeline.RDat.fetched Pipeline.RDat.blockOf iblk; rfl)
end

end Cert.Proof.KernelIdeal
-- ==== Proof.KernelIdeal.Steps.lean ====
/-
  Every step of the launch leaves the numbers of its block.
-/
module

public import proofs.«01_k».proof.Proof.KernelIdeal.StepOf
public import proofs.«01_k».proof.Proof.KernelIdeal.Inputs

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Scal

section
variable (m : (a : Loc nD τ sig) → Buf (Elt Ideal) a)

/-- The scales of the two moments, and the first operand of the product, as the launch finds them. -/
def muAt (c : Dev nD) (R : Fin 3584) (q : Fin 148) : EReal := V m c (Pipeline.arrRef spec0 7) (ix2 R q)
def suAt (c : Dev nD) (R : Fin 3584) (q : Fin 148) : EReal := V m c (Pipeline.arrRef spec0 9) (ix2 R q)
def xAt (c : Dev nD) (R : Fin 3584) (τ : Fin 1536) : EReal :=
  xtOf (V m c (Pipeline.arrRef spec0 2) : Vec Ideal S6x256 .f32) (V m c (Pipeline.arrRef spec0 3) : Vec Ideal S6x256 .f32) (V m c (Pipeline.arrRef spec0 1) : Vec Ideal S1536x3584 .fp8e4m3) (ix2 R τ)
def stepAt (c : Dev nD) : BitVec 32 := V m c (Pipeline.arrRef spec0 0) (ix1 (0 : Fin 1))

/-- The numbers step `t` works from. -/
def blkAt (c : Dev nD) (t : Fin cfg0.N) : Blk where
  X := xAt m c
  D τ C := V m c (Pipeline.arrRef spec0 4) (ix2 τ (wide t C))
  W R C := V m c (Pipeline.arrRef spec0 5) (ix2 R (wide t C))
  M R C := V m c (Pipeline.arrRef spec0 6) (ix2 R (wide t C))
  S R C := V m c (Pipeline.arrRef spec0 8) (ix2 R (wide t C))
  MU R j := muAt m c R (pairCol t j) * ((9 : ℝ) : EReal)
  SU R j := suAt m c R (pairCol t j)
  gain := k0_pay265 (F := Ideal) (stepAt m c) (ix2 (0 : Fin 32) (0 : Fin 128))
  guard := k0_pay266 (F := Ideal) (stepAt m c) (ix2 (0 : Fin 32) (0 : Fin 128))

/-- What the scratch arrays hold between two steps. -/
def Kept (c : Dev nD) (t : Fin (cfg0.N + 1)) (f17 : BufTy.Contents (Elt Ideal) (Memref.whole cc0_scratch0 : Memref sig .tc .vmem S3584x1536 .bf16).view.ty) (_f18 : BufTy.Contents (Elt Ideal) (Memref.whole cc0_scratch1 : Memref sig .tc .vmem S2x1536x256 .fp8e5m2).view.ty)
    (f21 : BufTy.Contents (Elt Ideal) (Memref.whole cc0_scratch4 : Memref sig .tc .vmem S3584x256 .bf16).view.ty) (f22 : BufTy.Contents (Elt Ideal) (Memref.whole cc0_scratch5 : Memref sig .tc .vmem S3584x256 .bf16).view.ty) : Prop :=
  t.val ≠ 0 → (∀ R τ, (Memref.whole cc0_scratch0 : Memref sig .tc .vmem S3584x1536 .bf16).view.read (Elt Ideal) f17 (ix2 R τ) = xAt m c R τ)
    ∧ (∀ R (q : Fin 148), (Memref.whole cc0_scratch4 : Memref sig .tc .vmem S3584x256 .bf16).view.read (Elt Ideal) f21 (ix2 R ⟨q.val, by omega⟩) = muAt m c R q * ((9 : ℝ) : EReal))
    ∧ (∀ R (q : Fin 148), (Memref.whole cc0_scratch5 : Memref sig .tc .vmem S3584x256 .bf16).view.read (Elt Ideal) f22 (ix2 R ⟨q.val, by omega⟩) = suAt m c R q)

/-- An output window is left holding the numbers of the step. -/
def L10 (c : Dev nD) (t : Fin cfg0.N) (_Y X : (cfg0.win 10).block.Idx → Elt Ideal (cfg0.win 10).elt) : Prop := ∀ R C, X (ix2 R C) = (blkAt m c t).wn R C
def L11 (c : Dev nD) (t : Fin cfg0.N) (_Y X : (cfg0.win 11).block.Idx → Elt Ideal (cfg0.win 11).elt) : Prop := ∀ R C, X (ix2 R C) = (blkAt m c t).upd R C
def L12 (c : Dev nD) (t : Fin cfg0.N) (_Y X : (cfg0.win 12).block.Idx → Elt Ideal (cfg0.win 12).elt) : Prop := ∀ R C, X (ix2 R C) = (blkAt m c t).mn R C
def L14 (c : Dev nD) (t : Fin cfg0.N) (_Y X : (cfg0.win 14).block.Idx → Elt Ideal (cfg0.win 14).elt) : Prop := ∀ R C, X (ix2 R C) = (blkAt m c t).sn R C

theorem gain_any (s : BitVec 32) (r : Fin 32) (l : Fin 128) : k0_pay265 (F := Ideal) s (ix2 r l) = k0_pay265 (F := Ideal) s (ix2 (0 : Fin 32) (0 : Fin 128)) := by rw [gain_at, gain_at]
theorem guard_any (s : BitVec 32) (r : Fin 32) (l : Fin 128) : k0_pay266 (F := Ideal) s (ix2 r l) = k0_pay266 (F := Ideal) s (ix2 (0 : Fin 32) (0 : Fin 128)) := by rw [guard_at, guard_at]

variable (hm0 : ∀ c R q, 0 ≤ muAt m c R q) (hs0 : ∀ c R q, 0 ≤ suAt m c R q)
include hm0 hs0

/-- Every step leaves in the four windows that are written back the numbers of its block. -/
theorem step : Step (F := Ideal) m (Kept m) (L10 m) (L11 m) (L12 m) (fun _ _ _ _ => True) (L14 m) (fun _ _ _ _ => True) := by
  intro c t Y hY f1 f2 f3 f4 f5 f6 f7 f8 f9 f10 f11 f12 f13 f14 f15 f16 f17 f18 f21 f22 o e1 e2 e3 e4 e5 e6 e7 e8 e9 e10 _ _ _ _ _ _ hI ho
  rw [found_0 (hY 0)] at e1
  rw [found_1 (hY 1)] at e2
  rw [found_2 (hY 2)] at e3
  rw [found_3 (hY 3)] at e4
  rw [found_4 (hY 4)] at e5
  rw [found_5 (hY 5)] at e6
  rw [found_6 (hY 6)] at e7
  rw [found_7 (hY 7)] at e8
  rw [found_8 (hY 8)] at e9
  rw [found_9 (hY 9)] at e10
  have ht := point_val t
  have S := step_of (o := o) (ho := ho) (B := blkAt m c t) (MU := muAt m c) (SU := suAt m c)
    (hg := fun r l => by
      rw [gain_any]; show _ = k0_pay265 (F := Ideal) (stepAt m c) _
      exact congrArg (fun s => k0_pay265 (F := Ideal) s (ix2 (0 : Fin 32) (0 : Fin 128))) ((congrFun e1 _).trans (block_0 m c t)))
    (hd := fun r l => by
      rw [guard_any]; show _ = k0_pay266 (F := Ideal) (stepAt m c) _
      exact congrArg (fun s => k0_pay266 (F := Ideal) s (ix2 (0 : Fin 32) (0 : Fin 128))) ((congrFun e1 _).trans (block_0 m c t)))
    (hX := fun R τ => by
      refine (congrArg₂ (fun a (x : Vec Ideal S1536x3584 .fp8e4m3) => xtOf a _ x (ix2 R τ)) (e3.trans (whole_2 m c t)) (e2.trans (whole_1 m c t))).trans ?_
      exact congrArg (fun b => xtOf _ b _ (ix2 R τ)) (e4.trans (whole_3 m c t)))
    (hD := fun τ q => (congrFun e5 _).trans (block_4 m c t τ q))
    (hW := fun R C => (congrFun e6 _).trans (block_5 m c t R C))
    (hM := fun R C => (congrFun e7 _).trans (block_6 m c t R C))
    (hS := fun R C => (congrFun e9 _).trans (block_8 m c t R C))
    (hU := fun R q => (congrFun e8 _).trans (block_7 m c t R q))
    (hV := fun R q => (congrFun e10 _).trans (block_9 m c t R q))
    (hBU := fun R j h => congrArg (fun q => muAt m c R q * ((9 : ℝ) : EReal)) (Fin.ext (by show 2 * t.val + j.val = 2 * (grid0.coords t 0).val + j.val; rw [ht])))
    (hBV := fun R j h => congrArg (fun q => suAt m c R q) (Fin.ext (by show 2 * t.val + j.val = 2 * (grid0.coords t 0).val + j.val; rw [ht])))
    (hp := fun h0 => hI (by rw [ht] at h0; exact h0))
    (hm0 := hm0 c) (hs0 := hs0 c)
  exact ⟨S.1.1 f11, S.1.2.1 f12, S.1.2.2.1 f13, trivial, S.1.2.2.2 f15, trivial, fun _ => S.2⟩
end

end Cert.Proof.KernelIdeal
-- ==== Proof.KernelIdeal.Arrays.lean ====
/-
  What the kernel leaves in its result arrays.
-/
module

public import Idealize.ShloMosaic.Lib.Pipeline.ArrRel
public import proofs.«01_k».proof.Proof.KernelIdeal.Steps

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Cert.Proof.Scal

variable (m : (a : Loc nD τ sig) → Buf (Elt Ideal) a)

theorem idx_inj10 : ∀ t t' : Fin cfg0.N, win0_10.index t = win0_10.index t' → t = t' := by
  intro t t' h
  have h1 := congrFun h (1 : Fin 2)
  rw [(index_10 t).2, (index_10 t').2] at h1
  exact Fin.ext h1

theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

theorem read_10 (t : Fin cfg0.N) (f : BufTy.Contents (Elt Ideal) ((cfg0.win 10).blk t).view.ty) (R : Fin 3584) (C : Fin 256) :
    ((cfg0.win 10).blk t).view.read (Elt Ideal) f (ix2 R C) = f (ix2 R (wide t C)) := by
  show f (((cfg0.win 10).blk t).view.emb (ix2 R C)) = _
  exact congrArg f (emb_10 t R C)

theorem idx_inj11 : ∀ t t' : Fin cfg0.N, win0_11.index t = win0_11.index t' → t = t' := by
  intro t t' h
  have h1 := congrFun h (1 : Fin 2)
  rw [(index_11 t).2, (index_11 t').2] at h1
  exact Fin.ext h1

theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

theorem read_11 (t : Fin cfg0.N) (f : BufTy.Contents (Elt Ideal) ((cfg0.win 11).blk t).view.ty) (R : Fin 3584) (C : Fin 256) :
    ((cfg0.win 11).blk t).view.read (Elt Ideal) f (ix2 R C) = f (ix2 R (wide t C)) := by
  show f (((cfg0.win 11).blk t).view.emb (ix2 R C)) = _
  exact congrArg f (emb_11 t R C)

theorem idx_inj12 : ∀ t t' : Fin cfg0.N, win0_12.index t = win0_12.index t' → t = t' := by
  intro t t' h
  have h1 := congrFun h (1 : Fin 2)
  rw [(index_12 t).2, (index_12 t').2] at h1
  exact Fin.ext h1

theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

theorem read_12 (t : Fin cfg0.N) (f : BufTy.Contents (Elt Ideal) ((cfg0.win 12).blk t).view.ty) (R : Fin 3584) (C : Fin 256) :
    ((cfg0.win 12).blk t).view.read (Elt Ideal) f (ix2 R C) = f (ix2 R (wide t C)) := by
  show f (((cfg0.win 12).blk t).view.emb (ix2 R C)) = _
  exact congrArg f (emb_12 t R C)

theorem idx_inj14 : ∀ t t' : Fin cfg0.N, win0_14.index t = win0_14.index t' → t = t' := by
  intro t t' h
  have h1 := congrFun h (1 : Fin 2)
  rw [(index_14 t).2, (index_14 t').2] at h1
  exact Fin.ext h1

theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

theorem read_14 (t : Fin cfg0.N) (f : BufTy.Contents (Elt Ideal) ((cfg0.win 14).blk t).view.ty) (R : Fin 3584) (C : Fin 256) :
    ((cfg0.win 14).blk t).view.read (Elt Ideal) f (ix2 R C) = f (ix2 R (wide t C)) := by
  show f (((cfg0.win 14).blk t).view.emb (ix2 R C)) = _
  exact congrArg f (emb_14 t R C)

variable (hm0 : ∀ c R q, 0 ≤ muAt m c R q) (hs0 : ∀ c R q, 0 ≤ suAt m c R q) (ρ : Dev nD → PrngReg)
include hm0 hs0

/-- What the kernel leaves in the four results, entry by entry; the arguments end as launched. -/
theorem run_values :
    θ_run defs (onTc (τ := τ) (main (F := Ideal))) ⟨m, fun _ => 0, ρ⟩ (fun r => ∀ c : Dev nD,
      (∀ t R C, r.2.mem ((c.tc : Thread nD τ).loc main_v3_0) (ix2 R (wide t C)) = (blkAt m c t).wn R C)
      ∧ (∀ t R C, r.2.mem ((c.tc : Thread nD τ).loc main_v3_1) (ix2 R (wide t C)) = (blkAt m c t).upd R C)
      ∧ (∀ t R C, r.2.mem ((c.tc : Thread nD τ).loc main_v3_2) (ix2 R (wide t C)) = (blkAt m c t).mn R C)
      ∧ (∀ t R C, r.2.mem ((c.tc : Thread nD τ).loc main_v3_4) (ix2 R (wide t C)) = (blkAt m c t).sn R C)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ?_) (run_main (ρ := ρ) (step m hm0 hs0) (fun _ _ _ _ _ h => absurd rfl h))
  obtain ⟨after, hL, hM⟩ := Pipeline.RDat.FramePost.exists_exact h.1 c
  refine ⟨fun t R C => ?r10, fun t R C => ?r11, fun t R C => ?r12, fun t R C => ?r14,
    ((h.1 c).2 main_arg0 (Pipeline.mem_restRefs_of main_arg0 (by decide) (by decide))).trans (V_main_arg0 m c), (h.1.arr_in c 2 rfl).trans (V_main_arg1 m c), ((h.1 c).2 main_arg2 (Pipeline.mem_restRefs_of main_arg2 (by decide) (by decide))).trans (V_main_arg2 m c), (h.1.arr_in c 3 rfl).trans (V_main_arg3 m c), (h.1.arr_in c 5 rfl).trans (V_main_arg4 m c), (h.1.arr_in c 6 rfl).trans (V_main_arg5 m c), (h.1.arr_in c 7 rfl).trans (V_main_arg6 m c), (h.1.arr_in c 8 rfl).trans (V_main_arg7 m c), (h.1.arr_in c 9 rfl).trans (V_main_arg8 m c), ((h.1 c).2 main_arg9 (Pipeline.mem_restRefs_of main_arg9 (by decide) (by decide))).trans (V_main_arg9 m c)⟩
  case r10 =>
    obtain ⟨Y, _, hA⟩ := hL 10 t (flush0_10 t)
    have hA' : ∀ R C, after 10 t (ix2 R C) = (blkAt m c t).wn R C := hA
    refine (congrFun (hM 10) (ix2 R (wide t C))).trans ?_
    have b := congrFun ((((rdat m (Kept m) (L10 m) (L11 m) (L12 m) (fun _ _ _ _ => True) (L14 m) (fun _ _ _ _ => True) c).withAfter after)).read_blk_arrAt_eq_flushed 10 disjoint10 cfg0.N t t.isLt (flush0_10 t)) (ix2 R C)
    exact (read_10 t _ R C).symm.trans (b.trans (hA' R C))
  case r11 =>
    obtain ⟨Y, _, hA⟩ := hL 11 t (flush0_11 t)
    have hA' : ∀ R C, after 11 t (ix2 R C) = (blkAt m c t).upd R C := hA
    refine (congrFun (hM 11) (ix2 R (wide t C))).trans ?_
    have b := congrFun ((((rdat m (Kept m) (L10 m) (L11 m) (L12 m) (fun _ _ _ _ => True) (L14 m) (fun _ _ _ _ => True) c).withAfter after)).read_blk_arrAt_eq_flushed 11 disjoint11 cfg0.N t t.isLt (flush0_11 t)) (ix2 R C)
    exact (read_11 t _ R C).symm.trans (b.trans (hA' R C))
  case r12 =>
    obtain ⟨Y, _, hA⟩ := hL 12 t (flush0_12 t)
    have hA' : ∀ R C, after 12 t (ix2 R C) = (blkAt m c t).mn R C := hA
    refine (congrFun (hM 12) (ix2 R (wide t C))).trans ?_
    have b := congrFun ((((rdat m (Kept m) (L10 m) (L11 m) (L12 m) (fun _ _ _ _ => True) (L14 m) (fun _ _ _ _ => True) c).withAfter after)).read_blk_arrAt_eq_flushed 12 disjoint12 cfg0.N t t.isLt (flush0_12 t)) (ix2 R C)
    exact (read_12 t _ R C).symm.trans (b.trans (hA' R C))
  case r14 =>
    obtain ⟨Y, _, hA⟩ := hL 14 t (flush0_14 t)
    have hA' : ∀ R C, after 14 t (ix2 R C) = (blkAt m c t).sn R C := hA
    refine (congrFun (hM 14) (ix2 R (wide t C))).trans ?_
    have b := congrFun ((((rdat m (Kept m) (L10 m) (L11 m) (L12 m) (fun _ _ _ _ => True) (L14 m) (fun _ _ _ _ => True) c).withAfter after)).read_blk_arrAt_eq_flushed 14 disjoint14 cfg0.N t t.isLt (flush0_14 t)) (ix2 R C)
    exact (read_14 t _ R C).symm.trans (b.trans (hA' R C))

end Cert.Proof.KernelIdeal
-- ==== Proof.Reference.Full.lean ====
/-
  The numbers of one step of the optimiser over whole arrays, as the reference has them.
-/
module

public import proofs.«01_k».proof.Proof.Scalars

@[expose] public section

noncomputable section

namespace Cert.Proof.Reference

open Idealize.ShloMosaic
open Cert.Proof.Scal

/-- The group of 128 columns a column lies in. -/
def grp (C : Fin 18944) : Fin 148 := ⟨C.val / 128, by omega⟩

/-- The column of a group at a lane. -/
def lane (q : Fin 148) (l : Fin 128) : Fin 18944 := ⟨q.val * 128 + l.val, by omega⟩

theorem lane_grp (C : Fin 18944) : lane (grp C) ⟨C.val % 128, by omega⟩ = C :=
  Fin.ext (by show C.val / 128 * 128 + C.val % 128 = C.val; omega)

/-- What a step works from. -/
structure Full where
  X : Fin 1536 → Fin 3584 → EReal
  XS : Fin 1536 → EReal
  D : Fin 1536 → Fin 18944 → EReal
  DS : Fin 1536 → EReal
  W : Fin 3584 → Fin 18944 → EReal
  M : Fin 3584 → Fin 18944 → EReal
  MU : Fin 3584 → Fin 148 → EReal
  S : Fin 3584 → Fin 18944 → EReal
  SU : Fin 3584 → Fin 148 → EReal
  t : ℝ

namespace Full
variable (A : Full)
/-- The weight gradient. -/
def g (R : Fin 3584) (C : Fin 18944) : EReal := ∑ k, A.X k R * A.XS k * (A.D k C * A.DS k)
/-- The first moment. -/
def mo (R : Fin 3584) (C : Fin 18944) : EReal := ((9 / 10 : ℝ) : EReal) * (A.M R C * A.MU R (grp C)) + ((1 / 10 : ℝ) : EReal) * A.g R C
/-- The second moment. -/
def vo (R : Fin 3584) (C : Fin 18944) : EReal :=
  ((16760439 / 16777216 : ℝ) : EReal) * (A.S R C * A.SU R (grp C) * (A.S R C * A.SU R (grp C))) + ((1 / 1000 : ℝ) : EReal) * A.g R C * A.g R C
/-- The update. -/
def upd (R : Fin 3584) (C : Fin 18944) : EReal :=
  Ideal.div (((-1 / 1000 : ℝ) : EReal) * Ideal.div (A.mo R C) (1 - Ideal.pow ((9 / 10 : ℝ) : EReal) (A.t : EReal)))
    (root (Ideal.div (A.vo R C) (1 - Ideal.pow ((16760439 / 16777216 : ℝ) : EReal) (A.t : EReal))) + ((1 / 100000000 : ℝ) : EReal))
/-- The new weight. -/
def wn (R : Fin 3584) (C : Fin 18944) : EReal := A.W R C + A.upd R C
/-- The greatest absolute value of a group of first moments. -/
def am (R : Fin 3584) (q : Fin 148) : EReal := top fun l => mag (A.mo R (lane q l))
/-- The greatest of a group of roots of second moments. -/
def az (R : Fin 3584) (q : Fin 148) : EReal := top fun l => mag (root (A.vo R (lane q l)))
/-- The codes of the first moment. -/
def mn (R : Fin 3584) (C : Fin 18944) : EReal :=
  clip (A.mo R C * (if A.am R (grp C) = 0 then 1 else Ideal.exp2 (0 - (expo (A.am R (grp C) * ((1 / 448 : ℝ) : EReal)) + 1))))
/-- The codes of the root of the second moment. -/
def sn (R : Fin 3584) (C : Fin 18944) : EReal :=
  clip (root (A.vo R C) * (if A.az R (grp C) = 0 then 1 else Ideal.exp2 (0 - (expo (A.az R (grp C) * ((1 / 448 : ℝ) : EReal)) + 1))))
end Full

end Cert.Proof.Reference
-- ==== Proof.Reference.Entry.lean ====
/-
  What the reference computes, entry by entry, over the extended reals.
-/
module

public import proofs.«01_k».proof.Proof.Gen.ReferenceIdeal.Skeleton
public import proofs.«01_k».proof.Proof.Reference.Full

@[expose] public section

set_option maxRecDepth 16384
set_option maxHeartbeats 4000000

noncomputable section

namespace Cert.Proof.Reference

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Scal

theorem nm_b1 : Named.named (F := Ideal) κ "b1" (φ := .f32) 0x3F666666#32 = ((9 / 10 : ℝ) : EReal) := IdealRules.named_const.ideal_named_scalar _ _ _ _ rfl
theorem nm_c1 : Named.named (F := Ideal) κ "c1" (φ := .f32) 0x3DCCCCCD#32 = ((1 / 10 : ℝ) : EReal) := IdealRules.named_const.ideal_named_scalar _ _ _ _ rfl
theorem nm_c2 : Named.named (F := Ideal) κ "c2" (φ := .f32) 0x3A83126F#32 = ((1 / 1000 : ℝ) : EReal) := IdealRules.named_const.ideal_named_scalar _ _ _ _ rfl
theorem nm_eps : Named.named (F := Ideal) κ "eps" (φ := .f32) 0x322BCC77#32 = ((1 / 100000000 : ℝ) : EReal) := IdealRules.named_const.ideal_named_scalar _ _ _ _ rfl
theorem nm_neg : Named.named (F := Ideal) κ "neg_lr" (φ := .f32) 0xBA83126F#32 = ((-1 / 1000 : ℝ) : EReal) := IdealRules.named_const.ideal_named_scalar _ _ _ _ rfl
theorem nm_inv : Named.named (F := Ideal) κ "inv_max" (φ := .f32) 0x3B124925#32 = ((1 / 448 : ℝ) : EReal) := IdealRules.named_const.ideal_named_scalar _ _ _ _ rfl
theorem nm_log2 : Named.named (F := Ideal) κ "log2" (φ := .f32) 0x3F317218#32 = ((Real.log 2 : ℝ) : EReal) := IdealRules.named_const.ideal_named_scalar _ _ _ _ rfl

/-- The weight gradient. -/
theorem grad_at (x : Vec Ideal S1536x3584 .fp8e4m3) (xs : Vec Ideal S1536x1 .f32) (dy : Vec Ideal S1536x18944 .fp8e5m2) (dys : Vec Ideal S1536x1 .f32)
    (R : Fin 3584) (C : Fin 18944) :
    k0_pay4 (F := Ideal) x xs dy dys (ix2 R C)
      = ∑ k : Fin 1536, x (ix2 k R) * xs (ix2 k 0) * (dy (ix2 k C) * dys (ix2 k 0)) := by
  pointwise [k0_pay4]

/-- The square of the decoded root of the second moment. -/
theorem square_at (s : Vec Ideal S3584x18944 .fp8e4m3) (ss : Vec Ideal S3584x148 .f32) (R : Fin 3584) (C : Fin 18944) :
    k0_pay5 (F := Ideal) s ss (ix2 R C) = s (ix2 R C) * ss (ix2 R (grp C)) * (s (ix2 R C) * ss (ix2 R (grp C))) := by
  pointwise [k0_pay5]
  rfl

/-- The first moment. -/
theorem first_at (x : Vec Ideal S1536x3584 .fp8e4m3) (xs : Vec Ideal S1536x1 .f32) (dy : Vec Ideal S1536x18944 .fp8e5m2) (dys : Vec Ideal S1536x1 .f32)
    (mo : Vec Ideal S3584x18944 .fp8e4m3) (ms : Vec Ideal S3584x148 .f32) (R : Fin 3584) (C : Fin 18944) :
    k0_pay6 (F := Ideal) x xs dy dys mo ms (ix2 R C)
      = ((9 / 10 : ℝ) : EReal) * (mo (ix2 R C) * ms (ix2 R (grp C))) + ((1 / 10 : ℝ) : EReal) * k0_pay4 (F := Ideal) x xs dy dys (ix2 R C) := by
  rw [← nm_b1, ← nm_c1]
  pointwise [k0_pay6]
  rfl

theorem decay_at (i : S3584x18944.Idx) : k0_pay7 (F := Ideal) i = ((16760439 / 16777216 : ℝ) : EReal) := by
  rw [← litB2]; rfl

/-- The second moment. -/
theorem second_at (g sq d : FVec Ideal S3584x18944 .f32) (R : Fin 3584) (C : Fin 18944) :
    k0_pay8 (F := Ideal) g sq d (ix2 R C) = d (ix2 R C) * sq (ix2 R C) + ((1 / 1000 : ℝ) : EReal) * g (ix2 R C) * g (ix2 R C) := by
  rw [← nm_c2]
  pointwise [k0_pay8]

theorem root_lit (v : EReal) : (if v < Ideal.ofBits .f32 0x7F800000#32 then Ideal.sqrt v else Ideal.ofBits .f32 0x00000000#32) = root v := by
  rw [litInf, Ideal.ofBits_zero_f32]; rfl

/-- The update. -/
theorem update_at (g sq mo d : FVec Ideal S3584x18944 .f32) (t : BitVec 32) (R : Fin 3584) (C : Fin 18944) :
    k0_pay9 (F := Ideal) g sq mo d t (ix2 R C)
      = Ideal.div (((-1 / 1000 : ℝ) : EReal) * Ideal.div (mo (ix2 R C)) (1 - Ideal.pow ((9 / 10 : ℝ) : EReal) ((t.toInt : ℝ) : EReal)))
          (root (Ideal.div (k0_pay8 (F := Ideal) g sq d (ix2 R C)) (1 - Ideal.pow ((16760439 / 16777216 : ℝ) : EReal) ((t.toInt : ℝ) : EReal)))
            + ((1 / 100000000 : ℝ) : EReal)) := by
  rw [← root_lit, ← nm_neg, ← nm_b1, ← nm_eps, ← litB2, ← Ideal.ofBits_one_f32]
  pointwise [k0_pay9]
  rfl

/-- The new weight. -/
theorem weight_at (g sq mo d : FVec Ideal S3584x18944 .f32) (t : BitVec 32) (w : Vec Ideal S3584x18944 .bf16) (R : Fin 3584) (C : Fin 18944) :
    k0_pay10 (F := Ideal) g sq mo d t w (ix2 R C) = w (ix2 R C) + k0_pay9 (F := Ideal) g sq mo d t (ix2 R C) := by
  pointwise [k0_pay10]

theorem group_at (mo : FVec Ideal S3584x18944 .f32) (R : Fin 3584) (q : Fin 148) (l : Fin 128) :
    k0_pay11 (F := Ideal) mo (ix3 R q l) = mo (ix2 R (lane q l)) := by
  pointwise [k0_pay11]
  rfl

theorem groups_at (v : FVec Ideal S3584x18944 .f32) (R : Fin 3584) (q : Fin 148) (l : Fin 128) :
    k0_pay17 (F := Ideal) v (ix3 R q l) = root (v (ix2 R (lane q l))) := by
  rw [← root_lit]
  pointwise [k0_pay17]
  rfl

/-- The greatest absolute value of a group. -/
theorem amax_at (mo : FVec Ideal S3584x18944 .f32) (R : Fin 3584) (q : Fin 148) :
    k0_pay12 (F := Ideal) mo (ix2 R q) = top fun l => mag (mo (ix2 R (lane q l))) := by
  unfold top
  rw [← litNegInf]
  pointwise [k0_pay12]
  simp only [group_at]
  rfl

theorem amaxs_at (v : FVec Ideal S3584x18944 .f32) (R : Fin 3584) (q : Fin 148) :
    k0_pay18 (F := Ideal) v (ix2 R q) = top fun l => mag (root (v (ix2 R (lane q l)))) := by
  unfold top
  rw [← litNegInf]
  pointwise [k0_pay18]
  simp only [groups_at]
  rfl

theorem inv_at (i : S3584x148.Idx) : k0_pay13 (F := Ideal) i = ((1 / 448 : ℝ) : EReal) := by
  rw [← nm_inv]; rfl

theorem expo_at (a b : FVec Ideal S3584x148 .f32) (R : Fin 3584) (q : Fin 148) :
    k0_pay14 (F := Ideal) a b (ix2 R q) = expo (a (ix2 R q) * b (ix2 R q)) + 1 := by
  unfold expo
  rw [← nm_log2, ← Ideal.ofBits_one_f32]
  pointwise [k0_pay14]

theorem expos_at (lg : FVec Ideal S3584x148 .f32) (R : Fin 3584) (q : Fin 148) :
    k0_pay1 (F := Ideal) lg (ix2 R q) = Ideal.liftRound Int.floor (Ideal.div (lg (ix2 R q)) ((Real.log 2 : ℝ) : EReal)) + 1 := by
  rw [← nm_log2, ← Ideal.ofBits_one_f32]
  pointwise [k0_pay1]

theorem logs_at (v : FVec Ideal S3584x18944 .f32) (R : Fin 3584) (q : Fin 148) :
    k0_pay19 (F := Ideal) v (ix2 R q) = Ideal.log (k0_pay18 (F := Ideal) v (ix2 R q) * ((1 / 448 : ℝ) : EReal)) := by
  rw [← nm_inv]
  have h : ∀ (u : FVec Ideal S3584x148 .f32) (b : Ideal .f32), log (mulf u (broadcast S3584x148 b)) (ix2 R q) = Ideal.log (u (ix2 R q) * b) := fun _ _ => rfl
  unfold k0_pay19
  exact h _ _

/-- The codes of the first moment. -/
theorem codes_at (v : FVec Ideal S3584x148x128 .f32) (a b : FVec Ideal S3584x148 .f32) (R : Fin 3584) (C : Fin 18944) :
    k0_pay16 (F := Ideal) v a b (ix2 R C)
      = clip (v (ix3 R (grp C) ⟨C.val % 128, by omega⟩)
          * (if a (ix2 R (grp C)) = 0 then 1 else Ideal.exp2 (0 - k0_pay14 (F := Ideal) a b (ix2 R (grp C))))) := by
  unfold clip
  rw [← Ideal.ofBits_one_f32, ← Ideal.ofBits_zero_f32]
  pointwise [k0_pay16]
  rfl

/-- The codes of the root of the second moment. -/
theorem codess_at (v : FVec Ideal S3584x148x128 .f32) (a lg : FVec Ideal S3584x148 .f32) (R : Fin 3584) (C : Fin 18944) :
    k0_pay3 (F := Ideal) v a lg (ix2 R C)
      = clip (v (ix3 R (grp C) ⟨C.val % 128, by omega⟩)
          * (if a (ix2 R (grp C)) = 0 then 1 else Ideal.exp2 (0 - k0_pay1 (F := Ideal) lg (ix2 R (grp C))))) := by
  unfold clip
  rw [← Ideal.ofBits_one_f32, ← Ideal.ofBits_zero_f32]
  pointwise [k0_pay3]
  rfl

end Cert.Proof.Reference
-- ==== Proof.Reference.Out.lean ====
/-
  What one run of the reference's body leaves in each result, as a function of the arrays it reads.
-/
module

public import proofs.«01_k».proof.Proof.Gen.ReferenceIdeal.Value
public import proofs.«01_k».proof.Proof.Reference.Entry

@[expose] public section

set_option maxRecDepth 16384
set_option maxHeartbeats 4000000

noncomputable section

namespace Cert.Proof.Reference

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

theorem zero2 : (![0, 0] : Fin 2 → Nat) = fun _ => 0 := funext fun a => by fin_cases a <;> rfl
theorem zero1 : (![0] : Fin 1 → Nat) = fun _ => 0 := funext fun a => by fin_cases a; rfl

theorem ld_a {e : EltTy} (x : Vec F S1536x3584 e) : View.ld x (Rect.unit (s := S1536x3584) ![0, 0] ![1536, 3584] inb_S1536x3584_S1536x3584_0_0) = x := View.ld_unit_zero zero2 _ x
theorem ld_b {e : EltTy} (x : Vec F S1536x1 e) : View.ld x (Rect.unit (s := S1536x1) ![0, 0] ![1536, 1] inb_S1536x1_S1536x1_0_0) = x := View.ld_unit_zero zero2 _ x
theorem ld_c {e : EltTy} (x : Vec F S1536x18944 e) : View.ld x (Rect.unit (s := S1536x18944) ![0, 0] ![1536, 18944] inb_S1536x18944_S1536x18944_0_0) = x := View.ld_unit_zero zero2 _ x
theorem ld_d {e : EltTy} (x : Vec F S3584x18944 e) : View.ld x (Rect.unit (s := S3584x18944) ![0, 0] ![3584, 18944] inb_S3584x18944_S3584x18944_0_0) = x := View.ld_unit_zero zero2 _ x
theorem ld_e {e : EltTy} (x : Vec F S3584x148 e) : View.ld x (Rect.unit (s := S3584x148) ![0, 0] ![3584, 148] inb_S3584x148_S3584x148_0_0) = x := View.ld_unit_zero zero2 _ x
theorem ld_f {e : EltTy} (x : Vec F S1 e) : View.ld x (Rect.unit (s := S1) ![0] ![1] inb_S1_S1_0) = x := View.ld_unit_zero zero1 _ x

theorem ix1_first (h : 0 < S1.numel) : Shape.Idx.first h = ix1 (0 : Fin 1) := by
  funext (a : Fin 1)
  have h1 : (Shape.Idx.first h a).val < S1.size a := (Shape.Idx.first h a).isLt
  have h2 : S1.size a = 1 := by fin_cases a; rfl
  have h3 : (ix1 (0 : Fin 1) a).val < S1.size a := (ix1 (0 : Fin 1) a).isLt
  exact Fin.ext (by omega)

theorem out_10 (c : Dev nD) (arg0 : Memref sig .tc .smem S1 .i32) (harg0 : arg0.IsWhole) (arg1 : Memref sig .tc .vmem S1536x3584 .fp8e4m3) (harg1 : arg1.IsWhole) (arg2 : Memref sig .tc .vmem S1536x1 .f32) (harg2 : arg2.IsWhole) (arg3 : Memref sig .tc .vmem S1536x18944 .fp8e5m2) (harg3 : arg3.IsWhole) (arg4 : Memref sig .tc .vmem S1536x1 .f32) (harg4 : arg4.IsWhole) (arg5 : Memref sig .tc .vmem S3584x18944 .bf16) (harg5 : arg5.IsWhole) (arg6 : Memref sig .tc .vmem S3584x18944 .fp8e4m3) (harg6 : arg6.IsWhole) (arg7 : Memref sig .tc .vmem S3584x148 .f32) (harg7 : arg7.IsWhole) (arg8 : Memref sig .tc .vmem S3584x18944 .fp8e4m3) (harg8 : arg8.IsWhole) (arg9 : Memref sig .tc .vmem S3584x148 .f32) (harg9 : arg9.IsWhole) (arg10 : Memref sig .tc .vmem S3584x18944 .bf16) (harg10 : arg10.IsWhole) (arg11 : Memref sig .tc .vmem S3584x18944 .f32) (harg11 : arg11.IsWhole) (arg12 : Memref sig .tc .vmem S3584x18944 .fp8e4m3) (harg12 : arg12.IsWhole) (arg13 : Memref sig .tc .vmem S3584x148 .f32) (harg13 : arg13.IsWhole) (arg14 : Memref sig .tc .vmem S3584x18944 .fp8e4m3) (harg14 : arg14.IsWhole) (arg15 : Memref sig .tc .vmem S3584x148 .f32) (harg15 : arg15.IsWhole)
    (x0 : Vec F S1 .i32) (x1 : Vec F S1536x3584 .fp8e4m3) (x2 : Vec F S1536x1 .f32) (x3 : Vec F S1536x18944 .fp8e5m2) (x4 : Vec F S1536x1 .f32) (x5 : Vec F S3584x18944 .bf16) (x6 : Vec F S3584x18944 .fp8e4m3) (x7 : Vec F S3584x148 .f32) (x8 : Vec F S3584x18944 .fp8e4m3) (x9 : Vec F S3584x148 .f32) :
    out0_A_10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9
      = k0_pay10 (k0_pay4 x1 x2 x3 x4) (k0_pay5 x8 x9) (k0_pay6 x1 x2 x3 x4 x6 x7) k0_pay7 (x0 (ix1 0)) x5 := by
  unfold out0_A_10 kernelRun0_A
  sl_unfold_words
  dsimp only
  rw [View.read_writes_junk_eq_canon, View.canon_unit_zero zero2]
  simp only [View.readAt_eq_ld, harg0.read_unread, harg1.read_unread, harg2.read_unread, harg3.read_unread, harg4.read_unread, harg5.read_unread, harg6.read_unread, harg7.read_unread, harg8.read_unread, harg9.read_unread, ld_a, ld_b, ld_c, ld_d, ld_e, ld_f, ix1_first]
  exact congrArg (fun z => k0_pay10 (k0_pay4 x1 x2 x3 x4) (k0_pay5 x8 x9) (k0_pay6 x1 x2 x3 x4 x6 x7) k0_pay7 z x5) (congrFun (ld_f x0) (ix1 (0 : Fin 1)))
theorem out_11 (c : Dev nD) (arg0 : Memref sig .tc .smem S1 .i32) (harg0 : arg0.IsWhole) (arg1 : Memref sig .tc .vmem S1536x3584 .fp8e4m3) (harg1 : arg1.IsWhole) (arg2 : Memref sig .tc .vmem S1536x1 .f32) (harg2 : arg2.IsWhole) (arg3 : Memref sig .tc .vmem S1536x18944 .fp8e5m2) (harg3 : arg3.IsWhole) (arg4 : Memref sig .tc .vmem S1536x1 .f32) (harg4 : arg4.IsWhole) (arg5 : Memref sig .tc .vmem S3584x18944 .bf16) (harg5 : arg5.IsWhole) (arg6 : Memref sig .tc .vmem S3584x18944 .fp8e4m3) (harg6 : arg6.IsWhole) (arg7 : Memref sig .tc .vmem S3584x148 .f32) (harg7 : arg7.IsWhole) (arg8 : Memref sig .tc .vmem S3584x18944 .fp8e4m3) (harg8 : arg8.IsWhole) (arg9 : Memref sig .tc .vmem S3584x148 .f32) (harg9 : arg9.IsWhole) (arg10 : Memref sig .tc .vmem S3584x18944 .bf16) (harg10 : arg10.IsWhole) (arg11 : Memref sig .tc .vmem S3584x18944 .f32) (harg11 : arg11.IsWhole) (arg12 : Memref sig .tc .vmem S3584x18944 .fp8e4m3) (harg12 : arg12.IsWhole) (arg13 : Memref sig .tc .vmem S3584x148 .f32) (harg13 : arg13.IsWhole) (arg14 : Memref sig .tc .vmem S3584x18944 .fp8e4m3) (harg14 : arg14.IsWhole) (arg15 : Memref sig .tc .vmem S3584x148 .f32) (harg15 : arg15.IsWhole)
    (x0 : Vec F S1 .i32) (x1 : Vec F S1536x3584 .fp8e4m3) (x2 : Vec F S1536x1 .f32) (x3 : Vec F S1536x18944 .fp8e5m2) (x4 : Vec F S1536x1 .f32) (x5 : Vec F S3584x18944 .bf16) (x6 : Vec F S3584x18944 .fp8e4m3) (x7 : Vec F S3584x148 .f32) (x8 : Vec F S3584x18944 .fp8e4m3) (x9 : Vec F S3584x148 .f32) :
    out0_A_11 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9
      = k0_pay9 (k0_pay4 x1 x2 x3 x4) (k0_pay5 x8 x9) (k0_pay6 x1 x2 x3 x4 x6 x7) k0_pay7 (x0 (ix1 0)) := by
  unfold out0_A_11 kernelRun0_A
  sl_unfold_words
  dsimp only
  rw [View.read_writes_junk_eq_canon, View.canon_unit_zero zero2]
  simp only [View.readAt_eq_ld, harg0.read_unread, harg1.read_unread, harg2.read_unread, harg3.read_unread, harg4.read_unread, harg5.read_unread, harg6.read_unread, harg7.read_unread, harg8.read_unread, harg9.read_unread, ld_a, ld_b, ld_c, ld_d, ld_e, ld_f, ix1_first]
  exact congrArg (fun z => k0_pay9 (k0_pay4 x1 x2 x3 x4) (k0_pay5 x8 x9) (k0_pay6 x1 x2 x3 x4 x6 x7) k0_pay7 z) (congrFun (ld_f x0) (ix1 (0 : Fin 1)))
theorem out_12 (c : Dev nD) (arg0 : Memref sig .tc .smem S1 .i32) (harg0 : arg0.IsWhole) (arg1 : Memref sig .tc .vmem S1536x3584 .fp8e4m3) (harg1 : arg1.IsWhole) (arg2 : Memref sig .tc .vmem S1536x1 .f32) (harg2 : arg2.IsWhole) (arg3 : Memref sig .tc .vmem S1536x18944 .fp8e5m2) (harg3 : arg3.IsWhole) (arg4 : Memref sig .tc .vmem S1536x1 .f32) (harg4 : arg4.IsWhole) (arg5 : Memref sig .tc .vmem S3584x18944 .bf16) (harg5 : arg5.IsWhole) (arg6 : Memref sig .tc .vmem S3584x18944 .fp8e4m3) (harg6 : arg6.IsWhole) (arg7 : Memref sig .tc .vmem S3584x148 .f32) (harg7 : arg7.IsWhole) (arg8 : Memref sig .tc .vmem S3584x18944 .fp8e4m3) (harg8 : arg8.IsWhole) (arg9 : Memref sig .tc .vmem S3584x148 .f32) (harg9 : arg9.IsWhole) (arg10 : Memref sig .tc .vmem S3584x18944 .bf16) (harg10 : arg10.IsWhole) (arg11 : Memref sig .tc .vmem S3584x18944 .f32) (harg11 : arg11.IsWhole) (arg12 : Memref sig .tc .vmem S3584x18944 .fp8e4m3) (harg12 : arg12.IsWhole) (arg13 : Memref sig .tc .vmem S3584x148 .f32) (harg13 : arg13.IsWhole) (arg14 : Memref sig .tc .vmem S3584x18944 .fp8e4m3) (harg14 : arg14.IsWhole) (arg15 : Memref sig .tc .vmem S3584x148 .f32) (harg15 : arg15.IsWhole)
    (x0 : Vec F S1 .i32) (x1 : Vec F S1536x3584 .fp8e4m3) (x2 : Vec F S1536x1 .f32) (x3 : Vec F S1536x18944 .fp8e5m2) (x4 : Vec F S1536x1 .f32) (x5 : Vec F S3584x18944 .bf16) (x6 : Vec F S3584x18944 .fp8e4m3) (x7 : Vec F S3584x148 .f32) (x8 : Vec F S3584x18944 .fp8e4m3) (x9 : Vec F S3584x148 .f32) :
    out0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9
      = k0_pay16 (k0_pay11 (k0_pay6 x1 x2 x3 x4 x6 x7)) (k0_pay12 (k0_pay6 x1 x2 x3 x4 x6 x7)) k0_pay13 := by
  unfold out0_A_12 kernelRun0_A
  sl_unfold_words
  dsimp only
  rw [View.read_writes_junk_eq_canon, View.canon_unit_zero zero2]
  simp only [View.readAt_eq_ld, harg0.read_unread, harg1.read_unread, harg2.read_unread, harg3.read_unread, harg4.read_unread, harg5.read_unread, harg6.read_unread, harg7.read_unread, harg8.read_unread, harg9.read_unread, ld_a, ld_b, ld_c, ld_d, ld_e, ld_f, ix1_first]
theorem out_14 (c : Dev nD) (arg0 : Memref sig .tc .smem S1 .i32) (harg0 : arg0.IsWhole) (arg1 : Memref sig .tc .vmem S1536x3584 .fp8e4m3) (harg1 : arg1.IsWhole) (arg2 : Memref sig .tc .vmem S1536x1 .f32) (harg2 : arg2.IsWhole) (arg3 : Memref sig .tc .vmem S1536x18944 .fp8e5m2) (harg3 : arg3.IsWhole) (arg4 : Memref sig .tc .vmem S1536x1 .f32) (harg4 : arg4.IsWhole) (arg5 : Memref sig .tc .vmem S3584x18944 .bf16) (harg5 : arg5.IsWhole) (arg6 : Memref sig .tc .vmem S3584x18944 .fp8e4m3) (harg6 : arg6.IsWhole) (arg7 : Memref sig .tc .vmem S3584x148 .f32) (harg7 : arg7.IsWhole) (arg8 : Memref sig .tc .vmem S3584x18944 .fp8e4m3) (harg8 : arg8.IsWhole) (arg9 : Memref sig .tc .vmem S3584x148 .f32) (harg9 : arg9.IsWhole) (arg10 : Memref sig .tc .vmem S3584x18944 .bf16) (harg10 : arg10.IsWhole) (arg11 : Memref sig .tc .vmem S3584x18944 .f32) (harg11 : arg11.IsWhole) (arg12 : Memref sig .tc .vmem S3584x18944 .fp8e4m3) (harg12 : arg12.IsWhole) (arg13 : Memref sig .tc .vmem S3584x148 .f32) (harg13 : arg13.IsWhole) (arg14 : Memref sig .tc .vmem S3584x18944 .fp8e4m3) (harg14 : arg14.IsWhole) (arg15 : Memref sig .tc .vmem S3584x148 .f32) (harg15 : arg15.IsWhole)
    (x0 : Vec F S1 .i32) (x1 : Vec F S1536x3584 .fp8e4m3) (x2 : Vec F S1536x1 .f32) (x3 : Vec F S1536x18944 .fp8e5m2) (x4 : Vec F S1536x1 .f32) (x5 : Vec F S3584x18944 .bf16) (x6 : Vec F S3584x18944 .fp8e4m3) (x7 : Vec F S3584x148 .f32) (x8 : Vec F S3584x18944 .fp8e4m3) (x9 : Vec F S3584x148 .f32) :
    out0_A_14 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9
      = k0_pay3 (k0_pay17 (k0_pay8 (k0_pay4 x1 x2 x3 x4) (k0_pay5 x8 x9) k0_pay7)) (k0_pay18 (k0_pay8 (k0_pay4 x1 x2 x3 x4) (k0_pay5 x8 x9) k0_pay7)) (k0_pay19 (k0_pay8 (k0_pay4 x1 x2 x3 x4) (k0_pay5 x8 x9) k0_pay7)) := by
  unfold out0_A_14 kernelRun0_A
  sl_unfold_words
  dsimp only
  rw [View.read_writes_junk_eq_canon, View.canon_unit_zero zero2]
  simp only [View.readAt_eq_ld, harg0.read_unread, harg1.read_unread, harg2.read_unread, harg3.read_unread, harg4.read_unread, harg5.read_unread, harg6.read_unread, harg7.read_unread, harg8.read_unread, harg9.read_unread, ld_a, ld_b, ld_c, ld_d, ld_e, ld_f, ix1_first]

end Cert.Proof.Reference
-- ==== Proof.Reference.Values.lean ====
/-
  What the reference leaves in its results, entry by entry.
-/
module

public import proofs.«01_k».proof.Proof.Reference.Full
public import proofs.«01_k».proof.Proof.Reference.Out
public import proofs.«01_k».proof.Proof.Reference.Entry

@[expose] public section

set_option maxRecDepth 16384
set_option maxHeartbeats 4000000

noncomputable section

namespace Cert.Proof.Reference

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Scal

variable (m : (a : Loc nD τ sig) → Buf (Elt Ideal) a)

/-- The one point of the grid. -/
abbrev t0 : Fin cfg0.N := ⟨0, by decide⟩

theorem ix1_only (y : S1.Idx) : y = ix1 (0 : Fin 1) := by
  funext a; apply Fin.ext
  match a with
  | ⟨0, _⟩ => have h := (y ⟨0, by decide⟩).isLt; have h2 : S1.size ⟨0, by decide⟩ = 1 := rfl; show (y ⟨0, by decide⟩).val = 0; omega

theorem block_0 (c : Dev nD) : iblk m c 0 t0 (ix1 (0 : Fin 1)) = V m c (Pipeline.arrRef spec0 0) (ix1 (0 : Fin 1)) := by
  show V m c (Pipeline.arrRef spec0 0) (((cfg0.win 0).blk t0).view.emb (ix1 (0 : Fin 1))) = _
  exact congrArg _ (ix1_only _)

theorem index_1 : ∀ t : Fin cfg0.N, win0_1.index t 0 = 0 ∧ win0_1.index t 1 = 0 :=
  (by decide +kernel : ∀ t : Fin grid0.N, win0_1.index t 0 = 0 ∧ win0_1.index t 1 = 0)

theorem emb_1 (t : Fin cfg0.N) (R : Fin 1536) (C : Fin 3584) : ((cfg0.win 1).blk t).view.emb (ix2 R C) = ix2 R C := by
  have h := index_1 t
  have h0 := win0_1.rect_emb_val t (ix2 R C) 0
  have h1 := win0_1.rect_emb_val t (ix2 R C) 1
  rw [h.1] at h0
  rw [h.2] at h1
  funext a; apply Fin.ext
  match a with
  | ⟨0, _⟩ => exact h0.trans (by show 0 * 1536 + R.val = R.val; omega)
  | ⟨1, _⟩ => exact h1.trans (by show 0 * 3584 + C.val = C.val; omega)

theorem whole_1 (c : Dev nD) : iblk m c 1 t0 = V m c (Pipeline.arrRef spec0 1) := by
  funext (y : Shape.Idx S1536x3584)
  rw [eq_ix2 y]
  show V m c (Pipeline.arrRef spec0 1) (((cfg0.win 1).blk t0).view.emb (ix2 (y 0) (y 1))) = _
  exact congrArg _ (emb_1 t0 (y 0) (y 1))

theorem index_2 : ∀ t : Fin cfg0.N, win0_2.index t 0 = 0 ∧ win0_2.index t 1 = 0 :=
  (by decide +kernel : ∀ t : Fin grid0.N, win0_2.index t 0 = 0 ∧ win0_2.index t 1 = 0)

theorem emb_2 (t : Fin cfg0.N) (R : Fin 1536) (C : Fin 1) : ((cfg0.win 2).blk t).view.emb (ix2 R C) = ix2 R C := by
  have h := index_2 t
  have h0 := win0_2.rect_emb_val t (ix2 R C) 0
  have h1 := win0_2.rect_emb_val t (ix2 R C) 1
  rw [h.1] at h0
  rw [h.2] at h1
  funext a; apply Fin.ext
  match a with
  | ⟨0, _⟩ => exact h0.trans (by show 0 * 1536 + R.val = R.val; omega)
  | ⟨1, _⟩ => exact h1.trans (by show 0 * 1 + C.val = C.val; omega)

theorem whole_2 (c : Dev nD) : iblk m c 2 t0 = V m c (Pipeline.arrRef spec0 2) := by
  funext (y : Shape.Idx S1536x1)
  rw [eq_ix2 y]
  show V m c (Pipeline.arrRef spec0 2) (((cfg0.win 2).blk t0).view.emb (ix2 (y 0) (y 1))) = _
  exact congrArg _ (emb_2 t0 (y 0) (y 1))

theorem index_3 : ∀ t : Fin cfg0.N, win0_3.index t 0 = 0 ∧ win0_3.index t 1 = 0 :=
  (by decide +kernel : ∀ t : Fin grid0.N, win0_3.index t 0 = 0 ∧ win0_3.index t 1 = 0)

theorem emb_3 (t : Fin cfg0.N) (R : Fin 1536) (C : Fin 18944) : ((cfg0.win 3).blk t).view.emb (ix2 R C) = ix2 R C := by
  have h := index_3 t
  have h0 := win0_3.rect_emb_val t (ix2 R C) 0
  have h1 := win0_3.rect_emb_val t (ix2 R C) 1
  rw [h.1] at h0
  rw [h.2] at h1
  funext a; apply Fin.ext
  match a with
  | ⟨0, _⟩ => exact h0.trans (by show 0 * 1536 + R.val = R.val; omega)
  | ⟨1, _⟩ => exact h1.trans (by show 0 * 18944 + C.val = C.val; omega)

theorem whole_3 (c : Dev nD) : iblk m c 3 t0 = V m c (Pipeline.arrRef spec0 3) := by
  funext (y : Shape.Idx S1536x18944)
  rw [eq_ix2 y]
  show V m c (Pipeline.arrRef spec0 3) (((cfg0.win 3).blk t0).view.emb (ix2 (y 0) (y 1))) = _
  exact congrArg _ (emb_3 t0 (y 0) (y 1))

theorem index_4 : ∀ t : Fin cfg0.N, win0_4.index t 0 = 0 ∧ win0_4.index t 1 = 0 :=
  (by decide +kernel : ∀ t : Fin grid0.N, win0_4.index t 0 = 0 ∧ win0_4.index t 1 = 0)

theorem emb_4 (t : Fin cfg0.N) (R : Fin 1536) (C : Fin 1) : ((cfg0.win 4).blk t).view.emb (ix2 R C) = ix2 R C := by
  have h := index_4 t
  have h0 := win0_4.rect_emb_val t (ix2 R C) 0
  have h1 := win0_4.rect_emb_val t (ix2 R C) 1
  rw [h.1] at h0
  rw [h.2] at h1
  funext a; apply Fin.ext
  match a with
  | ⟨0, _⟩ => exact h0.trans (by show 0 * 1536 + R.val = R.val; omega)
  | ⟨1, _⟩ => exact h1.trans (by show 0 * 1 + C.val = C.val; omega)

theorem whole_4 (c : Dev nD) : iblk m c 4 t0 = V m c (Pipeline.arrRef spec0 4) := by
  funext (y : Shape.Idx S1536x1)
  rw [eq_ix2 y]
  show V m c (Pipeline.arrRef spec0 4) (((cfg0.win 4).blk t0).view.emb (ix2 (y 0) (y 1))) = _
  exact congrArg _ (emb_4 t0 (y 0) (y 1))

theorem index_5 : ∀ t : Fin cfg0.N, win0_5.index t 0 = 0 ∧ win0_5.index t 1 = 0 :=
  (by decide +kernel : ∀ t : Fin grid0.N, win0_5.index t 0 = 0 ∧ win0_5.index t 1 = 0)

theorem emb_5 (t : Fin cfg0.N) (R : Fin 3584) (C : Fin 18944) : ((cfg0.win 5).blk t).view.emb (ix2 R C) = ix2 R C := by
  have h := index_5 t
  have h0 := win0_5.rect_emb_val t (ix2 R C) 0
  have h1 := win0_5.rect_emb_val t (ix2 R C) 1
  rw [h.1] at h0
  rw [h.2] at h1
  funext a; apply Fin.ext
  match a with
  | ⟨0, _⟩ => exact h0.trans (by show 0 * 3584 + R.val = R.val; omega)
  | ⟨1, _⟩ => exact h1.trans (by show 0 * 18944 + C.val = C.val; omega)

theorem whole_5 (c : Dev nD) : iblk m c 5 t0 = V m c (Pipeline.arrRef spec0 5) := by
  funext (y : Shape.Idx S3584x18944)
  rw [eq_ix2 y]
  show V m c (Pipeline.arrRef spec0 5) (((cfg0.win 5).blk t0).view.emb (ix2 (y 0) (y 1))) = _
  exact congrArg _ (emb_5 t0 (y 0) (y 1))

theorem index_6 : ∀ t : Fin cfg0.N, win0_6.index t 0 = 0 ∧ win0_6.index t 1 = 0 :=
  (by decide +kernel : ∀ t : Fin grid0.N, win0_6.index t 0 = 0 ∧ win0_6.index t 1 = 0)

theorem emb_6 (t : Fin cfg0.N) (R : Fin 3584) (C : Fin 18944) : ((cfg0.win 6).blk t).view.emb (ix2 R C) = ix2 R C := by
  have h := index_6 t
  have h0 := win0_6.rect_emb_val t (ix2 R C) 0
  have h1 := win0_6.rect_emb_val t (ix2 R C) 1
  rw [h.1] at h0
  rw [h.2] at h1
  funext a; apply Fin.ext
  match a with
  | ⟨0, _⟩ => exact h0.trans (by show 0 * 3584 + R.val = R.val; omega)
  | ⟨1, _⟩ => exact h1.trans (by show 0 * 18944 + C.val = C.val; omega)

theorem whole_6 (c : Dev nD) : iblk m c 6 t0 = V m c (Pipeline.arrRef spec0 6) := by
  funext (y : Shape.Idx S3584x18944)
  rw [eq_ix2 y]
  show V m c (Pipeline.arrRef spec0 6) (((cfg0.win 6).blk t0).view.emb (ix2 (y 0) (y 1))) = _
  exact congrArg _ (emb_6 t0 (y 0) (y 1))

theorem index_7 : ∀ t : Fin cfg0.N, win0_7.index t 0 = 0 ∧ win0_7.index t 1 = 0 :=
  (by decide +kernel : ∀ t : Fin grid0.N, win0_7.index t 0 = 0 ∧ win0_7.index t 1 = 0)

theorem emb_7 (t : Fin cfg0.N) (R : Fin 3584) (C : Fin 148) : ((cfg0.win 7).blk t).view.emb (ix2 R C) = ix2 R C := by
  have h := index_7 t
  have h0 := win0_7.rect_emb_val t (ix2 R C) 0
  have h1 := win0_7.rect_emb_val t (ix2 R C) 1
  rw [h.1] at h0
  rw [h.2] at h1
  funext a; apply Fin.ext
  match a with
  | ⟨0, _⟩ => exact h0.trans (by show 0 * 3584 + R.val = R.val; omega)
  | ⟨1, _⟩ => exact h1.trans (by show 0 * 148 + C.val = C.val; omega)

theorem whole_7 (c : Dev nD) : iblk m c 7 t0 = V m c (Pipeline.arrRef spec0 7) := by
  funext (y : Shape.Idx S3584x148)
  rw [eq_ix2 y]
  show V m c (Pipeline.arrRef spec0 7) (((cfg0.win 7).blk t0).view.emb (ix2 (y 0) (y 1))) = _
  exact congrArg _ (emb_7 t0 (y 0) (y 1))

theorem index_8 : ∀ t : Fin cfg0.N, win0_8.index t 0 = 0 ∧ win0_8.index t 1 = 0 :=
  (by decide +kernel : ∀ t : Fin grid0.N, win0_8.index t 0 = 0 ∧ win0_8.index t 1 = 0)

theorem emb_8 (t : Fin cfg0.N) (R : Fin 3584) (C : Fin 18944) : ((cfg0.win 8).blk t).view.emb (ix2 R C) = ix2 R C := by
  have h := index_8 t
  have h0 := win0_8.rect_emb_val t (ix2 R C) 0
  have h1 := win0_8.rect_emb_val t (ix2 R C) 1
  rw [h.1] at h0
  rw [h.2] at h1
  funext a; apply Fin.ext
  match a with
  | ⟨0, _⟩ => exact h0.trans (by show 0 * 3584 + R.val = R.val; omega)
  | ⟨1, _⟩ => exact h1.trans (by show 0 * 18944 + C.val = C.val; omega)

theorem whole_8 (c : Dev nD) : iblk m c 8 t0 = V m c (Pipeline.arrRef spec0 8) := by
  funext (y : Shape.Idx S3584x18944)
  rw [eq_ix2 y]
  show V m c (Pipeline.arrRef spec0 8) (((cfg0.win 8).blk t0).view.emb (ix2 (y 0) (y 1))) = _
  exact congrArg _ (emb_8 t0 (y 0) (y 1))

theorem index_9 : ∀ t : Fin cfg0.N, win0_9.index t 0 = 0 ∧ win0_9.index t 1 = 0 :=
  (by decide +kernel : ∀ t : Fin grid0.N, win0_9.index t 0 = 0 ∧ win0_9.index t 1 = 0)

theorem emb_9 (t : Fin cfg0.N) (R : Fin 3584) (C : Fin 148) : ((cfg0.win 9).blk t).view.emb (ix2 R C) = ix2 R C := by
  have h := index_9 t
  have h0 := win0_9.rect_emb_val t (ix2 R C) 0
  have h1 := win0_9.rect_emb_val t (ix2 R C) 1
  rw [h.1] at h0
  rw [h.2] at h1
  funext a; apply Fin.ext
  match a with
  | ⟨0, _⟩ => exact h0.trans (by show 0 * 3584 + R.val = R.val; omega)
  | ⟨1, _⟩ => exact h1.trans (by show 0 * 148 + C.val = C.val; omega)

theorem whole_9 (c : Dev nD) : iblk m c 9 t0 = V m c (Pipeline.arrRef spec0 9) := by
  funext (y : Shape.Idx S3584x148)
  rw [eq_ix2 y]
  show V m c (Pipeline.arrRef spec0 9) (((cfg0.win 9).blk t0).view.emb (ix2 (y 0) (y 1))) = _
  exact congrArg _ (emb_9 t0 (y 0) (y 1))

theorem index_10 : ∀ t : Fin cfg0.N, win0_10.index t 0 = 0 ∧ win0_10.index t 1 = 0 :=
  (by decide +kernel : ∀ t : Fin grid0.N, win0_10.index t 0 = 0 ∧ win0_10.index t 1 = 0)

theorem emb_10 (t : Fin cfg0.N) (R : Fin 3584) (C : Fin 18944) : ((cfg0.win 10).blk t).view.emb (ix2 R C) = ix2 R C := by
  have h := index_10 t
  have h0 := win0_10.rect_emb_val t (ix2 R C) 0
  have h1 := win0_10.rect_emb_val t (ix2 R C) 1
  rw [h.1] at h0
  rw [h.2] at h1
  funext a; apply Fin.ext
  match a with
  | ⟨0, _⟩ => exact h0.trans (by show 0 * 3584 + R.val = R.val; omega)
  | ⟨1, _⟩ => exact h1.trans (by show 0 * 18944 + C.val = C.val; omega)

theorem index_11 : ∀ t : Fin cfg0.N, win0_11.index t 0 = 0 ∧ win0_11.index t 1 = 0 :=
  (by decide +kernel : ∀ t : Fin grid0.N, win0_11.index t 0 = 0 ∧ win0_11.index t 1 = 0)

theorem emb_11 (t : Fin cfg0.N) (R : Fin 3584) (C : Fin 18944) : ((cfg0.win 11).blk t).view.emb (ix2 R C) = ix2 R C := by
  have h := index_11 t
  have h0 := win0_11.rect_emb_val t (ix2 R C) 0
  have h1 := win0_11.rect_emb_val t (ix2 R C) 1
  rw [h.1] at h0
  rw [h.2] at h1
  funext a; apply Fin.ext
  match a with
  | ⟨0, _⟩ => exact h0.trans (by show 0 * 3584 + R.val = R.val; omega)
  | ⟨1, _⟩ => exact h1.trans (by show 0 * 18944 + C.val = C.val; omega)

theorem index_12 : ∀ t : Fin cfg0.N, win0_12.index t 0 = 0 ∧ win0_12.index t 1 = 0 :=
  (by decide +kernel : ∀ t : Fin grid0.N, win0_12.index t 0 = 0 ∧ win0_12.index t 1 = 0)

theorem emb_12 (t : Fin cfg0.N) (R : Fin 3584) (C : Fin 18944) : ((cfg0.win 12).blk t).view.emb (ix2 R C) = ix2 R C := by
  have h := index_12 t
  have h0 := win0_12.rect_emb_val t (ix2 R C) 0
  have h1 := win0_12.rect_emb_val t (ix2 R C) 1
  rw [h.1] at h0
  rw [h.2] at h1
  funext a; apply Fin.ext
  match a with
  | ⟨0, _⟩ => exact h0.trans (by show 0 * 3584 + R.val = R.val; omega)
  | ⟨1, _⟩ => exact h1.trans (by show 0 * 18944 + C.val = C.val; omega)

theorem index_14 : ∀ t : Fin cfg0.N, win0_14.index t 0 = 0 ∧ win0_14.index t 1 = 0 :=
  (by decide +kernel : ∀ t : Fin grid0.N, win0_14.index t 0 = 0 ∧ win0_14.index t 1 = 0)

theorem emb_14 (t : Fin cfg0.N) (R : Fin 3584) (C : Fin 18944) : ((cfg0.win 14).blk t).view.emb (ix2 R C) = ix2 R C := by
  have h := index_14 t
  have h0 := win0_14.rect_emb_val t (ix2 R C) 0
  have h1 := win0_14.rect_emb_val t (ix2 R C) 1
  rw [h.1] at h0
  rw [h.2] at h1
  funext a; apply Fin.ext
  match a with
  | ⟨0, _⟩ => exact h0.trans (by show 0 * 3584 + R.val = R.val; omega)
  | ⟨1, _⟩ => exact h1.trans (by show 0 * 18944 + C.val = C.val; omega)

/-- The numbers the reference works from. -/
def full (c : Dev nD) : Full where
  X k R := V m c (Pipeline.arrRef spec0 1) (ix2 k R)
  XS k := V m c (Pipeline.arrRef spec0 2) (ix2 k (0 : Fin 1))
  D k C := V m c (Pipeline.arrRef spec0 3) (ix2 k C)
  DS k := V m c (Pipeline.arrRef spec0 4) (ix2 k (0 : Fin 1))
  W R C := V m c (Pipeline.arrRef spec0 5) (ix2 R C)
  M R C := V m c (Pipeline.arrRef spec0 6) (ix2 R C)
  MU R q := V m c (Pipeline.arrRef spec0 7) (ix2 R q)
  S R C := V m c (Pipeline.arrRef spec0 8) (ix2 R C)
  SU R q := V m c (Pipeline.arrRef spec0 9) (ix2 R q)
  t := ((V m c (Pipeline.arrRef spec0 0) (ix1 (0 : Fin 1)) : BitVec 32).toInt : ℝ)

section pay
variable (A : Full) (x0 : BitVec 32) (x1 : Vec Ideal S1536x3584 .fp8e4m3) (x2 : Vec Ideal S1536x1 .f32) (x3 : Vec Ideal S1536x18944 .fp8e5m2) (x4 : Vec Ideal S1536x1 .f32)
  (x5 : Vec Ideal S3584x18944 .bf16) (x6 : Vec Ideal S3584x18944 .fp8e4m3) (x7 : Vec Ideal S3584x148 .f32) (x8 : Vec Ideal S3584x18944 .fp8e4m3) (x9 : Vec Ideal S3584x148 .f32)

/-- The arrays hold the numbers. -/
structure Holds : Prop where
  h0 : A.t = ((x0.toInt : ℝ))
  h1 : ∀ k R, A.X k R = x1 (ix2 k R)
  h2 : ∀ k, A.XS k = x2 (ix2 k (0 : Fin 1))
  h3 : ∀ k C, A.D k C = x3 (ix2 k C)
  h4 : ∀ k, A.DS k = x4 (ix2 k (0 : Fin 1))
  h5 : ∀ R C, A.W R C = x5 (ix2 R C)
  h6 : ∀ R C, A.M R C = x6 (ix2 R C)
  h7 : ∀ R q, A.MU R q = x7 (ix2 R q)
  h8 : ∀ R C, A.S R C = x8 (ix2 R C)
  h9 : ∀ R q, A.SU R q = x9 (ix2 R q)

variable {A x0 x1 x2 x3 x4 x5 x6 x7 x8 x9}
variable (h : Holds A x0 x1 x2 x3 x4 x5 x6 x7 x8 x9) (R : Fin 3584) (C : Fin 18944)
include h

theorem Holds.g : k0_pay4 (F := Ideal) x1 x2 x3 x4 (ix2 R C) = A.g R C := by
  rw [grad_at]; exact Finset.sum_congr rfl fun k _ => by rw [h.h1, h.h2, h.h3, h.h4]

theorem Holds.mo : k0_pay6 (F := Ideal) x1 x2 x3 x4 x6 x7 (ix2 R C) = A.mo R C := by
  rw [first_at, h.g, ← h.h6, ← h.h7]; rfl

theorem Holds.vo : k0_pay8 (F := Ideal) (k0_pay4 x1 x2 x3 x4) (k0_pay5 x8 x9) k0_pay7 (ix2 R C) = A.vo R C := by
  rw [second_at, square_at, decay_at, h.g, ← h.h8, ← h.h9]; rfl

theorem Holds.upd : k0_pay9 (F := Ideal) (k0_pay4 x1 x2 x3 x4) (k0_pay5 x8 x9) (k0_pay6 x1 x2 x3 x4 x6 x7) k0_pay7 x0 (ix2 R C) = A.upd R C := by
  rw [update_at, h.mo, h.vo, ← h.h0]; rfl

theorem Holds.wn : k0_pay10 (F := Ideal) (k0_pay4 x1 x2 x3 x4) (k0_pay5 x8 x9) (k0_pay6 x1 x2 x3 x4 x6 x7) k0_pay7 x0 x5 (ix2 R C) = A.wn R C := by
  rw [weight_at, h.upd, ← h.h5]; rfl

theorem Holds.am (q : Fin 148) : k0_pay12 (F := Ideal) (k0_pay6 x1 x2 x3 x4 x6 x7) (ix2 R q) = A.am R q := by
  rw [amax_at]; exact congrArg top (funext fun l => congrArg mag (h.mo R (lane q l)))

theorem Holds.az (q : Fin 148) : k0_pay18 (F := Ideal) (k0_pay8 (k0_pay4 x1 x2 x3 x4) (k0_pay5 x8 x9) k0_pay7) (ix2 R q) = A.az R q := by
  rw [amaxs_at]; exact congrArg top (funext fun l => congrArg (fun v => mag (root v)) (h.vo R (lane q l)))

theorem Holds.mn : k0_pay16 (F := Ideal) (k0_pay11 (k0_pay6 x1 x2 x3 x4 x6 x7)) (k0_pay12 (k0_pay6 x1 x2 x3 x4 x6 x7)) k0_pay13 (ix2 R C) = A.mn R C := by
  rw [codes_at, group_at, expo_at, h.am, inv_at, lane_grp, h.mo]; rfl

theorem Holds.sn : k0_pay3 (F := Ideal) (k0_pay17 (k0_pay8 (k0_pay4 x1 x2 x3 x4) (k0_pay5 x8 x9) k0_pay7)) (k0_pay18 (k0_pay8 (k0_pay4 x1 x2 x3 x4) (k0_pay5 x8 x9) k0_pay7))
    (k0_pay19 (k0_pay8 (k0_pay4 x1 x2 x3 x4) (k0_pay5 x8 x9) k0_pay7)) (ix2 R C) = A.sn R C := by
  rw [codess_at, groups_at, expos_at, logs_at, h.az, lane_grp, h.vo]; rfl
end pay

theorem holds (c : Dev nD) : Holds (full m c) (iblk m c 0 t0 (ix1 (0 : Fin 1))) (iblk m c 1 t0) (iblk m c 2 t0) (iblk m c 3 t0) (iblk m c 4 t0) (iblk m c 5 t0)
    (iblk m c 6 t0) (iblk m c 7 t0) (iblk m c 8 t0) (iblk m c 9 t0) where
  h0 := congrArg (fun z : BitVec 32 => (z.toInt : ℝ)) (block_0 m c).symm
  h1 k R := (congrFun (whole_1 m c) _).symm
  h2 k := (congrFun (whole_2 m c) _).symm
  h3 k C := (congrFun (whole_3 m c) _).symm
  h4 k := (congrFun (whole_4 m c) _).symm
  h5 R C := (congrFun (whole_5 m c) _).symm
  h6 R C := (congrFun (whole_6 m c) _).symm
  h7 R q := (congrFun (whole_7 m c) _).symm
  h8 R C := (congrFun (whole_8 m c) _).symm
  h9 R q := (congrFun (whole_9 m c) _).symm

theorem read_10 (f : BufTy.Contents (Elt Ideal) ((cfg0.win 10).blk t0).view.ty) (R : Fin 3584) (C : Fin 18944) : ((cfg0.win 10).blk t0).view.read (Elt Ideal) f (ix2 R C) = f (ix2 R C) := by
  show f (((cfg0.win 10).blk t0).view.emb (ix2 R C)) = _
  exact congrArg f (emb_10 t0 R C)

theorem final_10 (c : Dev nD) (R : Fin 3584) (C : Fin 18944) : (dats m 0 c).arrAt 10 cfg0.N (ix2 R C) = (full m c).wn R C := by
  have b := (congrFun (Cert.ReferenceIdeal.Value.blocks10 m c t0 rfl) (ix2 R C)).trans (congrFun (Cert.ReferenceIdeal.Value.flushed10_A m c t0) (ix2 R C))
  refine (read_10 _ R C).symm.trans (b.trans (Eq.trans ?_ ((holds m c).wn R C)))
  exact congrFun (out_10 c _ _ _ _ _ _ _ _ _ _ _ _ _ _ _ _ _ _ _ _ _ _ _ _ _ _ _ _ _ _ _ _ _ _ _ _ _ _ _ _ _ _) (ix2 R C)

theorem read_11 (f : BufTy.Contents (Elt Ideal) ((cfg0.win 11).blk t0).view.ty) (R : Fin 3584) (C : Fin 18944) : ((cfg0.win 11).blk t0).view.read (Elt Ideal) f (ix2 R C) = f (ix2 R C) := by
  show f (((cfg0.win 11).blk t0).view.emb (ix2 R C)) = _
  exact congrArg f (emb_11 t0 R C)

theorem final_11 (c : Dev nD) (R : Fin 3584) (C : Fin 18944) : (dats m 0 c).arrAt 11 cfg0.N (ix2 R C) = (full m c).upd R C := by
  have b := (congrFun (Cert.ReferenceIdeal.Value.blocks11 m c t0 rfl) (ix2 R C)).trans (congrFun (Cert.ReferenceIdeal.Value.flushed11_A m c t0) (ix2 R C))
  refine (read_11 _ R C).symm.trans (b.trans (Eq.trans ?_ ((holds m c).upd R C)))
  exact congrFun (out_11 c _ _ _ _ _ _ _ _ _ _ _ _ _ _ _ _ _ _ _ _ _ _ _ _ _ _ _ _ _ _ _ _ _ _ _ _ _ _ _ _ _ _) (ix2 R C)

theorem read_12 (f : BufTy.Contents (Elt Ideal) ((cfg0.win 12).blk t0).view.ty) (R : Fin 3584) (C : Fin 18944) : ((cfg0.win 12).blk t0).view.read (Elt Ideal) f (ix2 R C) = f (ix2 R C) := by
  show f (((cfg0.win 12).blk t0).view.emb (ix2 R C)) = _
  exact congrArg f (emb_12 t0 R C)

theorem final_12 (c : Dev nD) (R : Fin 3584) (C : Fin 18944) : (dats m 0 c).arrAt 12 cfg0.N (ix2 R C) = (full m c).mn R C := by
  have b := (congrFun (Cert.ReferenceIdeal.Value.blocks12 m c t0 rfl) (ix2 R C)).trans (congrFun (Cert.ReferenceIdeal.Value.flushed12_A m c t0) (ix2 R C))
  refine (read_12 _ R C).symm.trans (b.trans (Eq.trans ?_ ((holds m c).mn R C)))
  exact congrFun (out_12 c _ _ _ _ _ _ _ _ _ _ _ _ _ _ _ _ _ _ _ _ _ _ _ _ _ _ _ _ _ _ _ _ _ _ _ _ _ _ _ _ _ _) (ix2 R C)

theorem read_14 (f : BufTy.Contents (Elt Ideal) ((cfg0.win 14).blk t0).view.ty) (R : Fin 3584) (C : Fin 18944) : ((cfg0.win 14).blk t0).view.read (Elt Ideal) f (ix2 R C) = f (ix2 R C) := by
  show f (((cfg0.win 14).blk t0).view.emb (ix2 R C)) = _
  exact congrArg f (emb_14 t0 R C)

theorem final_14 (c : Dev nD) (R : Fin 3584) (C : Fin 18944) : (dats m 0 c).arrAt 14 cfg0.N (ix2 R C) = (full m c).sn R C := by
  have b := (congrFun (Cert.ReferenceIdeal.Value.blocks14 m c t0 rfl) (ix2 R C)).trans (congrFun (Cert.ReferenceIdeal.Value.flushed14_A m c t0) (ix2 R C))
  refine (read_14 _ R C).symm.trans (b.trans (Eq.trans ?_ ((holds m c).sn R C)))
  exact congrFun (out_14 c _ _ _ _ _ _ _ _ _ _ _ _ _ _ _ _ _ _ _ _ _ _ _ _ _ _ _ _ _ _ _ _ _ _ _ _ _ _ _ _ _ _) (ix2 R C)

end Cert.Proof.Reference
-- ==== Proof.Equation.lean ====
/-
  The equation: the numbers the kernel makes of one step's block are the reference's numbers at the block's columns.
-/
module

public import proofs.«01_k».proof.Proof.KernelIdeal.Block
public import proofs.«01_k».proof.Proof.Reference.Full

@[expose] public section

set_option maxRecDepth 16384
set_option maxHeartbeats 4000000

noncomputable section

namespace Cert.Proof.Equation

open Idealize.ShloMosaic
open Cert.Proof.Scal Cert.Proof.KernelIdeal Cert.Proof.Reference

/-- Block `B` holds the columns `cw` of the arrays `A`, and its groups are the groups `pc`. -/
structure Same (B : Blk) (A : Full) (u : Nat) (cw : Fin 256 → Fin 18944) (pc : Fin 2 → Fin 148) : Prop where
  hcw : ∀ C, (cw C).val = 256 * u + C.val
  hpc : ∀ j, (pc j).val = 2 * u + j.val
  hX : ∀ R k, B.X R k = A.X k R * (A.XS k * A.DS k)
  hD : ∀ k C, B.D k C = A.D k (cw C)
  hW : ∀ R C, B.W R C = A.W R (cw C)
  hM : ∀ R C, B.M R C = A.M R (cw C)
  hS : ∀ R C, B.S R C = A.S R (cw C)
  hMU : ∀ R j, B.MU R j = A.MU R (pc j) * ((9 : ℝ) : EReal)
  hSU : ∀ R j, B.SU R j = A.SU R (pc j)
  hgain : B.gain = Ideal.div (Ideal.div ((-1 / 10000 : ℝ) : EReal) (1 - Ideal.exp ((A.t : EReal) * Ideal.log ((9 / 10 : ℝ) : EReal))))
          (((Real.sqrt (1 / 1000) : ℝ) : EReal) * Ideal.rsqrt (1 - Ideal.exp ((A.t : EReal) * Ideal.log ((16760439 / 16777216 : ℝ) : EReal))))
  hguard : B.guard = Ideal.div ((1 / 100000000 : ℝ) : EReal)
          (((Real.sqrt (1 / 1000) : ℝ) : EReal) * Ideal.rsqrt (1 - Ideal.exp ((A.t : EReal) * Ideal.log ((16760439 / 16777216 : ℝ) : EReal))))
  ht : 1 ≤ A.t

variable {B : Blk} {A : Full} {u : Nat} {cw : Fin 256 → Fin 18944} {pc : Fin 2 → Fin 148} (h : Same B A u cw pc) (R : Fin 3584) (C : Fin 256)

theorem col_half (C : Fin 256) : col (halfOf C) ⟨C.val % 128, by omega⟩ = C :=
  Fin.ext (by show 128 * (C.val / 128) + C.val % 128 = C.val; omega)

namespace Same
include h

theorem grp_cw : grp (cw C) = pc (halfOf C) :=
  Fin.ext (by show (cw C).val / 128 = (pc (halfOf C)).val; rw [h.hcw, h.hpc]; show (256 * u + C.val) / 128 = 2 * u + C.val / 128; omega)

theorem lane_pc (j : Fin 2) (l : Fin 128) : lane (pc j) l = cw (col j l) :=
  Fin.ext (by show (pc j).val * 128 + l.val = (cw (col j l)).val; rw [h.hcw, h.hpc]; show (2 * u + j.val) * 128 + l.val = 256 * u + (128 * j.val + l.val); omega)

theorem g : B.g R C = A.g R (cw C) := by
  unfold Blk.g Full.g
  rw [← product]
  exact Finset.sum_congr rfl fun k _ => by rw [h.hX, h.hD]

theorem mo : A.mo R (cw C) = ((1 / 10 : ℝ) : EReal) * B.mm R C := by
  unfold Full.mo Blk.mm mmE
  rw [h.g, h.hM, h.hMU, h.grp_cw, moment1]

theorem vo : A.vo R (cw C) = ((1 / 1000 : ℝ) : EReal) * vvE (B.S R C * B.SU R (halfOf C)) (B.g R C) := by
  unfold Full.vo vvE
  rw [h.g, h.hS, h.hSU, h.grp_cw, moment2]

omit h in
theorem vv_nonneg : 0 ≤ vvE (B.S R C * B.SU R (halfOf C)) (B.g R C) := moment2_nonneg _ _

theorem root_vo : root (A.vo R (cw C)) = ((Real.sqrt (1 / 1000) : ℝ) : EReal) * B.ss R C := by
  rw [h.vo, root_scale (by norm_num) (vv_nonneg R C)]
  unfold Blk.ss
  rw [ssE_eq_root (vv_nonneg R C)]

omit h in
theorem ss_nonneg : 0 ≤ B.ss R C := by
  unfold Blk.ss; rw [ssE_eq_root (vv_nonneg R C)]; exact root_nonneg (vv_nonneg R C)

theorem upd : B.upd R C = A.upd R (cw C) := by
  obtain ⟨b1, h1, e1, p1⟩ := correction (b := 9 / 10) (by norm_num) (by norm_num) h.ht
  obtain ⟨b2, h2, e2, p2⟩ := correction (b := 16760439 / 16777216) (by norm_num) (by norm_num) h.ht
  unfold Blk.upd Full.upd
  rw [h.hgain, h.hguard, h.mo, h.vo, p1, p2, e1, e2]
  unfold Blk.ss
  exact update _ _ (vv_nonneg R C) h1 h2

theorem wn : B.wn R C = A.wn R (cw C) := by
  unfold Blk.wn Full.wn; rw [h.hW, h.upd]

theorem am (j : Fin 2) : A.am R (pc j) = ((1 / 10 : ℝ) : EReal) * top fun l => mag (B.mm R (col j l)) := by
  unfold Full.am
  rw [← scale_top (by norm_num)]
  exact congrArg top (funext fun l => by rw [h.lane_pc, h.mo, scale_mag (by norm_num)])

theorem az (j : Fin 2) : A.az R (pc j) = ((Real.sqrt (1 / 1000) : ℝ) : EReal) * top fun l => B.ss R (col j l) := by
  unfold Full.az
  rw [← scale_top (Real.sqrt_pos.2 (by norm_num))]
  exact congrArg top (funext fun l => by rw [h.lane_pc, h.root_vo, scale_mag (Real.sqrt_nonneg _), mag_of_nonneg (ss_nonneg R _)])

theorem tm (j : Fin 2) : A.am R (pc j) * ((1 / 448 : ℝ) : EReal) = B.tm R j := by
  rw [h.am]; unfold Blk.tm
  rw [show ((1 / 4480 : ℝ) : EReal) = ((1 / 10 : ℝ) : EReal) * ((1 / 448 : ℝ) : EReal) by rw [← EReal.coe_mul]; norm_num]
  ac_rfl

theorem ts (j : Fin 2) : A.az R (pc j) * ((1 / 448 : ℝ) : EReal) = B.ts R j := by
  rw [h.az]; unfold Blk.ts
  rw [EReal.coe_mul]
  ac_rfl

omit h in
theorem zero_of_scaled {c : ℝ} (hc : 0 < c) {x : EReal} (hx : (c : EReal) * x = 0) : x = 0 := by
  rcases mul_eq_zero.1 hx with h | h
  · exact absurd (by exact_mod_cast h) hc.ne'
  · exact h

theorem mn : B.mn R C = A.mn R (cw C) := by
  unfold Blk.mn Full.mn
  rw [h.grp_cw, h.tm, h.mo]
  refine code _ _ _ fun ha => ?_
  rw [h.am] at ha
  have h0 := zero_of_scaled (by norm_num) ha
  have h1 := le_top_of (fun l => mag (B.mm R (col (halfOf C) l))) ⟨C.val % 128, by omega⟩
  rw [h0] at h1
  have h2 := eq_zero_of_mag h1
  rwa [col_half] at h2

theorem sn : B.sn R C = A.sn R (cw C) := by
  unfold Blk.sn Full.sn
  rw [h.grp_cw, h.ts, h.root_vo]
  refine code _ _ _ fun ha => ?_
  rw [h.az] at ha
  have h0 := zero_of_scaled (Real.sqrt_pos.2 (by norm_num)) ha
  have h1 := le_top_of (fun l => B.ss R (col (halfOf C) l)) ⟨C.val % 128, by omega⟩
  rw [h0] at h1
  have h2 : B.ss R (col (halfOf C) ⟨C.val % 128, by omega⟩) ≤ 0 := h1
  rw [col_half] at h2
  exact le_antisymm h2 (ss_nonneg R C)

end Same
end Cert.Proof.Equation
-- ==== Proof.Entries.lean ====
/-
  Kernel and reference start from the same numbers: the arrays each call is given, read off the same arguments.
-/
module

public import proofs.«01_k».proof.Proof.KernelIdeal.Steps
public import proofs.«01_k».proof.Proof.Reference.Values
public import proofs.«01_k».proof.Proof.Equation
public import Idealize.ShloMosaic.Lib.Claim
public import Idealize.ShloMosaic.Lib.ReduceAll
public import proofs.«01_k».proof.Proof.Gen.Pre_usable
public import proofs.«01_k».proof.Defs

@[expose] public section

set_option maxRecDepth 16384
set_option maxHeartbeats 4000000

noncomputable section

namespace Cert.Proof.Entries

open Idealize.ShloMosaic Idealize.ShloMosaic.TcCoe Idealize.ShloMosaic.Tactic Idealize.SL.Sem
open Cert.Proof.Scal

/-- A scale of token row `k` lies at row `k / 256`, column `k % 256` of the scale array. -/
theorem cast_scale (x : Vec Ideal Cert.ReferenceIdeal.S6x256 .f32) (h : Cert.ReferenceIdeal.S6x256.ShapeCasts Cert.ReferenceIdeal.S1536x1) (k : Fin 1536) :
    shapeCast Cert.ReferenceIdeal.S1536x1 x h (ix2 k (0 : Fin 1)) = x (ix2 (⟨k.val / 256, by omega⟩ : Fin 6) (⟨k.val % 256, by omega⟩ : Fin 256)) := by
  pointwise

section kernel
open Cert.KernelIdeal Cert.KernelIdeal.Gen
variable (m : (a : Loc nD τ sig) → Buf (Elt Ideal) a) (c : Dev nD)

theorem k0 (h : S_.ShapeCasts S1) : V m c (Pipeline.arrRef spec0 0) = shapeCast S1 (m ((c.tc : Thread nD τ).loc main_arg9) : Vec Ideal S_ .i32) h := by
  show V m c main_v2 = _
  entry_read
  rfl
theorem k1 (h : S6x256x3584.ShapeCasts S1536x3584) : V m c (Pipeline.arrRef spec0 1) = shapeCast S1536x3584 (m ((c.tc : Thread nD τ).loc main_arg0) : Vec Ideal S6x256x3584 .fp8e4m3) h := by
  show V m c main_v0 = _
  entry_read
  rfl
theorem k4 (h : S6x256x18944.ShapeCasts S1536x18944) : V m c (Pipeline.arrRef spec0 4) = shapeCast S1536x18944 (m ((c.tc : Thread nD τ).loc main_arg2) : Vec Ideal S6x256x18944 .fp8e5m2) h := by
  show V m c main_v1 = _
  entry_read
  rfl
end kernel

section reference
open Cert.ReferenceIdeal Cert.ReferenceIdeal.Gen
variable (m : (a : Loc nD τ sig) → Buf (Elt Ideal) a) (c : Dev nD)

theorem r0 (h : S_.ShapeCasts S1) : V m c (Pipeline.arrRef spec0 0) = shapeCast S1 (m ((c.tc : Thread nD τ).loc main_arg9) : Vec Ideal S_ .i32) h := by
  show V m c main_v0 = _
  entry_read
  rfl
theorem r1 (h : S6x256x3584.ShapeCasts S1536x3584) : V m c (Pipeline.arrRef spec0 1) = shapeCast S1536x3584 (m ((c.tc : Thread nD τ).loc main_arg0) : Vec Ideal S6x256x3584 .fp8e4m3) h := by
  show V m c main_v1 = _
  entry_read
  rfl
theorem r2 (h : S6x256.ShapeCasts S1536x1) : V m c (Pipeline.arrRef spec0 2) = shapeCast S1536x1 (m ((c.tc : Thread nD τ).loc main_arg1) : Vec Ideal S6x256 .f32) h := by
  show V m c main_v2 = _
  entry_read
  rfl
theorem r3 (h : S6x256x18944.ShapeCasts S1536x18944) : V m c (Pipeline.arrRef spec0 3) = shapeCast S1536x18944 (m ((c.tc : Thread nD τ).loc main_arg2) : Vec Ideal S6x256x18944 .fp8e5m2) h := by
  show V m c main_v3 = _
  entry_read
  rfl
theorem r4 (h : S6x256.ShapeCasts S1536x1) : V m c (Pipeline.arrRef spec0 4) = shapeCast S1536x1 (m ((c.tc : Thread nD τ).loc main_arg3) : Vec Ideal S6x256 .f32) h := by
  show V m c main_v4 = _
  entry_read
  rfl
end reference

/-- The precondition, read: every scale is at least 0 and the step is at least 1. -/
theorem usable (a0 a1 a2 a3 a4 a5) (ms : Vec Ideal Cert.Pre_usable.S3584x148 .f32) (a7) (ss : Vec Ideal Cert.Pre_usable.S3584x148 .f32) (st : Vec Ideal Cert.Pre_usable.S_ .i32)
    (h : Cert.Pre_usable.fn (F := Ideal) a0 a1 a2 a3 a4 a5 ms a7 ss st = fun _ => 1#1) :
    (∀ i, 0 ≤ ms i) ∧ (∀ i, 0 ≤ ss i) ∧ ∀ i, 1 ≤ (st i : BitVec 32).toInt := by
  have h0 : ∀ i, Cert.Pre_usable.fn (F := Ideal) a0 a1 a2 a3 a4 a5 ms a7 ss st i = 1#1 := fun i => congrFun h i
  have : Subsingleton Cert.Pre_usable.S_.Idx := ⟨fun a b => funext fun (z : Fin 0) => z.elim0⟩
  unfold Cert.Pre_usable.fn at h0
  dsimp only at h0
  refine ⟨fun i => ?_, fun i => ?_, fun i => ?_⟩
  · have h1 := (IntOp.andi_eq_one.1 (IntOp.andi_eq_one.1 (h0 (fun z => z.elim0))).1).1
    have h2 := Host.reduce_andi_all _ _ _ _ _ h1 i
    have h3 : Ideal.ofBits .f32 0x00000000#32 ≤ ms i := (Ideal.cmp_oge_eq_one _ _).1 h2
    rwa [Ideal.ofBits_zero_f32] at h3
  · have h1 := (IntOp.andi_eq_one.1 (IntOp.andi_eq_one.1 (h0 (fun z => z.elim0))).1).2
    have h2 := Host.reduce_andi_all _ _ _ _ _ h1 i
    have h3 : Ideal.ofBits .f32 0x00000000#32 ≤ ss i := (Ideal.cmp_oge_eq_one _ _).1 h2
    rwa [Ideal.ofBits_zero_f32] at h3
  · have h1 := (IntOp.andi_eq_one.1 (h0 i)).2
    exact IntOp.cmpi_sge.1 h1

end Cert.Proof.Entries
-- ==== Proof.Values.lean ====
/-
  The two programs leave the same numbers in the four results.
-/
module

public import proofs.«01_k».proof.Proof.KernelIdeal.Arrays
public import proofs.«01_k».proof.Proof.Entries

@[expose] public section

set_option maxRecDepth 16384
set_option maxHeartbeats 4000000

noncomputable section

namespace Cert.Proof.Values

open Idealize.ShloMosaic Idealize.ShloMosaic.TcCoe Idealize.ShloMosaic.Tactic Idealize.SL.Sem
open Cert.Proof.Scal Cert.Proof.Entries

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arguments. -/
def SameArgs (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

variable {m m'}

/-- The arrays the reference is given hold, at the columns of a step, what the kernel's step works from. -/
theorem same (hp : Pre_KernelIdeal_usable m) (c : Dev Cert.KernelIdeal.nD) (h : SameArgs m m' c) (t : Fin Cert.KernelIdeal.cfg0.N) :
    Cert.Proof.Equation.Same (Cert.Proof.KernelIdeal.blkAt m c t) (Cert.Proof.Reference.full m' c) t.val (Cert.Proof.KernelIdeal.wide t) (Cert.Proof.KernelIdeal.pairCol t) := by
  obtain ⟨h0, h1, h2, h3, h4, h5, h6, h7, h8, h9⟩ := h
  have hs : Cert.Proof.KernelIdeal.stepAt m c = (Cert.ReferenceIdeal.Gen.V m' c (Pipeline.arrRef Cert.ReferenceIdeal.spec0 0) (ix1 (0 : Fin 1)) : BitVec 32) := by
    unfold Cert.Proof.KernelIdeal.stepAt
    rw [k0 m c Cert.KernelIdeal.Gen.shapeCasts_S_S1, r0 m' c Cert.KernelIdeal.Gen.shapeCasts_S_S1, h9]
  have ht : (Cert.Proof.Reference.full m' c).t = ((Cert.Proof.KernelIdeal.stepAt m c).toInt : ℝ) := by rw [hs]; rfl
  refine ⟨fun _ => rfl, fun _ => rfl, fun R k => ?_, fun k C => ?_, fun R C => ?_, fun R C => ?_, fun R C => ?_, fun R j => ?_, fun R j => ?_, ?_, ?_, ?_⟩
  · have e1 : (Cert.KernelIdeal.Gen.V m c (Pipeline.arrRef Cert.KernelIdeal.spec0 1) : Vec Ideal Cert.KernelIdeal.S1536x3584 .fp8e4m3) = (Cert.ReferenceIdeal.Gen.V m' c (Pipeline.arrRef Cert.ReferenceIdeal.spec0 1) : Vec Ideal Cert.KernelIdeal.S1536x3584 .fp8e4m3) := by
      rw [k1 m c Cert.KernelIdeal.Gen.shapeCasts_S6x256x3584_S1536x3584, r1 m' c Cert.KernelIdeal.Gen.shapeCasts_S6x256x3584_S1536x3584, h0]
    have e2 : (Cert.KernelIdeal.Gen.V m c (Pipeline.arrRef Cert.KernelIdeal.spec0 2) : Vec Ideal Cert.KernelIdeal.S6x256 .f32) (ix2 (⟨k.val / 256, by omega⟩ : Fin 6) (⟨k.val % 256, by omega⟩ : Fin 256)) = (Cert.ReferenceIdeal.Gen.V m' c (Pipeline.arrRef Cert.ReferenceIdeal.spec0 2) : Vec Ideal Cert.ReferenceIdeal.S1536x1 .f32) (ix2 k (0 : Fin 1)) := by
      rw [r2 m' c Cert.ReferenceIdeal.Gen.shapeCasts_S6x256_S1536x1, cast_scale, h1]
      exact congrFun (Cert.KernelIdeal.Gen.V_main_arg1 m c) _
    have e4 : (Cert.KernelIdeal.Gen.V m c (Pipeline.arrRef Cert.KernelIdeal.spec0 3) : Vec Ideal Cert.KernelIdeal.S6x256 .f32) (ix2 (⟨k.val / 256, by omega⟩ : Fin 6) (⟨k.val % 256, by omega⟩ : Fin 256)) = (Cert.ReferenceIdeal.Gen.V m' c (Pipeline.arrRef Cert.ReferenceIdeal.spec0 4) : Vec Ideal Cert.ReferenceIdeal.S1536x1 .f32) (ix2 k (0 : Fin 1)) := by
      rw [r4 m' c Cert.ReferenceIdeal.Gen.shapeCasts_S6x256_S1536x1, cast_scale, h3]
      exact congrFun (Cert.KernelIdeal.Gen.V_main_arg3 m c) _
    exact congrArg₂ (fun a b : EReal => a * b) (congrFun e1 (ix2 k R)) (congrArg₂ (fun a b : EReal => a * b) e2 e4)
  · have e3 : (Cert.KernelIdeal.Gen.V m c (Pipeline.arrRef Cert.KernelIdeal.spec0 4) : Vec Ideal Cert.KernelIdeal.S1536x18944 .fp8e5m2) = (Cert.ReferenceIdeal.Gen.V m' c (Pipeline.arrRef Cert.ReferenceIdeal.spec0 3) : Vec Ideal Cert.KernelIdeal.S1536x18944 .fp8e5m2) := by
      rw [k4 m c Cert.KernelIdeal.Gen.shapeCasts_S6x256x18944_S1536x18944, r3 m' c Cert.KernelIdeal.Gen.shapeCasts_S6x256x18944_S1536x18944, h2]
    exact congrFun e3 (ix2 k (Cert.Proof.KernelIdeal.wide t C))
  · exact congrFun (((Cert.KernelIdeal.Gen.V_main_arg4 m c).trans h4.symm).trans (Cert.ReferenceIdeal.Gen.V_main_arg4 m' c).symm) _
  · exact congrFun (((Cert.KernelIdeal.Gen.V_main_arg5 m c).trans h5.symm).trans (Cert.ReferenceIdeal.Gen.V_main_arg5 m' c).symm) _
  · exact congrFun (((Cert.KernelIdeal.Gen.V_main_arg7 m c).trans h7.symm).trans (Cert.ReferenceIdeal.Gen.V_main_arg7 m' c).symm) _
  · exact congrArg (fun z : EReal => z * ((9 : ℝ) : EReal)) (congrFun (((Cert.KernelIdeal.Gen.V_main_arg6 m c).trans h6.symm).trans (Cert.ReferenceIdeal.Gen.V_main_arg6 m' c).symm) _)
  · exact congrFun (((Cert.KernelIdeal.Gen.V_main_arg8 m c).trans h8.symm).trans (Cert.ReferenceIdeal.Gen.V_main_arg8 m' c).symm) _
  · rw [ht]; exact Cert.Proof.KernelIdeal.gain_at _ _ _
  · rw [ht]; exact Cert.Proof.KernelIdeal.guard_at _ _ _
  · have h1 := (usable _ _ _ _ _ _ _ _ _ _ (hp c)).2.2
    have h2 : 1 ≤ (Cert.Proof.KernelIdeal.stepAt m c).toInt := by
      unfold Cert.Proof.KernelIdeal.stepAt
      rw [k0 m c Cert.KernelIdeal.Gen.shapeCasts_S_S1]
      exact h1 _
    rw [ht]
    exact_mod_cast h2

/-- Every column lies in one step's block, so an array known at every block's columns is known. -/
theorem spread (f : Cert.KernelIdeal.S3584x18944.Idx → EReal) (G : Fin 3584 → Fin 18944 → EReal)
    (h : ∀ t R C, f (ix2 R (Cert.Proof.KernelIdeal.wide t C)) = G R (Cert.Proof.KernelIdeal.wide t C)) : f = fun i => G (i 0) (i 1) := by
  funext i
  have hi : (i 1).val < 18944 := (i 1).isLt
  have hw : Cert.Proof.KernelIdeal.wide ⟨(i 1).val / 256, by show _ < 74; omega⟩ ⟨(i 1).val % 256, by omega⟩ = i 1 :=
    Fin.ext (by show 256 * ((i 1).val / 256) + (i 1).val % 256 = (i 1).val; omega)
  have h1 := h ⟨(i 1).val / 256, by show _ < 74; omega⟩ (i 0) ⟨(i 1).val % 256, by omega⟩
  rw [hw] at h1
  exact (congrArg f (eq_ix2 i)).trans h1

/-- From the same arguments the kernel and the reference leave the same four results. -/
theorem algebraic : algebraic_KernelIdeal_ReferenceIdeal_pre_usable := by
  intro m g m' g' hp hargs
  have hm0 : ∀ c R q, 0 ≤ Cert.Proof.KernelIdeal.muAt m c R q := fun c R q =>
    le_of_le_of_eq ((usable _ _ _ _ _ _ _ _ _ _ (hp c)).1 (ix2 R q)) (congrFun (Cert.KernelIdeal.Gen.V_main_arg6 m c).symm _)
  have hs0 : ∀ c R q, 0 ≤ Cert.Proof.KernelIdeal.suAt m c R q := fun c R q =>
    le_of_le_of_eq ((usable _ _ _ _ _ _ _ _ _ _ (hp c)).2.1 (ix2 R q)) (congrFun (Cert.KernelIdeal.Gen.V_main_arg8 m c).symm _)
  refine ⟨fun c (i : Cert.KernelIdeal.S3584x18944.Idx) => (Cert.Proof.Reference.full m' c).wn (i 0) (i 1),
    fun c (i : Cert.KernelIdeal.S3584x18944.Idx) => (Cert.Proof.Reference.full m' c).upd (i 0) (i 1),
    fun c (i : Cert.KernelIdeal.S3584x18944.Idx) => (Cert.Proof.Reference.full m' c).mn (i 0) (i 1),
    fun c (i : Cert.KernelIdeal.S3584x18944.Idx) => (Cert.Proof.Reference.full m' c).sn (i 0) (i 1), ?_, ?_⟩
  · refine (θ_run Cert.KernelIdeal.defs _ _).mono (fun r h c => ?_) (Cert.Proof.KernelIdeal.run_values m hm0 hs0 g)
    obtain ⟨e0, e1, e2, e3, ha⟩ := h c
    exact ⟨spread _ _ fun t R C => (e0 t R C).trans ((same hp c (hargs c) t).wn R C),
      spread _ _ fun t R C => (e1 t R C).trans ((same hp c (hargs c) t).upd R C),
      spread _ _ fun t R C => (e2 t R C).trans ((same hp c (hargs c) t).mn R C),
      spread _ _ fun t R C => (e3 t R C).trans ((same hp c (hargs c) t).sn R C), ha⟩
  · refine (θ_run Cert.ReferenceIdeal.defs _ _).mono (fun r h c => ?_) (Cert.ReferenceIdeal.Value.run_blocks m' g')
    obtain ⟨e0, e1, e2, _, e3, _, ha⟩ := h c
    exact ⟨e0.trans (funext fun (i : Cert.KernelIdeal.S3584x18944.Idx) => (congrArg _ (eq_ix2 i)).trans (Cert.Proof.Reference.final_10 m' c (i 0) (i 1))),
      e1.trans (funext fun (i : Cert.KernelIdeal.S3584x18944.Idx) => (congrArg _ (eq_ix2 i)).trans (Cert.Proof.Reference.final_11 m' c (i 0) (i 1))),
      e2.trans (funext fun (i : Cert.KernelIdeal.S3584x18944.Idx) => (congrArg _ (eq_ix2 i)).trans (Cert.Proof.Reference.final_12 m' c (i 0) (i 1))),
      e3.trans (funext fun (i : Cert.KernelIdeal.S3584x18944.Idx) => (congrArg _ (eq_ix2 i)).trans (Cert.Proof.Reference.final_14 m' c (i 0) (i 1))), ha⟩

end Cert.Proof.Values
-- ==== Proof.lean ====
/-
  The proof of `Cert.Claim`: the frames of the kernel, of the kernel read over the extended reals and of the reference,
  that naming the constants is the only change between the first two, and that the last two leave the same results.
-/
module

public import proofs.«01_k».proof.Defs
public import proofs.«01_k».proof.Proof.Kernel.FrameMain
public import proofs.«01_k».proof.Proof.KernelIdeal.FrameMain
public import proofs.«01_k».proof.Proof.Gen.ReferenceIdeal.Frame
public import proofs.«01_k».proof.Proof.Gen.ReferenceIdeal.Value
public import proofs.«01_k».proof.Proof.Gen.Pre_usable
public import proofs.«01_k».proof.Proof.Values

@[expose] public section

noncomputable section

namespace Cert.Proof

open Idealize.ShloMosaic

theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

theorem claim : Cert.Claim :=
  ⟨Cert.Kernel.Gen.facts, Cert.KernelIdeal.Gen.facts, Cert.ReferenceIdeal.Gen.facts, Cert.Pre_usable.Gen.facts,
    fun m ρ _ => Cert.Proof.Kernel.frame_main m ρ, fun m ρ _ => Cert.Proof.KernelIdeal.frame_main m ρ,
    fun m ρ _ => Cert.Proof.KernelIdeal.frame_main m ρ, fun m ρ _ => Cert.ReferenceIdeal.Gen.frame m ρ,
    fun m ρ _ => Cert.ReferenceIdeal.Gen.frame m ρ, preserves, Cert.Proof.Values.algebraic⟩

end Cert.Proof
